-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelFfnA (m : (ℓ : Loc Cert.KernelFfnA.nD Cert.KernelFfnA.τ Cert.KernelFfnA.sig) → Buf (Elt Bits) ℓ) : Prop :=
  True

def Pre_KernelFfnAIdeal (m : (ℓ : Loc Cert.KernelFfnAIdeal.nD Cert.KernelFfnAIdeal.τ Cert.KernelFfnAIdeal.sig) → Buf (Elt Ideal) ℓ) : Prop :=
  True

def Pre_ReferenceFfnAIdeal (m : (ℓ : Loc Cert.ReferenceFfnAIdeal.nD Cert.ReferenceFfnAIdeal.τ Cert.ReferenceFfnAIdeal.sig) → Buf (Elt Ideal) ℓ) : Prop :=
  True

def Pre_KernelFfnB (m : (ℓ : Loc Cert.KernelFfnB.nD Cert.KernelFfnB.τ Cert.KernelFfnB.sig) → Buf (Elt Bits) ℓ) : Prop :=
  True

def Pre_KernelFfnBIdeal (m : (ℓ : Loc Cert.KernelFfnBIdeal.nD Cert.KernelFfnBIdeal.τ Cert.KernelFfnBIdeal.sig) → Buf (Elt Ideal) ℓ) : Prop :=
  True

def Pre_ReferenceFfnBIdeal (m : (ℓ : Loc Cert.ReferenceFfnBIdeal.nD Cert.ReferenceFfnBIdeal.τ Cert.ReferenceFfnBIdeal.sig) → Buf (Elt Ideal) ℓ) : Prop :=
  True

def Pre_KernelFfnC (m : (ℓ : Loc Cert.KernelFfnC.nD Cert.KernelFfnC.τ Cert.KernelFfnC.sig) → Buf (Elt Bits) ℓ) : Prop :=
  True

def Pre_KernelFfnCIdeal (m : (ℓ : Loc Cert.KernelFfnCIdeal.nD Cert.KernelFfnCIdeal.τ Cert.KernelFfnCIdeal.sig) → Buf (Elt Ideal) ℓ) : Prop :=
  True

def Pre_ReferenceFfnCIdeal (m : (ℓ : Loc Cert.ReferenceFfnCIdeal.nD Cert.ReferenceFfnCIdeal.τ Cert.ReferenceFfnCIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelFfnA [hKernelFfnA : Cert.KernelFfnA.Facts] : Prop :=
  ∀ (m : (ℓ : Loc Cert.KernelFfnA.nD Cert.KernelFfnA.τ Cert.KernelFfnA.sig) → Buf (Elt Bits) ℓ) (g : Dev Cert.KernelFfnA.nD → PrngReg), Pre_KernelFfnA m →
    θ_run (Cert.KernelFfnA.defs (F := Bits)) (onTc (τ := Cert.KernelFfnA.τ) (Cert.KernelFfnA.main (F := Bits))) ⟨m, fun _ => 0, g⟩ (fun r => (∀ c : Dev Cert.KernelFfnA.nD,
      r.2.mem ((c.tc : Thread Cert.KernelFfnA.nD Cert.KernelFfnA.τ).loc Cert.KernelFfnA.main_arg0) = m ((c.tc : Thread Cert.KernelFfnA.nD Cert.KernelFfnA.τ).loc Cert.KernelFfnA.main_arg0)
      ∧ r.2.mem ((c.tc : Thread Cert.KernelFfnA.nD Cert.KernelFfnA.τ).loc Cert.KernelFfnA.main_arg1) = m ((c.tc : Thread Cert.KernelFfnA.nD Cert.KernelFfnA.τ).loc Cert.KernelFfnA.main_arg1)
      ∧ r.2.mem ((c.tc : Thread Cert.KernelFfnA.nD Cert.KernelFfnA.τ).loc Cert.KernelFfnA.main_arg2) = m ((c.tc : Thread Cert.KernelFfnA.nD Cert.KernelFfnA.τ).loc Cert.KernelFfnA.main_arg2)
      ∧ r.2.mem ((c.tc : Thread Cert.KernelFfnA.nD Cert.KernelFfnA.τ).loc Cert.KernelFfnA.main_arg3) = m ((c.tc : Thread Cert.KernelFfnA.nD Cert.KernelFfnA.τ).loc Cert.KernelFfnA.main_arg3)
      ∧ r.2.mem ((c.tc : Thread Cert.KernelFfnA.nD Cert.KernelFfnA.τ).loc Cert.KernelFfnA.main_arg4) = m ((c.tc : Thread Cert.KernelFfnA.nD Cert.KernelFfnA.τ).loc Cert.KernelFfnA.main_arg4)
      ∧ r.2.mem ((c.tc : Thread Cert.KernelFfnA.nD Cert.KernelFfnA.τ).loc Cert.KernelFfnA.main_arg5) = m ((c.tc : Thread Cert.KernelFfnA.nD Cert.KernelFfnA.τ).loc Cert.KernelFfnA.main_arg5)
      ∧ r.2.mem ((c.tc : Thread Cert.KernelFfnA.nD Cert.KernelFfnA.τ).loc Cert.KernelFfnA.main_arg6) = m ((c.tc : Thread Cert.KernelFfnA.nD Cert.KernelFfnA.τ).loc Cert.KernelFfnA.main_arg6)
      ∧ r.2.mem ((c.tc : Thread Cert.KernelFfnA.nD Cert.KernelFfnA.τ).loc Cert.KernelFfnA.main_arg7) = m ((c.tc : Thread Cert.KernelFfnA.nD Cert.KernelFfnA.τ).loc Cert.KernelFfnA.main_arg7)
      ∧ r.2.mem ((c.tc : Thread Cert.KernelFfnA.nD Cert.KernelFfnA.τ).loc Cert.KernelFfnA.main_arg8) = m ((c.tc : Thread Cert.KernelFfnA.nD Cert.KernelFfnA.τ).loc Cert.KernelFfnA.main_arg8))
      ∧ r.2.sem = fun _ => 0)

def quiescent_KernelFfnAIdeal [hKernelFfnAIdeal : Cert.KernelFfnAIdeal.Facts] : Prop :=
  ∀ (m : (ℓ : Loc Cert.KernelFfnAIdeal.nD Cert.KernelFfnAIdeal.τ Cert.KernelFfnAIdeal.sig) → Buf (Elt Ideal) ℓ) (g : Dev Cert.KernelFfnAIdeal.nD → PrngReg), Pre_KernelFfnAIdeal m →
    θ_run (Cert.KernelFfnAIdeal.defs (F := Ideal)) (onTc (τ := Cert.KernelFfnAIdeal.τ) (Cert.KernelFfnAIdeal.main (F := Ideal))) ⟨m, fun _ => 0, g⟩ (fun r => (∀ c : Dev Cert.KernelFfnAIdeal.nD,
      r.2.mem ((c.tc : Thread Cert.KernelFfnAIdeal.nD Cert.KernelFfnAIdeal.τ).loc Cert.KernelFfnAIdeal.main_arg0) = m ((c.tc : Thread Cert.KernelFfnAIdeal.nD Cert.KernelFfnAIdeal.τ).loc Cert.KernelFfnAIdeal.main_arg0)
      ∧ r.2.mem ((c.tc : Thread Cert.KernelFfnAIdeal.nD Cert.KernelFfnAIdeal.τ).loc Cert.KernelFfnAIdeal.main_arg1) = m ((c.tc : Thread Cert.KernelFfnAIdeal.nD Cert.KernelFfnAIdeal.τ).loc Cert.KernelFfnAIdeal.main_arg1)
      ∧ r.2.mem ((c.tc : Thread Cert.KernelFfnAIdeal.nD Cert.KernelFfnAIdeal.τ).loc Cert.KernelFfnAIdeal.main_arg2) = m ((c.tc : Thread Cert.KernelFfnAIdeal.nD Cert.KernelFfnAIdeal.τ).loc Cert.KernelFfnAIdeal.main_arg2)
      ∧ r.2.mem ((c.tc : Thread Cert.KernelFfnAIdeal.nD Cert.KernelFfnAIdeal.τ).loc Cert.KernelFfnAIdeal.main_arg3) = m ((c.tc : Thread Cert.KernelFfnAIdeal.nD Cert.KernelFfnAIdeal.τ).loc Cert.KernelFfnAIdeal.main_arg3)
      ∧ r.2.mem ((c.tc : Thread Cert.KernelFfnAIdeal.nD Cert.KernelFfnAIdeal.τ).loc Cert.KernelFfnAIdeal.main_arg4) = m ((c.tc : Thread Cert.KernelFfnAIdeal.nD Cert.KernelFfnAIdeal.τ).loc Cert.KernelFfnAIdeal.main_arg4)
      ∧ r.2.mem ((c.tc : Thread Cert.KernelFfnAIdeal.nD Cert.KernelFfnAIdeal.τ).loc Cert.KernelFfnAIdeal.main_arg5) = m ((c.tc : Thread Cert.KernelFfnAIdeal.nD Cert.KernelFfnAIdeal.τ).loc Cert.KernelFfnAIdeal.main_arg5)
      ∧ r.2.mem ((c.tc : Thread Cert.KernelFfnAIdeal.nD Cert.KernelFfnAIdeal.τ).loc Cert.KernelFfnAIdeal.main_arg6) = m ((c.tc : Thread Cert.KernelFfnAIdeal.nD Cert.KernelFfnAIdeal.τ).loc Cert.KernelFfnAIdeal.main_arg6)
      ∧ r.2.mem ((c.tc : Thread Cert.KernelFfnAIdeal.nD Cert.KernelFfnAIdeal.τ).loc Cert.KernelFfnAIdeal.main_arg7) = m ((c.tc : Thread Cert.KernelFfnAIdeal.nD Cert.KernelFfnAIdeal.τ).loc Cert.KernelFfnAIdeal.main_arg7)
      ∧ r.2.mem ((c.tc : Thread Cert.KernelFfnAIdeal.nD Cert.KernelFfnAIdeal.τ).loc Cert.KernelFfnAIdeal.main_arg8) = m ((c.tc : Thread Cert.KernelFfnAIdeal.nD Cert.KernelFfnAIdeal.τ).loc Cert.KernelFfnAIdeal.main_arg8))
      ∧ r.2.sem = fun _ => 0)

def quiescent_ReferenceFfnAIdeal [hReferenceFfnAIdeal : Cert.ReferenceFfnAIdeal.Facts] : Prop :=
  ∀ (m : (ℓ : Loc Cert.ReferenceFfnAIdeal.nD Cert.ReferenceFfnAIdeal.τ Cert.ReferenceFfnAIdeal.sig) → Buf (Elt Ideal) ℓ) (g : Dev Cert.ReferenceFfnAIdeal.nD → PrngReg), Pre_ReferenceFfnAIdeal m →
    θ_run (Cert.ReferenceFfnAIdeal.defs (F := Ideal)) (onTc (τ := Cert.ReferenceFfnAIdeal.τ) (Cert.ReferenceFfnAIdeal.main (F := Ideal))) ⟨m, fun _ => 0, g⟩ (fun r => (∀ c : Dev Cert.ReferenceFfnAIdeal.nD,
      r.2.mem ((c.tc : Thread Cert.ReferenceFfnAIdeal.nD Cert.ReferenceFfnAIdeal.τ).loc Cert.ReferenceFfnAIdeal.main_arg0) = m ((c.tc : Thread Cert.ReferenceFfnAIdeal.nD Cert.ReferenceFfnAIdeal.τ).loc Cert.ReferenceFfnAIdeal.main_arg0)
      ∧ r.2.mem ((c.tc : Thread Cert.ReferenceFfnAIdeal.nD Cert.ReferenceFfnAIdeal.τ).loc Cert.ReferenceFfnAIdeal.main_arg1) = m ((c.tc : Thread Cert.ReferenceFfnAIdeal.nD Cert.ReferenceFfnAIdeal.τ).loc Cert.ReferenceFfnAIdeal.main_arg1)
      ∧ r.2.mem ((c.tc : Thread Cert.ReferenceFfnAIdeal.nD Cert.ReferenceFfnAIdeal.τ).loc Cert.ReferenceFfnAIdeal.main_arg2) = m ((c.tc : Thread Cert.ReferenceFfnAIdeal.nD Cert.ReferenceFfnAIdeal.τ).loc Cert.ReferenceFfnAIdeal.main_arg2)
      ∧ r.2.mem ((c.tc : Thread Cert.ReferenceFfnAIdeal.nD Cert.ReferenceFfnAIdeal.τ).loc Cert.ReferenceFfnAIdeal.main_arg3) = m ((c.tc : Thread Cert.ReferenceFfnAIdeal.nD Cert.ReferenceFfnAIdeal.τ).loc Cert.ReferenceFfnAIdeal.main_arg3)
      ∧ r.2.mem ((c.tc : Thread Cert.ReferenceFfnAIdeal.nD Cert.ReferenceFfnAIdeal.τ).loc Cert.ReferenceFfnAIdeal.main_arg4) = m ((c.tc : Thread Cert.ReferenceFfnAIdeal.nD Cert.ReferenceFfnAIdeal.τ).loc Cert.ReferenceFfnAIdeal.main_arg4)
      ∧ r.2.mem ((c.tc : Thread Cert.ReferenceFfnAIdeal.nD Cert.ReferenceFfnAIdeal.τ).loc Cert.ReferenceFfnAIdeal.main_arg5) = m ((c.tc : Thread Cert.ReferenceFfnAIdeal.nD Cert.ReferenceFfnAIdeal.τ).loc Cert.ReferenceFfnAIdeal.main_arg5)
      ∧ r.2.mem ((c.tc : Thread Cert.ReferenceFfnAIdeal.nD Cert.ReferenceFfnAIdeal.τ).loc Cert.ReferenceFfnAIdeal.main_arg6) = m ((c.tc : Thread Cert.ReferenceFfnAIdeal.nD Cert.ReferenceFfnAIdeal.τ).loc Cert.ReferenceFfnAIdeal.main_arg6)
      ∧ r.2.mem ((c.tc : Thread Cert.ReferenceFfnAIdeal.nD Cert.ReferenceFfnAIdeal.τ).loc Cert.ReferenceFfnAIdeal.main_arg7) = m ((c.tc : Thread Cert.ReferenceFfnAIdeal.nD Cert.ReferenceFfnAIdeal.τ).loc Cert.ReferenceFfnAIdeal.main_arg7)
      ∧ r.2.mem ((c.tc : Thread Cert.ReferenceFfnAIdeal.nD Cert.ReferenceFfnAIdeal.τ).loc Cert.ReferenceFfnAIdeal.main_arg8) = m ((c.tc : Thread Cert.ReferenceFfnAIdeal.nD Cert.ReferenceFfnAIdeal.τ).loc Cert.ReferenceFfnAIdeal.main_arg8))
      ∧ r.2.sem = fun _ => 0)

def quiescent_KernelFfnB [hKernelFfnB : Cert.KernelFfnB.Facts] : Prop :=
  ∀ (m : (ℓ : Loc Cert.KernelFfnB.nD Cert.KernelFfnB.τ Cert.KernelFfnB.sig) → Buf (Elt Bits) ℓ) (g : Dev Cert.KernelFfnB.nD → PrngReg), Pre_KernelFfnB m →
    θ_run (Cert.KernelFfnB.defs (F := Bits)) (onTc (τ := Cert.KernelFfnB.τ) (Cert.KernelFfnB.main (F := Bits))) ⟨m, fun _ => 0, g⟩ (fun r => (∀ c : Dev Cert.KernelFfnB.nD,
      r.2.mem ((c.tc : Thread Cert.KernelFfnB.nD Cert.KernelFfnB.τ).loc Cert.KernelFfnB.main_arg0) = m ((c.tc : Thread Cert.KernelFfnB.nD Cert.KernelFfnB.τ).loc Cert.KernelFfnB.main_arg0)
      ∧ r.2.mem ((c.tc : Thread Cert.KernelFfnB.nD Cert.KernelFfnB.τ).loc Cert.KernelFfnB.main_arg1) = m ((c.tc : Thread Cert.KernelFfnB.nD Cert.KernelFfnB.τ).loc Cert.KernelFfnB.main_arg1)
      ∧ r.2.mem ((c.tc : Thread Cert.KernelFfnB.nD Cert.KernelFfnB.τ).loc Cert.KernelFfnB.main_arg2) = m ((c.tc : Thread Cert.KernelFfnB.nD Cert.KernelFfnB.τ).loc Cert.KernelFfnB.main_arg2)
      ∧ r.2.mem ((c.tc : Thread Cert.KernelFfnB.nD Cert.KernelFfnB.τ).loc Cert.KernelFfnB.main_arg3) = m ((c.tc : Thread Cert.KernelFfnB.nD Cert.KernelFfnB.τ).loc Cert.KernelFfnB.main_arg3)
      ∧ r.2.mem ((c.tc : Thread Cert.KernelFfnB.nD Cert.KernelFfnB.τ).loc Cert.KernelFfnB.main_arg4) = m ((c.tc : Thread Cert.KernelFfnB.nD Cert.KernelFfnB.τ).loc Cert.KernelFfnB.main_arg4)
      ∧ r.2.mem ((c.tc : Thread Cert.KernelFfnB.nD Cert.KernelFfnB.τ).loc Cert.KernelFfnB.main_arg5) = m ((c.tc : Thread Cert.KernelFfnB.nD Cert.KernelFfnB.τ).loc Cert.KernelFfnB.main_arg5)
      ∧ r.2.mem ((c.tc : Thread Cert.KernelFfnB.nD Cert.KernelFfnB.τ).loc Cert.KernelFfnB.main_arg6) = m ((c.tc : Thread Cert.KernelFfnB.nD Cert.KernelFfnB.τ).loc Cert.KernelFfnB.main_arg6))
      ∧ r.2.sem = fun _ => 0)

def quiescent_KernelFfnBIdeal [hKernelFfnBIdeal : Cert.KernelFfnBIdeal.Facts] : Prop :=
  ∀ (m : (ℓ : Loc Cert.KernelFfnBIdeal.nD Cert.KernelFfnBIdeal.τ Cert.KernelFfnBIdeal.sig) → Buf (Elt Ideal) ℓ) (g : Dev Cert.KernelFfnBIdeal.nD → PrngReg), Pre_KernelFfnBIdeal m →
    θ_run (Cert.KernelFfnBIdeal.defs (F := Ideal)) (onTc (τ := Cert.KernelFfnBIdeal.τ) (Cert.KernelFfnBIdeal.main (F := Ideal))) ⟨m, fun _ => 0, g⟩ (fun r => (∀ c : Dev Cert.KernelFfnBIdeal.nD,
      r.2.mem ((c.tc : Thread Cert.KernelFfnBIdeal.nD Cert.KernelFfnBIdeal.τ).loc Cert.KernelFfnBIdeal.main_arg0) = m ((c.tc : Thread Cert.KernelFfnBIdeal.nD Cert.KernelFfnBIdeal.τ).loc Cert.KernelFfnBIdeal.main_arg0)
      ∧ r.2.mem ((c.tc : Thread Cert.KernelFfnBIdeal.nD Cert.KernelFfnBIdeal.τ).loc Cert.KernelFfnBIdeal.main_arg1) = m ((c.tc : Thread Cert.KernelFfnBIdeal.nD Cert.KernelFfnBIdeal.τ).loc Cert.KernelFfnBIdeal.main_arg1)
      ∧ r.2.mem ((c.tc : Thread Cert.KernelFfnBIdeal.nD Cert.KernelFfnBIdeal.τ).loc Cert.KernelFfnBIdeal.main_arg2) = m ((c.tc : Thread Cert.KernelFfnBIdeal.nD Cert.KernelFfnBIdeal.τ).loc Cert.KernelFfnBIdeal.main_arg2)
      ∧ r.2.mem ((c.tc : Thread Cert.KernelFfnBIdeal.nD Cert.KernelFfnBIdeal.τ).loc Cert.KernelFfnBIdeal.main_arg3) = m ((c.tc : Thread Cert.KernelFfnBIdeal.nD Cert.KernelFfnBIdeal.τ).loc Cert.KernelFfnBIdeal.main_arg3)
      ∧ r.2.mem ((c.tc : Thread Cert.KernelFfnBIdeal.nD Cert.KernelFfnBIdeal.τ).loc Cert.KernelFfnBIdeal.main_arg4) = m ((c.tc : Thread Cert.KernelFfnBIdeal.nD Cert.KernelFfnBIdeal.τ).loc Cert.KernelFfnBIdeal.main_arg4)
      ∧ r.2.mem ((c.tc : Thread Cert.KernelFfnBIdeal.nD Cert.KernelFfnBIdeal.τ).loc Cert.KernelFfnBIdeal.main_arg5) = m ((c.tc : Thread Cert.KernelFfnBIdeal.nD Cert.KernelFfnBIdeal.τ).loc Cert.KernelFfnBIdeal.main_arg5)
      ∧ r.2.mem ((c.tc : Thread Cert.KernelFfnBIdeal.nD Cert.KernelFfnBIdeal.τ).loc Cert.KernelFfnBIdeal.main_arg6) = m ((c.tc : Thread Cert.KernelFfnBIdeal.nD Cert.KernelFfnBIdeal.τ).loc Cert.KernelFfnBIdeal.main_arg6))
      ∧ r.2.sem = fun _ => 0)

def quiescent_ReferenceFfnBIdeal [hReferenceFfnBIdeal : Cert.ReferenceFfnBIdeal.Facts] : Prop :=
  ∀ (m : (ℓ : Loc Cert.ReferenceFfnBIdeal.nD Cert.ReferenceFfnBIdeal.τ Cert.ReferenceFfnBIdeal.sig) → Buf (Elt Ideal) ℓ) (g : Dev Cert.ReferenceFfnBIdeal.nD → PrngReg), Pre_ReferenceFfnBIdeal m →
    θ_run (Cert.ReferenceFfnBIdeal.defs (F := Ideal)) (onTc (τ := Cert.ReferenceFfnBIdeal.τ) (Cert.ReferenceFfnBIdeal.main (F := Ideal))) ⟨m, fun _ => 0, g⟩ (fun r => (∀ c : Dev Cert.ReferenceFfnBIdeal.nD,
      r.2.mem ((c.tc : Thread Cert.ReferenceFfnBIdeal.nD Cert.ReferenceFfnBIdeal.τ).loc Cert.ReferenceFfnBIdeal.main_arg0) = m ((c.tc : Thread Cert.ReferenceFfnBIdeal.nD Cert.ReferenceFfnBIdeal.τ).loc Cert.ReferenceFfnBIdeal.main_arg0)
      ∧ r.2.mem ((c.tc : Thread Cert.ReferenceFfnBIdeal.nD Cert.ReferenceFfnBIdeal.τ).loc Cert.ReferenceFfnBIdeal.main_arg1) = m ((c.tc : Thread Cert.ReferenceFfnBIdeal.nD Cert.ReferenceFfnBIdeal.τ).loc Cert.ReferenceFfnBIdeal.main_arg1)
      ∧ r.2.mem ((c.tc : Thread Cert.ReferenceFfnBIdeal.nD Cert.ReferenceFfnBIdeal.τ).loc Cert.ReferenceFfnBIdeal.main_arg2) = m ((c.tc : Thread Cert.ReferenceFfnBIdeal.nD Cert.ReferenceFfnBIdeal.τ).loc Cert.ReferenceFfnBIdeal.main_arg2)
      ∧ r.2.mem ((c.tc : Thread Cert.ReferenceFfnBIdeal.nD Cert.ReferenceFfnBIdeal.τ).loc Cert.ReferenceFfnBIdeal.main_arg3) = m ((c.tc : Thread Cert.ReferenceFfnBIdeal.nD Cert.ReferenceFfnBIdeal.τ).loc Cert.ReferenceFfnBIdeal.main_arg3)
      ∧ r.2.mem ((c.tc : Thread Cert.ReferenceFfnBIdeal.nD Cert.ReferenceFfnBIdeal.τ).loc Cert.ReferenceFfnBIdeal.main_arg4) = m ((c.tc : Thread Cert.ReferenceFfnBIdeal.nD Cert.ReferenceFfnBIdeal.τ).loc Cert.ReferenceFfnBIdeal.main_arg4)
      ∧ r.2.mem ((c.tc : Thread Cert.ReferenceFfnBIdeal.nD Cert.ReferenceFfnBIdeal.τ).loc Cert.ReferenceFfnBIdeal.main_arg5) = m ((c.tc : Thread Cert.ReferenceFfnBIdeal.nD Cert.ReferenceFfnBIdeal.τ).loc Cert.ReferenceFfnBIdeal.main_arg5)
      ∧ r.2.mem ((c.tc : Thread Cert.ReferenceFfnBIdeal.nD Cert.ReferenceFfnBIdeal.τ).loc Cert.ReferenceFfnBIdeal.main_arg6) = m ((c.tc : Thread Cert.ReferenceFfnBIdeal.nD Cert.ReferenceFfnBIdeal.τ).loc Cert.ReferenceFfnBIdeal.main_arg6))
      ∧ r.2.sem = fun _ => 0)

def quiescent_KernelFfnC [hKernelFfnC : Cert.KernelFfnC.Facts] : Prop :=
  ∀ (m : (ℓ : Loc Cert.KernelFfnC.nD Cert.KernelFfnC.τ Cert.KernelFfnC.sig) → Buf (Elt Bits) ℓ) (g : Dev Cert.KernelFfnC.nD → PrngReg), Pre_KernelFfnC m →
    θ_run (Cert.KernelFfnC.defs (F := Bits)) (onTc (τ := Cert.KernelFfnC.τ) (Cert.KernelFfnC.main (F := Bits))) ⟨m, fun _ => 0, g⟩ (fun r => (∀ c : Dev Cert.KernelFfnC.nD,
      r.2.mem ((c.tc : Thread Cert.KernelFfnC.nD Cert.KernelFfnC.τ).loc Cert.KernelFfnC.main_arg0) = m ((c.tc : Thread Cert.KernelFfnC.nD Cert.KernelFfnC.τ).loc Cert.KernelFfnC.main_arg0)
      ∧ r.2.mem ((c.tc : Thread Cert.KernelFfnC.nD Cert.KernelFfnC.τ).loc Cert.KernelFfnC.main_arg1) = m ((c.tc : Thread Cert.KernelFfnC.nD Cert.KernelFfnC.τ).loc Cert.KernelFfnC.main_arg1)
      ∧ r.2.mem ((c.tc : Thread Cert.KernelFfnC.nD Cert.KernelFfnC.τ).loc Cert.KernelFfnC.main_arg2) = m ((c.tc : Thread Cert.KernelFfnC.nD Cert.KernelFfnC.τ).loc Cert.KernelFfnC.main_arg2)
      ∧ r.2.mem ((c.tc : Thread Cert.KernelFfnC.nD Cert.KernelFfnC.τ).loc Cert.KernelFfnC.main_arg3) = m ((c.tc : Thread Cert.KernelFfnC.nD Cert.KernelFfnC.τ).loc Cert.KernelFfnC.main_arg3)
      ∧ r.2.mem ((c.tc : Thread Cert.KernelFfnC.nD Cert.KernelFfnC.τ).loc Cert.KernelFfnC.main_arg4) = m ((c.tc : Thread Cert.KernelFfnC.nD Cert.KernelFfnC.τ).loc Cert.KernelFfnC.main_arg4)
      ∧ r.2.mem ((c.tc : Thread Cert.KernelFfnC.nD Cert.KernelFfnC.τ).loc Cert.KernelFfnC.main_arg5) = m ((c.tc : Thread Cert.KernelFfnC.nD Cert.KernelFfnC.τ).loc Cert.KernelFfnC.main_arg5)
      ∧ r.2.mem ((c.tc : Thread Cert.KernelFfnC.nD Cert.KernelFfnC.τ).loc Cert.KernelFfnC.main_arg6) = m ((c.tc : Thread Cert.KernelFfnC.nD Cert.KernelFfnC.τ).loc Cert.KernelFfnC.main_arg6)
      ∧ r.2.mem ((c.tc : Thread Cert.KernelFfnC.nD Cert.KernelFfnC.τ).loc Cert.KernelFfnC.main_arg7) = m ((c.tc : Thread Cert.KernelFfnC.nD Cert.KernelFfnC.τ).loc Cert.KernelFfnC.main_arg7)
      ∧ r.2.mem ((c.tc : Thread Cert.KernelFfnC.nD Cert.KernelFfnC.τ).loc Cert.KernelFfnC.main_arg8) = m ((c.tc : Thread Cert.KernelFfnC.nD Cert.KernelFfnC.τ).loc Cert.KernelFfnC.main_arg8))
      ∧ r.2.sem = fun _ => 0)

def quiescent_KernelFfnCIdeal [hKernelFfnCIdeal : Cert.KernelFfnCIdeal.Facts] : Prop :=
  ∀ (m : (ℓ : Loc Cert.KernelFfnCIdeal.nD Cert.KernelFfnCIdeal.τ Cert.KernelFfnCIdeal.sig) → Buf (Elt Ideal) ℓ) (g : Dev Cert.KernelFfnCIdeal.nD → PrngReg), Pre_KernelFfnCIdeal m →
    θ_run (Cert.KernelFfnCIdeal.defs (F := Ideal)) (onTc (τ := Cert.KernelFfnCIdeal.τ) (Cert.KernelFfnCIdeal.main (F := Ideal))) ⟨m, fun _ => 0, g⟩ (fun r => (∀ c : Dev Cert.KernelFfnCIdeal.nD,
      r.2.mem ((c.tc : Thread Cert.KernelFfnCIdeal.nD Cert.KernelFfnCIdeal.τ).loc Cert.KernelFfnCIdeal.main_arg0) = m ((c.tc : Thread Cert.KernelFfnCIdeal.nD Cert.KernelFfnCIdeal.τ).loc Cert.KernelFfnCIdeal.main_arg0)
      ∧ r.2.mem ((c.tc : Thread Cert.KernelFfnCIdeal.nD Cert.KernelFfnCIdeal.τ).loc Cert.KernelFfnCIdeal.main_arg1) = m ((c.tc : Thread Cert.KernelFfnCIdeal.nD Cert.KernelFfnCIdeal.τ).loc Cert.KernelFfnCIdeal.main_arg1)
      ∧ r.2.mem ((c.tc : Thread Cert.KernelFfnCIdeal.nD Cert.KernelFfnCIdeal.τ).loc Cert.KernelFfnCIdeal.main_arg2) = m ((c.tc : Thread Cert.KernelFfnCIdeal.nD Cert.KernelFfnCIdeal.τ).loc Cert.KernelFfnCIdeal.main_arg2)
      ∧ r.2.mem ((c.tc : Thread Cert.KernelFfnCIdeal.nD Cert.KernelFfnCIdeal.τ).loc Cert.KernelFfnCIdeal.main_arg3) = m ((c.tc : Thread Cert.KernelFfnCIdeal.nD Cert.KernelFfnCIdeal.τ).loc Cert.KernelFfnCIdeal.main_arg3)
      ∧ r.2.mem ((c.tc : Thread Cert.KernelFfnCIdeal.nD Cert.KernelFfnCIdeal.τ).loc Cert.KernelFfnCIdeal.main_arg4) = m ((c.tc : Thread Cert.KernelFfnCIdeal.nD Cert.KernelFfnCIdeal.τ).loc Cert.KernelFfnCIdeal.main_arg4)
      ∧ r.2.mem ((c.tc : Thread Cert.KernelFfnCIdeal.nD Cert.KernelFfnCIdeal.τ).loc Cert.KernelFfnCIdeal.main_arg5) = m ((c.tc : Thread Cert.KernelFfnCIdeal.nD Cert.KernelFfnCIdeal.τ).loc Cert.KernelFfnCIdeal.main_arg5)
      ∧ r.2.mem ((c.tc : Thread Cert.KernelFfnCIdeal.nD Cert.KernelFfnCIdeal.τ).loc Cert.KernelFfnCIdeal.main_arg6) = m ((c.tc : Thread Cert.KernelFfnCIdeal.nD Cert.KernelFfnCIdeal.τ).loc Cert.KernelFfnCIdeal.main_arg6)
      ∧ r.2.mem ((c.tc : Thread Cert.KernelFfnCIdeal.nD Cert.KernelFfnCIdeal.τ).loc Cert.KernelFfnCIdeal.main_arg7) = m ((c.tc : Thread Cert.KernelFfnCIdeal.nD Cert.KernelFfnCIdeal.τ).loc Cert.KernelFfnCIdeal.main_arg7)
      ∧ r.2.mem ((c.tc : Thread Cert.KernelFfnCIdeal.nD Cert.KernelFfnCIdeal.τ).loc Cert.KernelFfnCIdeal.main_arg8) = m ((c.tc : Thread Cert.KernelFfnCIdeal.nD Cert.KernelFfnCIdeal.τ).loc Cert.KernelFfnCIdeal.main_arg8))
      ∧ r.2.sem = fun _ => 0)

def quiescent_ReferenceFfnCIdeal [hReferenceFfnCIdeal : Cert.ReferenceFfnCIdeal.Facts] : Prop :=
  ∀ (m : (ℓ : Loc Cert.ReferenceFfnCIdeal.nD Cert.ReferenceFfnCIdeal.τ Cert.ReferenceFfnCIdeal.sig) → Buf (Elt Ideal) ℓ) (g : Dev Cert.ReferenceFfnCIdeal.nD → PrngReg), Pre_ReferenceFfnCIdeal m →
    θ_run (Cert.ReferenceFfnCIdeal.defs (F := Ideal)) (onTc (τ := Cert.ReferenceFfnCIdeal.τ) (Cert.ReferenceFfnCIdeal.main (F := Ideal))) ⟨m, fun _ => 0, g⟩ (fun r => (∀ c : Dev Cert.ReferenceFfnCIdeal.nD,
      r.2.mem ((c.tc : Thread Cert.ReferenceFfnCIdeal.nD Cert.ReferenceFfnCIdeal.τ).loc Cert.ReferenceFfnCIdeal.main_arg0) = m ((c.tc : Thread Cert.ReferenceFfnCIdeal.nD Cert.ReferenceFfnCIdeal.τ).loc Cert.ReferenceFfnCIdeal.main_arg0)
      ∧ r.2.mem ((c.tc : Thread Cert.ReferenceFfnCIdeal.nD Cert.ReferenceFfnCIdeal.τ).loc Cert.ReferenceFfnCIdeal.main_arg1) = m ((c.tc : Thread Cert.ReferenceFfnCIdeal.nD Cert.ReferenceFfnCIdeal.τ).loc Cert.ReferenceFfnCIdeal.main_arg1)
      ∧ r.2.mem ((c.tc : Thread Cert.ReferenceFfnCIdeal.nD Cert.ReferenceFfnCIdeal.τ).loc Cert.ReferenceFfnCIdeal.main_arg2) = m ((c.tc : Thread Cert.ReferenceFfnCIdeal.nD Cert.ReferenceFfnCIdeal.τ).loc Cert.ReferenceFfnCIdeal.main_arg2)
      ∧ r.2.mem ((c.tc : Thread Cert.ReferenceFfnCIdeal.nD Cert.ReferenceFfnCIdeal.τ).loc Cert.ReferenceFfnCIdeal.main_arg3) = m ((c.tc : Thread Cert.ReferenceFfnCIdeal.nD Cert.ReferenceFfnCIdeal.τ).loc Cert.ReferenceFfnCIdeal.main_arg3)
      ∧ r.2.mem ((c.tc : Thread Cert.ReferenceFfnCIdeal.nD Cert.ReferenceFfnCIdeal.τ).loc Cert.ReferenceFfnCIdeal.main_arg4) = m ((c.tc : Thread Cert.ReferenceFfnCIdeal.nD Cert.ReferenceFfnCIdeal.τ).loc Cert.ReferenceFfnCIdeal.main_arg4)
      ∧ r.2.mem ((c.tc : Thread Cert.ReferenceFfnCIdeal.nD Cert.ReferenceFfnCIdeal.τ).loc Cert.ReferenceFfnCIdeal.main_arg5) = m ((c.tc : Thread Cert.ReferenceFfnCIdeal.nD Cert.ReferenceFfnCIdeal.τ).loc Cert.ReferenceFfnCIdeal.main_arg5)
      ∧ r.2.mem ((c.tc : Thread Cert.ReferenceFfnCIdeal.nD Cert.ReferenceFfnCIdeal.τ).loc Cert.ReferenceFfnCIdeal.main_arg6) = m ((c.tc : Thread Cert.ReferenceFfnCIdeal.nD Cert.ReferenceFfnCIdeal.τ).loc Cert.ReferenceFfnCIdeal.main_arg6)
      ∧ r.2.mem ((c.tc : Thread Cert.ReferenceFfnCIdeal.nD Cert.ReferenceFfnCIdeal.τ).loc Cert.ReferenceFfnCIdeal.main_arg7) = m ((c.tc : Thread Cert.ReferenceFfnCIdeal.nD Cert.ReferenceFfnCIdeal.τ).loc Cert.ReferenceFfnCIdeal.main_arg7)
      ∧ r.2.mem ((c.tc : Thread Cert.ReferenceFfnCIdeal.nD Cert.ReferenceFfnCIdeal.τ).loc Cert.ReferenceFfnCIdeal.main_arg8) = m ((c.tc : Thread Cert.ReferenceFfnCIdeal.nD Cert.ReferenceFfnCIdeal.τ).loc Cert.ReferenceFfnCIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v2)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v2) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v36) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelFfnA_KernelFfnAIdeal : Prop :=
  True

def algebraic_KernelFfnAIdeal_ReferenceFfnAIdeal [hKernelFfnAIdeal : Cert.KernelFfnAIdeal.Facts] [hReferenceFfnAIdeal : Cert.ReferenceFfnAIdeal.Facts] : Prop :=
  ∀ (m : (ℓ : Loc Cert.KernelFfnAIdeal.nD Cert.KernelFfnAIdeal.τ Cert.KernelFfnAIdeal.sig) → Buf (Elt Ideal) ℓ) (g : Dev Cert.KernelFfnAIdeal.nD → PrngReg)
    (m' : (ℓ : Loc Cert.ReferenceFfnAIdeal.nD Cert.ReferenceFfnAIdeal.τ Cert.ReferenceFfnAIdeal.sig) → Buf (Elt Ideal) ℓ) (g' : Dev Cert.ReferenceFfnAIdeal.nD → PrngReg), Pre_KernelFfnAIdeal m →
    (∀ c : Dev Cert.KernelFfnAIdeal.nD,
      m' ((c.tc : Thread Cert.ReferenceFfnAIdeal.nD Cert.ReferenceFfnAIdeal.τ).loc Cert.ReferenceFfnAIdeal.main_arg0) = m ((c.tc : Thread Cert.KernelFfnAIdeal.nD Cert.KernelFfnAIdeal.τ).loc Cert.KernelFfnAIdeal.main_arg0)
      ∧ m' ((c.tc : Thread Cert.ReferenceFfnAIdeal.nD Cert.ReferenceFfnAIdeal.τ).loc Cert.ReferenceFfnAIdeal.main_arg1) = m ((c.tc : Thread Cert.KernelFfnAIdeal.nD Cert.KernelFfnAIdeal.τ).loc Cert.KernelFfnAIdeal.main_arg1)
      ∧ m' ((c.tc : Thread Cert.ReferenceFfnAIdeal.nD Cert.ReferenceFfnAIdeal.τ).loc Cert.ReferenceFfnAIdeal.main_arg2) = m ((c.tc : Thread Cert.KernelFfnAIdeal.nD Cert.KernelFfnAIdeal.τ).loc Cert.KernelFfnAIdeal.main_arg2)
      ∧ m' ((c.tc : Thread Cert.ReferenceFfnAIdeal.nD Cert.ReferenceFfnAIdeal.τ).loc Cert.ReferenceFfnAIdeal.main_arg3) = m ((c.tc : Thread Cert.KernelFfnAIdeal.nD Cert.KernelFfnAIdeal.τ).loc Cert.KernelFfnAIdeal.main_arg3)
      ∧ m' ((c.tc : Thread Cert.ReferenceFfnAIdeal.nD Cert.ReferenceFfnAIdeal.τ).loc Cert.ReferenceFfnAIdeal.main_arg4) = m ((c.tc : Thread Cert.KernelFfnAIdeal.nD Cert.KernelFfnAIdeal.τ).loc Cert.KernelFfnAIdeal.main_arg4)
      ∧ m' ((c.tc : Thread Cert.ReferenceFfnAIdeal.nD Cert.ReferenceFfnAIdeal.τ).loc Cert.ReferenceFfnAIdeal.main_arg5) = m ((c.tc : Thread Cert.KernelFfnAIdeal.nD Cert.KernelFfnAIdeal.τ).loc Cert.KernelFfnAIdeal.main_arg5)
      ∧ m' ((c.tc : Thread Cert.ReferenceFfnAIdeal.nD Cert.ReferenceFfnAIdeal.τ).loc Cert.ReferenceFfnAIdeal.main_arg6) = m ((c.tc : Thread Cert.KernelFfnAIdeal.nD Cert.KernelFfnAIdeal.τ).loc Cert.KernelFfnAIdeal.main_arg6)
      ∧ m' ((c.tc : Thread Cert.ReferenceFfnAIdeal.nD Cert.ReferenceFfnAIdeal.τ).loc Cert.ReferenceFfnAIdeal.main_arg7) = m ((c.tc : Thread Cert.KernelFfnAIdeal.nD Cert.KernelFfnAIdeal.τ).loc Cert.KernelFfnAIdeal.main_arg7)
      ∧ m' ((c.tc : Thread Cert.ReferenceFfnAIdeal.nD Cert.ReferenceFfnAIdeal.τ).loc Cert.ReferenceFfnAIdeal.main_arg8) = m ((c.tc : Thread Cert.KernelFfnAIdeal.nD Cert.KernelFfnAIdeal.τ).loc Cert.KernelFfnAIdeal.main_arg8)) →
    ∃ (v0 : (c : Dev Cert.KernelFfnAIdeal.nD) → Buf (Elt Ideal) ((c.tc : Thread Cert.KernelFfnAIdeal.nD Cert.KernelFfnAIdeal.τ).loc Cert.KernelFfnAIdeal.main_v2_0)) (v1 : (c : Dev Cert.KernelFfnAIdeal.nD) → Buf (Elt Ideal) ((c.tc : Thread Cert.KernelFfnAIdeal.nD Cert.KernelFfnAIdeal.τ).loc Cert.KernelFfnAIdeal.main_v2_1)) (v2 : (c : Dev Cert.KernelFfnAIdeal.nD) → Buf (Elt Ideal) ((c.tc : Thread Cert.KernelFfnAIdeal.nD Cert.KernelFfnAIdeal.τ).loc Cert.KernelFfnAIdeal.main_v2_2)) (v3 : (c : Dev Cert.KernelFfnAIdeal.nD) → Buf (Elt Ideal) ((c.tc : Thread Cert.KernelFfnAIdeal.nD Cert.KernelFfnAIdeal.τ).loc Cert.KernelFfnAIdeal.main_v2_3)) (v4 : (c : Dev Cert.KernelFfnAIdeal.nD) → Buf (Elt Ideal) ((c.tc : Thread Cert.KernelFfnAIdeal.nD Cert.KernelFfnAIdeal.τ).loc Cert.KernelFfnAIdeal.main_v2_4)),
      θ_run (Cert.KernelFfnAIdeal.defs (F := Ideal)) (onTc (τ := Cert.KernelFfnAIdeal.τ) (Cert.KernelFfnAIdeal.main (F := Ideal))) ⟨m, fun _ => 0, g⟩ (fun r => ∀ c : Dev Cert.KernelFfnAIdeal.nD,
          r.2.mem ((c.tc : Thread Cert.KernelFfnAIdeal.nD Cert.KernelFfnAIdeal.τ).loc Cert.KernelFfnAIdeal.main_v2_0) = v0 c
          ∧ r.2.mem ((c.tc : Thread Cert.KernelFfnAIdeal.nD Cert.KernelFfnAIdeal.τ).loc Cert.KernelFfnAIdeal.main_v2_1) = v1 c
          ∧ r.2.mem ((c.tc : Thread Cert.KernelFfnAIdeal.nD Cert.KernelFfnAIdeal.τ).loc Cert.KernelFfnAIdeal.main_v2_2) = v2 c
          ∧ r.2.mem ((c.tc : Thread Cert.KernelFfnAIdeal.nD Cert.KernelFfnAIdeal.τ).loc Cert.KernelFfnAIdeal.main_v2_3) = v3 c
          ∧ r.2.mem ((c.tc : Thread Cert.KernelFfnAIdeal.nD Cert.KernelFfnAIdeal.τ).loc Cert.KernelFfnAIdeal.main_v2_4) = v4 c
          ∧ r.2.mem ((c.tc : Thread Cert.KernelFfnAIdeal.nD Cert.KernelFfnAIdeal.τ).loc Cert.KernelFfnAIdeal.main_arg0) = m ((c.tc : Thread Cert.KernelFfnAIdeal.nD Cert.KernelFfnAIdeal.τ).loc Cert.KernelFfnAIdeal.main_arg0)
          ∧ r.2.mem ((c.tc : Thread Cert.KernelFfnAIdeal.nD Cert.KernelFfnAIdeal.τ).loc Cert.KernelFfnAIdeal.main_arg1) = m ((c.tc : Thread Cert.KernelFfnAIdeal.nD Cert.KernelFfnAIdeal.τ).loc Cert.KernelFfnAIdeal.main_arg1)
          ∧ r.2.mem ((c.tc : Thread Cert.KernelFfnAIdeal.nD Cert.KernelFfnAIdeal.τ).loc Cert.KernelFfnAIdeal.main_arg2) = m ((c.tc : Thread Cert.KernelFfnAIdeal.nD Cert.KernelFfnAIdeal.τ).loc Cert.KernelFfnAIdeal.main_arg2)
          ∧ r.2.mem ((c.tc : Thread Cert.KernelFfnAIdeal.nD Cert.KernelFfnAIdeal.τ).loc Cert.KernelFfnAIdeal.main_arg3) = m ((c.tc : Thread Cert.KernelFfnAIdeal.nD Cert.KernelFfnAIdeal.τ).loc Cert.KernelFfnAIdeal.main_arg3)
          ∧ r.2.mem ((c.tc : Thread Cert.KernelFfnAIdeal.nD Cert.KernelFfnAIdeal.τ).loc Cert.KernelFfnAIdeal.main_arg4) = m ((c.tc : Thread Cert.KernelFfnAIdeal.nD Cert.KernelFfnAIdeal.τ).loc Cert.KernelFfnAIdeal.main_arg4)
          ∧ r.2.mem ((c.tc : Thread Cert.KernelFfnAIdeal.nD Cert.KernelFfnAIdeal.τ).loc Cert.KernelFfnAIdeal.main_arg5) = m ((c.tc : Thread Cert.KernelFfnAIdeal.nD Cert.KernelFfnAIdeal.τ).loc Cert.KernelFfnAIdeal.main_arg5)
          ∧ r.2.mem ((c.tc : Thread Cert.KernelFfnAIdeal.nD Cert.KernelFfnAIdeal.τ).loc Cert.KernelFfnAIdeal.main_arg6) = m ((c.tc : Thread Cert.KernelFfnAIdeal.nD Cert.KernelFfnAIdeal.τ).loc Cert.KernelFfnAIdeal.main_arg6)
          ∧ r.2.mem ((c.tc : Thread Cert.KernelFfnAIdeal.nD Cert.KernelFfnAIdeal.τ).loc Cert.KernelFfnAIdeal.main_arg7) = m ((c.tc : Thread Cert.KernelFfnAIdeal.nD Cert.KernelFfnAIdeal.τ).loc Cert.KernelFfnAIdeal.main_arg7)
          ∧ r.2.mem ((c.tc : Thread Cert.KernelFfnAIdeal.nD Cert.KernelFfnAIdeal.τ).loc Cert.KernelFfnAIdeal.main_arg8) = m ((c.tc : Thread Cert.KernelFfnAIdeal.nD Cert.KernelFfnAIdeal.τ).loc Cert.KernelFfnAIdeal.main_arg8))
      ∧ θ_run (Cert.ReferenceFfnAIdeal.defs (F := Ideal)) (onTc (τ := Cert.ReferenceFfnAIdeal.τ) (Cert.ReferenceFfnAIdeal.main (F := Ideal))) ⟨m', fun _ => 0, g'⟩ (fun r => ∀ c : Dev Cert.ReferenceFfnAIdeal.nD,
          r.2.mem ((c.tc : Thread Cert.ReferenceFfnAIdeal.nD Cert.ReferenceFfnAIdeal.τ).loc Cert.ReferenceFfnAIdeal.main_v23) = v0 c
          ∧ r.2.mem ((c.tc : Thread Cert.ReferenceFfnAIdeal.nD Cert.ReferenceFfnAIdeal.τ).loc Cert.ReferenceFfnAIdeal.main_v26) = v1 c
          ∧ r.2.mem ((c.tc : Thread Cert.ReferenceFfnAIdeal.nD Cert.ReferenceFfnAIdeal.τ).loc Cert.ReferenceFfnAIdeal.main_v29) = v2 c
          ∧ r.2.mem ((c.tc : Thread Cert.ReferenceFfnAIdeal.nD Cert.ReferenceFfnAIdeal.τ).loc Cert.ReferenceFfnAIdeal.main_v31) = v3 c
          ∧ r.2.mem ((c.tc : Thread Cert.ReferenceFfnAIdeal.nD Cert.ReferenceFfnAIdeal.τ).loc Cert.ReferenceFfnAIdeal.main_v33) = v4 c
          ∧ r.2.mem ((c.tc : Thread Cert.ReferenceFfnAIdeal.nD Cert.ReferenceFfnAIdeal.τ).loc Cert.ReferenceFfnAIdeal.main_arg0) = m' ((c.tc : Thread Cert.ReferenceFfnAIdeal.nD Cert.ReferenceFfnAIdeal.τ).loc Cert.ReferenceFfnAIdeal.main_arg0)
          ∧ r.2.mem ((c.tc : Thread Cert.ReferenceFfnAIdeal.nD Cert.ReferenceFfnAIdeal.τ).loc Cert.ReferenceFfnAIdeal.main_arg1) = m' ((c.tc : Thread Cert.ReferenceFfnAIdeal.nD Cert.ReferenceFfnAIdeal.τ).loc Cert.ReferenceFfnAIdeal.main_arg1)
          ∧ r.2.mem ((c.tc : Thread Cert.ReferenceFfnAIdeal.nD Cert.ReferenceFfnAIdeal.τ).loc Cert.ReferenceFfnAIdeal.main_arg2) = m' ((c.tc : Thread Cert.ReferenceFfnAIdeal.nD Cert.ReferenceFfnAIdeal.τ).loc Cert.ReferenceFfnAIdeal.main_arg2)
          ∧ r.2.mem ((c.tc : Thread Cert.ReferenceFfnAIdeal.nD Cert.ReferenceFfnAIdeal.τ).loc Cert.ReferenceFfnAIdeal.main_arg3) = m' ((c.tc : Thread Cert.ReferenceFfnAIdeal.nD Cert.ReferenceFfnAIdeal.τ).loc Cert.ReferenceFfnAIdeal.main_arg3)
          ∧ r.2.mem ((c.tc : Thread Cert.ReferenceFfnAIdeal.nD Cert.ReferenceFfnAIdeal.τ).loc Cert.ReferenceFfnAIdeal.main_arg4) = m' ((c.tc : Thread Cert.ReferenceFfnAIdeal.nD Cert.ReferenceFfnAIdeal.τ).loc Cert.ReferenceFfnAIdeal.main_arg4)
          ∧ r.2.mem ((c.tc : Thread Cert.ReferenceFfnAIdeal.nD Cert.ReferenceFfnAIdeal.τ).loc Cert.ReferenceFfnAIdeal.main_arg5) = m' ((c.tc : Thread Cert.ReferenceFfnAIdeal.nD Cert.ReferenceFfnAIdeal.τ).loc Cert.ReferenceFfnAIdeal.main_arg5)
          ∧ r.2.mem ((c.tc : Thread Cert.ReferenceFfnAIdeal.nD Cert.ReferenceFfnAIdeal.τ).loc Cert.ReferenceFfnAIdeal.main_arg6) = m' ((c.tc : Thread Cert.ReferenceFfnAIdeal.nD Cert.ReferenceFfnAIdeal.τ).loc Cert.ReferenceFfnAIdeal.main_arg6)
          ∧ r.2.mem ((c.tc : Thread Cert.ReferenceFfnAIdeal.nD Cert.ReferenceFfnAIdeal.τ).loc Cert.ReferenceFfnAIdeal.main_arg7) = m' ((c.tc : Thread Cert.ReferenceFfnAIdeal.nD Cert.ReferenceFfnAIdeal.τ).loc Cert.ReferenceFfnAIdeal.main_arg7)
          ∧ r.2.mem ((c.tc : Thread Cert.ReferenceFfnAIdeal.nD Cert.ReferenceFfnAIdeal.τ).loc Cert.ReferenceFfnAIdeal.main_arg8) = m' ((c.tc : Thread Cert.ReferenceFfnAIdeal.nD Cert.ReferenceFfnAIdeal.τ).loc Cert.ReferenceFfnAIdeal.main_arg8))

def preserves_KernelFfnB_KernelFfnBIdeal : Prop :=
  True

def algebraic_KernelFfnBIdeal_ReferenceFfnBIdeal [hKernelFfnBIdeal : Cert.KernelFfnBIdeal.Facts] [hReferenceFfnBIdeal : Cert.ReferenceFfnBIdeal.Facts] : Prop :=
  ∀ (m : (ℓ : Loc Cert.KernelFfnBIdeal.nD Cert.KernelFfnBIdeal.τ Cert.KernelFfnBIdeal.sig) → Buf (Elt Ideal) ℓ) (g : Dev Cert.KernelFfnBIdeal.nD → PrngReg)
    (m' : (ℓ : Loc Cert.ReferenceFfnBIdeal.nD Cert.ReferenceFfnBIdeal.τ Cert.ReferenceFfnBIdeal.sig) → Buf (Elt Ideal) ℓ) (g' : Dev Cert.ReferenceFfnBIdeal.nD → PrngReg), Pre_KernelFfnBIdeal m →
    (∀ c : Dev Cert.KernelFfnBIdeal.nD,
      m' ((c.tc : Thread Cert.ReferenceFfnBIdeal.nD Cert.ReferenceFfnBIdeal.τ).loc Cert.ReferenceFfnBIdeal.main_arg0) = m ((c.tc : Thread Cert.KernelFfnBIdeal.nD Cert.KernelFfnBIdeal.τ).loc Cert.KernelFfnBIdeal.main_arg0)
      ∧ m' ((c.tc : Thread Cert.ReferenceFfnBIdeal.nD Cert.ReferenceFfnBIdeal.τ).loc Cert.ReferenceFfnBIdeal.main_arg1) = m ((c.tc : Thread Cert.KernelFfnBIdeal.nD Cert.KernelFfnBIdeal.τ).loc Cert.KernelFfnBIdeal.main_arg1)
      ∧ m' ((c.tc : Thread Cert.ReferenceFfnBIdeal.nD Cert.ReferenceFfnBIdeal.τ).loc Cert.ReferenceFfnBIdeal.main_arg2) = m ((c.tc : Thread Cert.KernelFfnBIdeal.nD Cert.KernelFfnBIdeal.τ).loc Cert.KernelFfnBIdeal.main_arg2)
      ∧ m' ((c.tc : Thread Cert.ReferenceFfnBIdeal.nD Cert.ReferenceFfnBIdeal.τ).loc Cert.ReferenceFfnBIdeal.main_arg3) = m ((c.tc : Thread Cert.KernelFfnBIdeal.nD Cert.KernelFfnBIdeal.τ).loc Cert.KernelFfnBIdeal.main_arg3)
      ∧ m' ((c.tc : Thread Cert.ReferenceFfnBIdeal.nD Cert.ReferenceFfnBIdeal.τ).loc Cert.ReferenceFfnBIdeal.main_arg4) = m ((c.tc : Thread Cert.KernelFfnBIdeal.nD Cert.KernelFfnBIdeal.τ).loc Cert.KernelFfnBIdeal.main_arg4)
      ∧ m' ((c.tc : Thread Cert.ReferenceFfnBIdeal.nD Cert.ReferenceFfnBIdeal.τ).loc Cert.ReferenceFfnBIdeal.main_arg5) = m ((c.tc : Thread Cert.KernelFfnBIdeal.nD Cert.KernelFfnBIdeal.τ).loc Cert.KernelFfnBIdeal.main_arg5)
      ∧ m' ((c.tc : Thread Cert.ReferenceFfnBIdeal.nD Cert.ReferenceFfnBIdeal.τ).loc Cert.ReferenceFfnBIdeal.main_arg6) = m ((c.tc : Thread Cert.KernelFfnBIdeal.nD Cert.KernelFfnBIdeal.τ).loc Cert.KernelFfnBIdeal.main_arg6)) →
    ∃ (v0 : (c : Dev Cert.KernelFfnBIdeal.nD) → Buf (Elt Ideal) ((c.tc : Thread Cert.KernelFfnBIdeal.nD Cert.KernelFfnBIdeal.τ).loc Cert.KernelFfnBIdeal.main_v2_0)) (v1 : (c : Dev Cert.KernelFfnBIdeal.nD) → Buf (Elt Ideal) ((c.tc : Thread Cert.KernelFfnBIdeal.nD Cert.KernelFfnBIdeal.τ).loc Cert.KernelFfnBIdeal.main_v2_1)) (v2 : (c : Dev Cert.KernelFfnBIdeal.nD) → Buf (Elt Ideal) ((c.tc : Thread Cert.KernelFfnBIdeal.nD Cert.KernelFfnBIdeal.τ).loc Cert.KernelFfnBIdeal.main_v2_2)),
      θ_run (Cert.KernelFfnBIdeal.defs (F := Ideal)) (onTc (τ := Cert.KernelFfnBIdeal.τ) (Cert.KernelFfnBIdeal.main (F := Ideal))) ⟨m, fun _ => 0, g⟩ (fun r => ∀ c : Dev Cert.KernelFfnBIdeal.nD,
          r.2.mem ((c.tc : Thread Cert.KernelFfnBIdeal.nD Cert.KernelFfnBIdeal.τ).loc Cert.KernelFfnBIdeal.main_v2_0) = v0 c
          ∧ r.2.mem ((c.tc : Thread Cert.KernelFfnBIdeal.nD Cert.KernelFfnBIdeal.τ).loc Cert.KernelFfnBIdeal.main_v2_1) = v1 c
          ∧ r.2.mem ((c.tc : Thread Cert.KernelFfnBIdeal.nD Cert.KernelFfnBIdeal.τ).loc Cert.KernelFfnBIdeal.main_v2_2) = v2 c
          ∧ r.2.mem ((c.tc : Thread Cert.KernelFfnBIdeal.nD Cert.KernelFfnBIdeal.τ).loc Cert.KernelFfnBIdeal.main_arg0) = m ((c.tc : Thread Cert.KernelFfnBIdeal.nD Cert.KernelFfnBIdeal.τ).loc Cert.KernelFfnBIdeal.main_arg0)
          ∧ r.2.mem ((c.tc : Thread Cert.KernelFfnBIdeal.nD Cert.KernelFfnBIdeal.τ).loc Cert.KernelFfnBIdeal.main_arg1) = m ((c.tc : Thread Cert.KernelFfnBIdeal.nD Cert.KernelFfnBIdeal.τ).loc Cert.KernelFfnBIdeal.main_arg1)
          ∧ r.2.mem ((c.tc : Thread Cert.KernelFfnBIdeal.nD Cert.KernelFfnBIdeal.τ).loc Cert.KernelFfnBIdeal.main_arg2) = m ((c.tc : Thread Cert.KernelFfnBIdeal.nD Cert.KernelFfnBIdeal.τ).loc Cert.KernelFfnBIdeal.main_arg2)
          ∧ r.2.mem ((c.tc : Thread Cert.KernelFfnBIdeal.nD Cert.KernelFfnBIdeal.τ).loc Cert.KernelFfnBIdeal.main_arg3) = m ((c.tc : Thread Cert.KernelFfnBIdeal.nD Cert.KernelFfnBIdeal.τ).loc Cert.KernelFfnBIdeal.main_arg3)
          ∧ r.2.mem ((c.tc : Thread Cert.KernelFfnBIdeal.nD Cert.KernelFfnBIdeal.τ).loc Cert.KernelFfnBIdeal.main_arg4) = m ((c.tc : Thread Cert.KernelFfnBIdeal.nD Cert.KernelFfnBIdeal.τ).loc Cert.KernelFfnBIdeal.main_arg4)
          ∧ r.2.mem ((c.tc : Thread Cert.KernelFfnBIdeal.nD Cert.KernelFfnBIdeal.τ).loc Cert.KernelFfnBIdeal.main_arg5) = m ((c.tc : Thread Cert.KernelFfnBIdeal.nD Cert.KernelFfnBIdeal.τ).loc Cert.KernelFfnBIdeal.main_arg5)
          ∧ r.2.mem ((c.tc : Thread Cert.KernelFfnBIdeal.nD Cert.KernelFfnBIdeal.τ).loc Cert.KernelFfnBIdeal.main_arg6) = m ((c.tc : Thread Cert.KernelFfnBIdeal.nD Cert.KernelFfnBIdeal.τ).loc Cert.KernelFfnBIdeal.main_arg6))
      ∧ θ_run (Cert.ReferenceFfnBIdeal.defs (F := Ideal)) (onTc (τ := Cert.ReferenceFfnBIdeal.τ) (Cert.ReferenceFfnBIdeal.main (F := Ideal))) ⟨m', fun _ => 0, g'⟩ (fun r => ∀ c : Dev Cert.ReferenceFfnBIdeal.nD,
          r.2.mem ((c.tc : Thread Cert.ReferenceFfnBIdeal.nD Cert.ReferenceFfnBIdeal.τ).loc Cert.ReferenceFfnBIdeal.main_v23) = v0 c
          ∧ r.2.mem ((c.tc : Thread Cert.ReferenceFfnBIdeal.nD Cert.ReferenceFfnBIdeal.τ).loc Cert.ReferenceFfnBIdeal.main_v26) = v1 c
          ∧ r.2.mem ((c.tc : Thread Cert.ReferenceFfnBIdeal.nD Cert.ReferenceFfnBIdeal.τ).loc Cert.ReferenceFfnBIdeal.main_v29) = v2 c
          ∧ r.2.mem ((c.tc : Thread Cert.ReferenceFfnBIdeal.nD Cert.ReferenceFfnBIdeal.τ).loc Cert.ReferenceFfnBIdeal.main_arg0) = m' ((c.tc : Thread Cert.ReferenceFfnBIdeal.nD Cert.ReferenceFfnBIdeal.τ).loc Cert.ReferenceFfnBIdeal.main_arg0)
          ∧ r.2.mem ((c.tc : Thread Cert.ReferenceFfnBIdeal.nD Cert.ReferenceFfnBIdeal.τ).loc Cert.ReferenceFfnBIdeal.main_arg1) = m' ((c.tc : Thread Cert.ReferenceFfnBIdeal.nD Cert.ReferenceFfnBIdeal.τ).loc Cert.ReferenceFfnBIdeal.main_arg1)
          ∧ r.2.mem ((c.tc : Thread Cert.ReferenceFfnBIdeal.nD Cert.ReferenceFfnBIdeal.τ).loc Cert.ReferenceFfnBIdeal.main_arg2) = m' ((c.tc : Thread Cert.ReferenceFfnBIdeal.nD Cert.ReferenceFfnBIdeal.τ).loc Cert.ReferenceFfnBIdeal.main_arg2)
          ∧ r.2.mem ((c.tc : Thread Cert.ReferenceFfnBIdeal.nD Cert.ReferenceFfnBIdeal.τ).loc Cert.ReferenceFfnBIdeal.main_arg3) = m' ((c.tc : Thread Cert.ReferenceFfnBIdeal.nD Cert.ReferenceFfnBIdeal.τ).loc Cert.ReferenceFfnBIdeal.main_arg3)
          ∧ r.2.mem ((c.tc : Thread Cert.ReferenceFfnBIdeal.nD Cert.ReferenceFfnBIdeal.τ).loc Cert.ReferenceFfnBIdeal.main_arg4) = m' ((c.tc : Thread Cert.ReferenceFfnBIdeal.nD Cert.ReferenceFfnBIdeal.τ).loc Cert.ReferenceFfnBIdeal.main_arg4)
          ∧ r.2.mem ((c.tc : Thread Cert.ReferenceFfnBIdeal.nD Cert.ReferenceFfnBIdeal.τ).loc Cert.ReferenceFfnBIdeal.main_arg5) = m' ((c.tc : Thread Cert.ReferenceFfnBIdeal.nD Cert.ReferenceFfnBIdeal.τ).loc Cert.ReferenceFfnBIdeal.main_arg5)
          ∧ r.2.mem ((c.tc : Thread Cert.ReferenceFfnBIdeal.nD Cert.ReferenceFfnBIdeal.τ).loc Cert.ReferenceFfnBIdeal.main_arg6) = m' ((c.tc : Thread Cert.ReferenceFfnBIdeal.nD Cert.ReferenceFfnBIdeal.τ).loc Cert.ReferenceFfnBIdeal.main_arg6))

def preserves_KernelFfnC_KernelFfnCIdeal : Prop :=
  True

def algebraic_KernelFfnCIdeal_ReferenceFfnCIdeal [hKernelFfnCIdeal : Cert.KernelFfnCIdeal.Facts] [hReferenceFfnCIdeal : Cert.ReferenceFfnCIdeal.Facts] : Prop :=
  ∀ (m : (ℓ : Loc Cert.KernelFfnCIdeal.nD Cert.KernelFfnCIdeal.τ Cert.KernelFfnCIdeal.sig) → Buf (Elt Ideal) ℓ) (g : Dev Cert.KernelFfnCIdeal.nD → PrngReg)
    (m' : (ℓ : Loc Cert.ReferenceFfnCIdeal.nD Cert.ReferenceFfnCIdeal.τ Cert.ReferenceFfnCIdeal.sig) → Buf (Elt Ideal) ℓ) (g' : Dev Cert.ReferenceFfnCIdeal.nD → PrngReg), Pre_KernelFfnCIdeal m →
    (∀ c : Dev Cert.KernelFfnCIdeal.nD,
      m' ((c.tc : Thread Cert.ReferenceFfnCIdeal.nD Cert.ReferenceFfnCIdeal.τ).loc Cert.ReferenceFfnCIdeal.main_arg0) = m ((c.tc : Thread Cert.KernelFfnCIdeal.nD Cert.KernelFfnCIdeal.τ).loc Cert.KernelFfnCIdeal.main_arg0)
      ∧ m' ((c.tc : Thread Cert.ReferenceFfnCIdeal.nD Cert.ReferenceFfnCIdeal.τ).loc Cert.ReferenceFfnCIdeal.main_arg1) = m ((c.tc : Thread Cert.KernelFfnCIdeal.nD Cert.KernelFfnCIdeal.τ).loc Cert.KernelFfnCIdeal.main_arg1)
      ∧ m' ((c.tc : Thread Cert.ReferenceFfnCIdeal.nD Cert.ReferenceFfnCIdeal.τ).loc Cert.ReferenceFfnCIdeal.main_arg2) = m ((c.tc : Thread Cert.KernelFfnCIdeal.nD Cert.KernelFfnCIdeal.τ).loc Cert.KernelFfnCIdeal.main_arg2)
      ∧ m' ((c.tc : Thread Cert.ReferenceFfnCIdeal.nD Cert.ReferenceFfnCIdeal.τ).loc Cert.ReferenceFfnCIdeal.main_arg3) = m ((c.tc : Thread Cert.KernelFfnCIdeal.nD Cert.KernelFfnCIdeal.τ).loc Cert.KernelFfnCIdeal.main_arg3)
      ∧ m' ((c.tc : Thread Cert.ReferenceFfnCIdeal.nD Cert.ReferenceFfnCIdeal.τ).loc Cert.ReferenceFfnCIdeal.main_arg4) = m ((c.tc : Thread Cert.KernelFfnCIdeal.nD Cert.KernelFfnCIdeal.τ).loc Cert.KernelFfnCIdeal.main_arg4)
      ∧ m' ((c.tc : Thread Cert.ReferenceFfnCIdeal.nD Cert.ReferenceFfnCIdeal.τ).loc Cert.ReferenceFfnCIdeal.main_arg5) = m ((c.tc : Thread Cert.KernelFfnCIdeal.nD Cert.KernelFfnCIdeal.τ).loc Cert.KernelFfnCIdeal.main_arg5)
      ∧ m' ((c.tc : Thread Cert.ReferenceFfnCIdeal.nD Cert.ReferenceFfnCIdeal.τ).loc Cert.ReferenceFfnCIdeal.main_arg6) = m ((c.tc : Thread Cert.KernelFfnCIdeal.nD Cert.KernelFfnCIdeal.τ).loc Cert.KernelFfnCIdeal.main_arg6)
      ∧ m' ((c.tc : Thread Cert.ReferenceFfnCIdeal.nD Cert.ReferenceFfnCIdeal.τ).loc Cert.ReferenceFfnCIdeal.main_arg7) = m ((c.tc : Thread Cert.KernelFfnCIdeal.nD Cert.KernelFfnCIdeal.τ).loc Cert.KernelFfnCIdeal.main_arg7)
      ∧ m' ((c.tc : Thread Cert.ReferenceFfnCIdeal.nD Cert.ReferenceFfnCIdeal.τ).loc Cert.ReferenceFfnCIdeal.main_arg8) = m ((c.tc : Thread Cert.KernelFfnCIdeal.nD Cert.KernelFfnCIdeal.τ).loc Cert.KernelFfnCIdeal.main_arg8)) →
    ∃ (v0 : (c : Dev Cert.KernelFfnCIdeal.nD) → Buf (Elt Ideal) ((c.tc : Thread Cert.KernelFfnCIdeal.nD Cert.KernelFfnCIdeal.τ).loc Cert.KernelFfnCIdeal.main_v2_0)) (v1 : (c : Dev Cert.KernelFfnCIdeal.nD) → Buf (Elt Ideal) ((c.tc : Thread Cert.KernelFfnCIdeal.nD Cert.KernelFfnCIdeal.τ).loc Cert.KernelFfnCIdeal.main_v2_1)) (v2 : (c : Dev Cert.KernelFfnCIdeal.nD) → Buf (Elt Ideal) ((c.tc : Thread Cert.KernelFfnCIdeal.nD Cert.KernelFfnCIdeal.τ).loc Cert.KernelFfnCIdeal.main_v2_2)) (v3 : (c : Dev Cert.KernelFfnCIdeal.nD) → Buf (Elt Ideal) ((c.tc : Thread Cert.KernelFfnCIdeal.nD Cert.KernelFfnCIdeal.τ).loc Cert.KernelFfnCIdeal.main_v2_3)) (v4 : (c : Dev Cert.KernelFfnCIdeal.nD) → Buf (Elt Ideal) ((c.tc : Thread Cert.KernelFfnCIdeal.nD Cert.KernelFfnCIdeal.τ).loc Cert.KernelFfnCIdeal.main_v2_4)) (v5 : (c : Dev Cert.KernelFfnCIdeal.nD) → Buf (Elt Ideal) ((c.tc : Thread Cert.KernelFfnCIdeal.nD Cert.KernelFfnCIdeal.τ).loc Cert.KernelFfnCIdeal.main_v2_5)) (v6 : (c : Dev Cert.KernelFfnCIdeal.nD) → Buf (Elt Ideal) ((c.tc : Thread Cert.KernelFfnCIdeal.nD Cert.KernelFfnCIdeal.τ).loc Cert.KernelFfnCIdeal.main_v2_6)),
      θ_run (Cert.KernelFfnCIdeal.defs (F := Ideal)) (onTc (τ := Cert.KernelFfnCIdeal.τ) (Cert.KernelFfnCIdeal.main (F := Ideal))) ⟨m, fun _ => 0, g⟩ (fun r => ∀ c : Dev Cert.KernelFfnCIdeal.nD,
          r.2.mem ((c.tc : Thread Cert.KernelFfnCIdeal.nD Cert.KernelFfnCIdeal.τ).loc Cert.KernelFfnCIdeal.main_v2_0) = v0 c
          ∧ r.2.mem ((c.tc : Thread Cert.KernelFfnCIdeal.nD Cert.KernelFfnCIdeal.τ).loc Cert.KernelFfnCIdeal.main_v2_1) = v1 c
          ∧ r.2.mem ((c.tc : Thread Cert.KernelFfnCIdeal.nD Cert.KernelFfnCIdeal.τ).loc Cert.KernelFfnCIdeal.main_v2_2) = v2 c
          ∧ r.2.mem ((c.tc : Thread Cert.KernelFfnCIdeal.nD Cert.KernelFfnCIdeal.τ).loc Cert.KernelFfnCIdeal.main_v2_3) = v3 c
          ∧ r.2.mem ((c.tc : Thread Cert.KernelFfnCIdeal.nD Cert.KernelFfnCIdeal.τ).loc Cert.KernelFfnCIdeal.main_v2_4) = v4 c
          ∧ r.2.mem ((c.tc : Thread Cert.KernelFfnCIdeal.nD Cert.KernelFfnCIdeal.τ).loc Cert.KernelFfnCIdeal.main_v2_5) = v5 c
          ∧ r.2.mem ((c.tc : Thread Cert.KernelFfnCIdeal.nD Cert.KernelFfnCIdeal.τ).loc Cert.KernelFfnCIdeal.main_v2_6) = v6 c
          ∧ r.2.mem ((c.tc : Thread Cert.KernelFfnCIdeal.nD Cert.KernelFfnCIdeal.τ).loc Cert.KernelFfnCIdeal.main_arg0) = m ((c.tc : Thread Cert.KernelFfnCIdeal.nD Cert.KernelFfnCIdeal.τ).loc Cert.KernelFfnCIdeal.main_arg0)
          ∧ r.2.mem ((c.tc : Thread Cert.KernelFfnCIdeal.nD Cert.KernelFfnCIdeal.τ).loc Cert.KernelFfnCIdeal.main_arg1) = m ((c.tc : Thread Cert.KernelFfnCIdeal.nD Cert.KernelFfnCIdeal.τ).loc Cert.KernelFfnCIdeal.main_arg1)
          ∧ r.2.mem ((c.tc : Thread Cert.KernelFfnCIdeal.nD Cert.KernelFfnCIdeal.τ).loc Cert.KernelFfnCIdeal.main_arg2) = m ((c.tc : Thread Cert.KernelFfnCIdeal.nD Cert.KernelFfnCIdeal.τ).loc Cert.KernelFfnCIdeal.main_arg2)
          ∧ r.2.mem ((c.tc : Thread Cert.KernelFfnCIdeal.nD Cert.KernelFfnCIdeal.τ).loc Cert.KernelFfnCIdeal.main_arg3) = m ((c.tc : Thread Cert.KernelFfnCIdeal.nD Cert.KernelFfnCIdeal.τ).loc Cert.KernelFfnCIdeal.main_arg3)
          ∧ r.2.mem ((c.tc : Thread Cert.KernelFfnCIdeal.nD Cert.KernelFfnCIdeal.τ).loc Cert.KernelFfnCIdeal.main_arg4) = m ((c.tc : Thread Cert.KernelFfnCIdeal.nD Cert.KernelFfnCIdeal.τ).loc Cert.KernelFfnCIdeal.main_arg4)
          ∧ r.2.mem ((c.tc : Thread Cert.KernelFfnCIdeal.nD Cert.KernelFfnCIdeal.τ).loc Cert.KernelFfnCIdeal.main_arg5) = m ((c.tc : Thread Cert.KernelFfnCIdeal.nD Cert.KernelFfnCIdeal.τ).loc Cert.KernelFfnCIdeal.main_arg5)
          ∧ r.2.mem ((c.tc : Thread Cert.KernelFfnCIdeal.nD Cert.KernelFfnCIdeal.τ).loc Cert.KernelFfnCIdeal.main_arg6) = m ((c.tc : Thread Cert.KernelFfnCIdeal.nD Cert.KernelFfnCIdeal.τ).loc Cert.KernelFfnCIdeal.main_arg6)
          ∧ r.2.mem ((c.tc : Thread Cert.KernelFfnCIdeal.nD Cert.KernelFfnCIdeal.τ).loc Cert.KernelFfnCIdeal.main_arg7) = m ((c.tc : Thread Cert.KernelFfnCIdeal.nD Cert.KernelFfnCIdeal.τ).loc Cert.KernelFfnCIdeal.main_arg7)
          ∧ r.2.mem ((c.tc : Thread Cert.KernelFfnCIdeal.nD Cert.KernelFfnCIdeal.τ).loc Cert.KernelFfnCIdeal.main_arg8) = m ((c.tc : Thread Cert.KernelFfnCIdeal.nD Cert.KernelFfnCIdeal.τ).loc Cert.KernelFfnCIdeal.main_arg8))
      ∧ θ_run (Cert.ReferenceFfnCIdeal.defs (F := Ideal)) (onTc (τ := Cert.ReferenceFfnCIdeal.τ) (Cert.ReferenceFfnCIdeal.main (F := Ideal))) ⟨m', fun _ => 0, g'⟩ (fun r => ∀ c : Dev Cert.ReferenceFfnCIdeal.nD,
          r.2.mem ((c.tc : Thread Cert.ReferenceFfnCIdeal.nD Cert.ReferenceFfnCIdeal.τ).loc Cert.ReferenceFfnCIdeal.main_v33) = v0 c
          ∧ r.2.mem ((c.tc : Thread Cert.ReferenceFfnCIdeal.nD Cert.ReferenceFfnCIdeal.τ).loc Cert.ReferenceFfnCIdeal.main_v36) = v1 c
          ∧ r.2.mem ((c.tc : Thread Cert.ReferenceFfnCIdeal.nD Cert.ReferenceFfnCIdeal.τ).loc Cert.ReferenceFfnCIdeal.main_v39) = v2 c
          ∧ r.2.mem ((c.tc : Thread Cert.ReferenceFfnCIdeal.nD Cert.ReferenceFfnCIdeal.τ).loc Cert.ReferenceFfnCIdeal.main_v2) = v3 c
          ∧ r.2.mem ((c.tc : Thread Cert.ReferenceFfnCIdeal.nD Cert.ReferenceFfnCIdeal.τ).loc Cert.ReferenceFfnCIdeal.main_v4) = v4 c
          ∧ r.2.mem ((c.tc : Thread Cert.ReferenceFfnCIdeal.nD Cert.ReferenceFfnCIdeal.τ).loc Cert.ReferenceFfnCIdeal.main_v9) = v5 c
          ∧ r.2.mem ((c.tc : Thread Cert.ReferenceFfnCIdeal.nD Cert.ReferenceFfnCIdeal.τ).loc Cert.ReferenceFfnCIdeal.main_v41) = v6 c
          ∧ r.2.mem ((c.tc : Thread Cert.ReferenceFfnCIdeal.nD Cert.ReferenceFfnCIdeal.τ).loc Cert.ReferenceFfnCIdeal.main_arg0) = m' ((c.tc : Thread Cert.ReferenceFfnCIdeal.nD Cert.ReferenceFfnCIdeal.τ).loc Cert.ReferenceFfnCIdeal.main_arg0)
          ∧ r.2.mem ((c.tc : Thread Cert.ReferenceFfnCIdeal.nD Cert.ReferenceFfnCIdeal.τ).loc Cert.ReferenceFfnCIdeal.main_arg1) = m' ((c.tc : Thread Cert.ReferenceFfnCIdeal.nD Cert.ReferenceFfnCIdeal.τ).loc Cert.ReferenceFfnCIdeal.main_arg1)
          ∧ r.2.mem ((c.tc : Thread Cert.ReferenceFfnCIdeal.nD Cert.ReferenceFfnCIdeal.τ).loc Cert.ReferenceFfnCIdeal.main_arg2) = m' ((c.tc : Thread Cert.ReferenceFfnCIdeal.nD Cert.ReferenceFfnCIdeal.τ).loc Cert.ReferenceFfnCIdeal.main_arg2)
          ∧ r.2.mem ((c.tc : Thread Cert.ReferenceFfnCIdeal.nD Cert.ReferenceFfnCIdeal.τ).loc Cert.ReferenceFfnCIdeal.main_arg3) = m' ((c.tc : Thread Cert.ReferenceFfnCIdeal.nD Cert.ReferenceFfnCIdeal.τ).loc Cert.ReferenceFfnCIdeal.main_arg3)
          ∧ r.2.mem ((c.tc : Thread Cert.ReferenceFfnCIdeal.nD Cert.ReferenceFfnCIdeal.τ).loc Cert.ReferenceFfnCIdeal.main_arg4) = m' ((c.tc : Thread Cert.ReferenceFfnCIdeal.nD Cert.ReferenceFfnCIdeal.τ).loc Cert.ReferenceFfnCIdeal.main_arg4)
          ∧ r.2.mem ((c.tc : Thread Cert.ReferenceFfnCIdeal.nD Cert.ReferenceFfnCIdeal.τ).loc Cert.ReferenceFfnCIdeal.main_arg5) = m' ((c.tc : Thread Cert.ReferenceFfnCIdeal.nD Cert.ReferenceFfnCIdeal.τ).loc Cert.ReferenceFfnCIdeal.main_arg5)
          ∧ r.2.mem ((c.tc : Thread Cert.ReferenceFfnCIdeal.nD Cert.ReferenceFfnCIdeal.τ).loc Cert.ReferenceFfnCIdeal.main_arg6) = m' ((c.tc : Thread Cert.ReferenceFfnCIdeal.nD Cert.ReferenceFfnCIdeal.τ).loc Cert.ReferenceFfnCIdeal.main_arg6)
          ∧ r.2.mem ((c.tc : Thread Cert.ReferenceFfnCIdeal.nD Cert.ReferenceFfnCIdeal.τ).loc Cert.ReferenceFfnCIdeal.main_arg7) = m' ((c.tc : Thread Cert.ReferenceFfnCIdeal.nD Cert.ReferenceFfnCIdeal.τ).loc Cert.ReferenceFfnCIdeal.main_arg7)
          ∧ r.2.mem ((c.tc : Thread Cert.ReferenceFfnCIdeal.nD Cert.ReferenceFfnCIdeal.τ).loc Cert.ReferenceFfnCIdeal.main_arg8) = m' ((c.tc : Thread Cert.ReferenceFfnCIdeal.nD Cert.ReferenceFfnCIdeal.τ).loc Cert.ReferenceFfnCIdeal.main_arg8))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelFfnA : Cert.KernelFfnA.Facts) (hKernelFfnAIdeal : Cert.KernelFfnAIdeal.Facts) (hReferenceFfnAIdeal : Cert.ReferenceFfnAIdeal.Facts) (hKernelFfnB : Cert.KernelFfnB.Facts) (hKernelFfnBIdeal : Cert.KernelFfnBIdeal.Facts) (hReferenceFfnBIdeal : Cert.ReferenceFfnBIdeal.Facts) (hKernelFfnC : Cert.KernelFfnC.Facts) (hKernelFfnCIdeal : Cert.KernelFfnCIdeal.Facts) (hReferenceFfnCIdeal : Cert.ReferenceFfnCIdeal.Facts),
    quiescent_Kernel (hKernel := hKernel)
    ∧ quiescent_KernelIdeal (hKernelIdeal := hKernelIdeal)
    ∧ quiescent_ReferenceIdeal (hReferenceIdeal := hReferenceIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelFfnA (hKernelFfnA := hKernelFfnA)
    ∧ quiescent_KernelFfnAIdeal (hKernelFfnAIdeal := hKernelFfnAIdeal)
    ∧ quiescent_ReferenceFfnAIdeal (hReferenceFfnAIdeal := hReferenceFfnAIdeal)
    ∧ quiescent_KernelFfnB (hKernelFfnB := hKernelFfnB)
    ∧ quiescent_KernelFfnBIdeal (hKernelFfnBIdeal := hKernelFfnBIdeal)
    ∧ quiescent_ReferenceFfnBIdeal (hReferenceFfnBIdeal := hReferenceFfnBIdeal)
    ∧ quiescent_KernelFfnC (hKernelFfnC := hKernelFfnC)
    ∧ quiescent_KernelFfnCIdeal (hKernelFfnCIdeal := hKernelFfnCIdeal)
    ∧ quiescent_ReferenceFfnCIdeal (hReferenceFfnCIdeal := hReferenceFfnCIdeal)
    ∧ preserves_Kernel_KernelIdeal
    ∧ algebraic_KernelIdeal_ReferenceIdeal (hKernelIdeal := hKernelIdeal) (hReferenceIdeal := hReferenceIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelFfnA_KernelFfnAIdeal
    ∧ algebraic_KernelFfnAIdeal_ReferenceFfnAIdeal (hKernelFfnAIdeal := hKernelFfnAIdeal) (hReferenceFfnAIdeal := hReferenceFfnAIdeal)
    ∧ preserves_KernelFfnB_KernelFfnBIdeal
    ∧ algebraic_KernelFfnBIdeal_ReferenceFfnBIdeal (hKernelFfnBIdeal := hKernelFfnBIdeal) (hReferenceFfnBIdeal := hReferenceFfnBIdeal)
    ∧ preserves_KernelFfnC_KernelFfnCIdeal
    ∧ algebraic_KernelFfnCIdeal_ReferenceFfnCIdeal (hKernelFfnCIdeal := hKernelFfnCIdeal) (hReferenceFfnCIdeal := hReferenceFfnCIdeal)
-- ==== Kernel.lean ====
abbrev S2x8192x1024 : Shape := ⟨3, ![2, 8192, 1024]⟩
abbrev S1024 : Shape := ⟨1, ![1024]⟩
abbrev S1024x3584 : Shape := ⟨2, ![1024, 3584]⟩
abbrev S3x512 : Shape := ⟨2, ![3, 512]⟩
abbrev S4x128 : Shape := ⟨2, ![4, 128]⟩
abbrev S512 : Shape := ⟨1, ![512]⟩
abbrev S1024x1024 : Shape := ⟨2, ![1024, 1024]⟩
abbrev S1x1024 : Shape := ⟨2, ![1, 1024]⟩
abbrev S1x512 : Shape := ⟨2, ![1, 512]⟩
abbrev S1x1024x1024 : Shape := ⟨3, ![1, 1024, 1024]⟩
abbrev S256x3584 : Shape := ⟨2, ![256, 3584]⟩
abbrev S256x1024 : Shape := ⟨2, ![256, 1024]⟩
abbrev S4x128x128 : Shape := ⟨3, ![4, 128, 128]⟩
abbrev S264x512 : Shape := ⟨2, ![264, 512]⟩
abbrev S1x256x1024 : Shape := ⟨3, ![1, 256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S8x512 : Shape := ⟨2, ![8, 512]⟩
abbrev S256x512 : Shape := ⟨2, ![256, 512]⟩
abbrev S32x512 : Shape := ⟨2, ![32, 512]⟩
abbrev S256x128 : Shape := ⟨2, ![256, 128]⟩
abbrev S128x256 : Shape := ⟨2, ![128, 256]⟩
abbrev S128x1024 : Shape := ⟨2, ![128, 1024]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 12
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3584, .bf16⟩
  | .hbm, ⟨3, _⟩ => ⟨S3x512, .f32⟩
  | .hbm, ⟨4, _⟩ => ⟨S4x128, .f32⟩
  | .hbm, ⟨5, _⟩ => ⟨S3x512, .f32⟩
  | .hbm, ⟨6, _⟩ => ⟨S512, .f32⟩
  | .hbm, ⟨7, _⟩ => ⟨S1024x1024, .bf16⟩
  | .hbm, ⟨8, _⟩ => ⟨S1x1024, .f32⟩
  | .hbm, ⟨9, _⟩ => ⟨S1x512, .f32⟩
  | .hbm, ⟨10, _⟩ => ⟨S1x512, .f32⟩
  | .hbm, ⟨11, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024, .f32⟩
  | .local _ .vmem, ⟨5, _⟩ => ⟨S1024x3584, .bf16⟩
  | .local _ .vmem, ⟨6, _⟩ => ⟨S3x512, .f32⟩
  | .local _ .vmem, ⟨7, _⟩ => ⟨S1x512, .f32⟩
  | .local _ .vmem, ⟨8, _⟩ => ⟨S3x512, .f32⟩
  | .local _ .vmem, ⟨9, _⟩ => ⟨S1x512, .f32⟩
  | .local _ .vmem, ⟨10, _⟩ => ⟨S1024x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S256x3584, .f32⟩
  | .local _ .vmem, ⟨14, _⟩ => ⟨S256x3584, .f32⟩
  | .local _ .vmem, ⟨15, _⟩ => ⟨S256x1024, .bf16⟩
  | .local _ .vmem, ⟨16, _⟩ => ⟨S4x128x128, .f32⟩
  | .local _ .vmem, ⟨17, _⟩ => ⟨S264x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x8192x1024 : Shape := ⟨3, ![2, 8192, 1024]⟩
abbrev S1024 : Shape := ⟨1, ![1024]⟩
abbrev S1024x3584 : Shape := ⟨2, ![1024, 3584]⟩
abbrev S3x512 : Shape := ⟨2, ![3, 512]⟩
abbrev S4x128 : Shape := ⟨2, ![4, 128]⟩
abbrev S512 : Shape := ⟨1, ![512]⟩
abbrev S1024x1024 : Shape := ⟨2, ![1024, 1024]⟩
abbrev S_ : Shape := ⟨0, ![]⟩
abbrev S1x512 : Shape := ⟨2, ![1, 512]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3584 : Shape := ⟨3, ![2, 8192, 3584]⟩
abbrev S2x8192x512 : Shape := ⟨3, ![2, 8192, 512]⟩
abbrev S2x8192x4x128 : Shape := ⟨4, ![2, 8192, 4, 128]⟩
abbrev S1x1x4x128 : Shape := ⟨4, ![1, 1, 4, 128]⟩
abbrev S2x256x32x4x128 : Shape := ⟨5, ![2, 256, 32, 4, 128]⟩
abbrev S2x4x256x32x128 : Shape := ⟨5, ![2, 4, 256, 32, 128]⟩
abbrev S2x4x256x1x128 : Shape := ⟨5, ![2, 4, 256, 1, 128]⟩
abbrev S32x32 : Shape := ⟨2, ![32, 32]⟩
abbrev S2x4x256x32x32 : Shape := ⟨5, ![2, 4, 256, 32, 32]⟩
abbrev S2x4x256x128x128 : Shape := ⟨5, ![2, 4, 256, 128, 128]⟩
abbrev S2x4x256x128 : Shape := ⟨4, ![2, 4, 256, 128]⟩
abbrev S2x4x128x128 : Shape := ⟨4, ![2, 4, 128, 128]⟩
abbrev S256x2x4x128 : Shape := ⟨4, ![256, 2, 4, 128]⟩
abbrev S256x2x4x128x128 : Shape := ⟨5, ![256, 2, 4, 128, 128]⟩
abbrev S1x2x4x128 : Shape := ⟨4, ![1, 2, 4, 128]⟩
abbrev S2x4x128 : Shape := ⟨3, ![2, 4, 128]⟩
abbrev S1x2x4x128x128 : Shape := ⟨5, ![1, 2, 4, 128, 128]⟩
abbrev S2x4x128x1 : Shape := ⟨4, ![2, 4, 128, 1]⟩
abbrev S2x8192x4 : Shape := ⟨3, ![2, 8192, 4]⟩
abbrev S2x8192x4x1 : Shape := ⟨4, ![2, 8192, 4, 1]⟩
abbrev S2x8194x512 : Shape := ⟨3, ![2, 8194, 512]⟩
abbrev S1x1x512 : Shape := ⟨3, ![1, 1, 512]⟩

abbrev nBuf : Space → Nat
  | .hbm => 233
  | .vmem => 0
  | .smem => 0
  | _ => 0

abbrev hbmTy0_0 (i : Nat) : BufTy := match i % 128 with
  | 0 => ⟨S2x8192x1024, .f32⟩
  | 1 => ⟨S1024, .f32⟩
  | 2 => ⟨S1024x3584, .bf16⟩
  | 3 => ⟨S3x512, .f32⟩
  | 4 => ⟨S4x128, .f32⟩
  | 5 => ⟨S3x512, .f32⟩
  | 6 => ⟨S512, .f32⟩
  | 7 => ⟨S1024x1024, .bf16⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S3x512, .f32⟩
  | 15 => ⟨S3x512, .f32⟩
  | 16 => ⟨S3x512, .f32⟩
  | 17 => ⟨S_, .f32⟩
  | 18 => ⟨S512, .f32⟩
  | 19 => ⟨S1x512, .f32⟩
  | 20 => ⟨S3x512, .f32⟩
  | 21 => ⟨S3x512, .f32⟩
  | 22 => ⟨S_, .f32⟩
  | 23 => ⟨S_, .f32⟩
  | 24 => ⟨S3x512, .f32⟩
  | 25 => ⟨S2x8192x1024, .f32⟩
  | 26 => ⟨S_, .f32⟩
  | 27 => ⟨S2x8192, .f32⟩
  | 28 => ⟨S2x8192x1, .f32⟩
  | 29 => ⟨S_, .f32⟩
  | 30 => ⟨S2x8192x1, .f32⟩
  | 31 => ⟨S2x8192x1, .f32⟩
  | 32 => ⟨S_, .f32⟩
  | 33 => ⟨S2x8192x1, .f32⟩
  | 34 => ⟨S2x8192x1, .f32⟩
  | 35 => ⟨S2x8192x1, .f32⟩
  | 36 => ⟨S2x8192x1024, .f32⟩
  | 37 => ⟨S2x8192x1024, .f32⟩
  | 38 => ⟨S1x1x1024, .f32⟩
  | 39 => ⟨S2x8192x1024, .f32⟩
  | 40 => ⟨S2x8192x1024, .f32⟩
  | 41 => ⟨S1024x3584, .f32⟩
  | 42 => ⟨S1024x1024, .f32⟩
  | 43 => ⟨S1x512, .f32⟩
  | 44 => ⟨S512, .f32⟩
  | 45 => ⟨S2x8192x3584, .f32⟩
  | 46 => ⟨S2x8192x512, .f32⟩
  | 47 => ⟨S2x8192x512, .f32⟩
  | 48 => ⟨S2x8192x512, .f32⟩
  | 49 => ⟨S2x8192x512, .f32⟩
  | 50 => ⟨S2x8192x512, .f32⟩
  | 51 => ⟨S2x8192x512, .f32⟩
  | 52 => ⟨S2x8192x512, .f32⟩
  | 53 => ⟨S2x8192x4x128, .f32⟩
  | 54 => ⟨S2x8192x4x128, .f32⟩
  | 55 => ⟨S2x8192x4x128, .f32⟩
  | 56 => ⟨S4x128, .f32⟩
  | 57 => ⟨S_, .f32⟩
  | 58 => ⟨S4x128, .f32⟩
  | 59 => ⟨S4x128, .f32⟩
  | 60 => ⟨S2x8192x4x128, .f32⟩
  | 61 => ⟨S2x8192x4x128, .f32⟩
  | 62 => ⟨S_, .f32⟩
  | 63 => ⟨S2x8192x4x128, .f32⟩
  | 64 => ⟨S2x8192x4x128, .f32⟩
  | 65 => ⟨S_, .f32⟩
  | 66 => ⟨S2x8192x4x128, .f32⟩
  | 67 => ⟨S2x8192x4x128, .f32⟩
  | 68 => ⟨S1x1x4x128, .f32⟩
  | 69 => ⟨S2x8192x4x128, .f32⟩
  | 70 => ⟨S2x8192x4x128, .f32⟩
  | 71 => ⟨S1x1x4x128, .f32⟩
  | 72 => ⟨S2x8192x4x128, .f32⟩
  | 73 => ⟨S2x8192x4x128, .f32⟩
  | 74 => ⟨S2x8192x4x128, .f32⟩
  | 75 => ⟨S2x8192x4x128, .f32⟩
  | 76 => ⟨S_, .f32⟩
  | 77 => ⟨S2x8192x4x128, .f32⟩
  | 78 => ⟨S2x8192x4x128, .f32⟩
  | 79 => ⟨S_, .f32⟩
  | 80 => ⟨S2x8192x4x128, .f32⟩
  | 81 => ⟨S2x8192x4x128, .f32⟩
  | 82 => ⟨S2x8192x4x128, .f32⟩
  | 83 => ⟨S2x256x32x4x128, .f32⟩
  | 84 => ⟨S2x4x256x32x128, .f32⟩
  | 85 => ⟨S_, .f32⟩
  | 86 => ⟨S2x8192x4x128, .f32⟩
  | 87 => ⟨S2x8192x4x128, .f32⟩
  | 88 => ⟨S2x256x32x4x128, .f32⟩
  | 89 => ⟨S2x4x256x32x128, .f32⟩
  | 90 => ⟨S2x256x32x4x128, .f32⟩
  | 91 => ⟨S2x4x256x32x128, .f32⟩
  | 92 => ⟨S2x8192x4x128, .f32⟩
  | 93 => ⟨S2x256x32x4x128, .f32⟩
  | 94 => ⟨S2x4x256x32x128, .f32⟩
  | 95 => ⟨S_, .f32⟩
  | 96 => ⟨S_, .f32⟩
  | 97 => ⟨S2x4x256x32x128, .f32⟩
  | 98 => ⟨S2x4x256x1x128, .f32⟩
  | 99 => ⟨S2x4x256x32x128, .f32⟩
  | 100 => ⟨S2x4x256x32x128, .f32⟩
  | 101 => ⟨S2x4x256x32x128, .f32⟩
  | 102 => ⟨S2x4x256x32x128, .f32⟩
  | 103 => ⟨S2x4x256x32x128, .f32⟩
  | 104 => ⟨S_, .i1⟩
  | 105 => ⟨S32x32, .i1⟩
  | 106 => ⟨S32x32, .i32⟩
  | 107 => ⟨S_, .i32⟩
  | 108 => ⟨S32x32, .i32⟩
  | 109 => ⟨S32x32, .i32⟩
  | 110 => ⟨S32x32, .i32⟩
  | 111 => ⟨S32x32, .i1⟩
  | 112 => ⟨S_, .i1⟩
  | 113 => ⟨S32x32, .i1⟩
  | 114 => ⟨S32x32, .i1⟩
  | 115 => ⟨S2x4x256x32x32, .f32⟩
  | 116 => ⟨S_, .f32⟩
  | 117 => ⟨S_, .f32⟩
  | 118 => ⟨S2x4x256x32x32, .i1⟩
  | 119 => ⟨S2x4x256x32x32, .f32⟩
  | 120 => ⟨S2x4x256x32x32, .f32⟩
  | 121 => ⟨S2x4x256x32x128, .f32⟩
  | 122 => ⟨S2x4x256x32x128, .f32⟩
  | 123 => ⟨S2x4x256x32x128, .f32⟩
  | 124 => ⟨S2x4x256x32x128, .f32⟩
  | 125 => ⟨S2x4x256x32x128, .f32⟩
  | 126 => ⟨S2x4x256x128x128, .f32⟩
  | 127 => ⟨S2x4x256x128, .f32⟩
  | _ => ⟨S2x8192x1024, .f32⟩

abbrev hbmTy0_1 (i : Nat) : BufTy := match i % 128 with
  | 0 => ⟨S2x4x256x128, .f32⟩
  | 1 => ⟨S_, .f32⟩
  | 2 => ⟨S2x4x128x128, .f32⟩
  | 3 => ⟨S256x2x4x128, .f32⟩
  | 4 => ⟨S256x2x4x128x128, .f32⟩
  | 5 => ⟨S_, .f32⟩
  | 6 => ⟨S256x2x4x128x128, .f32⟩
  | 7 => ⟨S_, .i32⟩
  | 8 => ⟨S256x2x4x128, .f32⟩
  | 9 => ⟨S256x2x4x128x128, .f32⟩
  | 10 => ⟨S_, .i32⟩
  | 11 => ⟨S2x4x128x128, .f32⟩
  | 12 => ⟨S256x2x4x128x128, .f32⟩
  | 13 => ⟨S_, .i32⟩
  | 14 => ⟨S_, .i1⟩
  | 15 => ⟨S_, .i32⟩
  | 16 => ⟨S_, .i32⟩
  | 17 => ⟨S_, .i32⟩
  | 18 => ⟨S1x2x4x128, .f32⟩
  | 19 => ⟨S2x4x128, .f32⟩
  | 20 => ⟨S_, .i32⟩
  | 21 => ⟨S_, .i32⟩
  | 22 => ⟨S_, .i32⟩
  | 23 => ⟨S_, .i32⟩
  | 24 => ⟨S1x2x4x128x128, .f32⟩
  | 25 => ⟨S2x4x128x128, .f32⟩
  | 26 => ⟨S2x4x128x1, .f32⟩
  | 27 => ⟨S2x4x128x128, .f32⟩
  | 28 => ⟨S2x4x128x128, .f32⟩
  | 29 => ⟨S2x4x128x128, .f32⟩
  | 30 => ⟨S1x2x4x128x128, .f32⟩
  | 31 => ⟨S_, .i32⟩
  | 32 => ⟨S_, .i32⟩
  | 33 => ⟨S_, .i32⟩
  | 34 => ⟨S_, .i32⟩
  | 35 => ⟨S256x2x4x128x128, .f32⟩
  | 36 => ⟨S_, .i32⟩
  | 37 => ⟨S_, .i32⟩
  | 38 => ⟨S2x4x256x128x128, .f32⟩
  | 39 => ⟨S2x4x256x32x128, .f32⟩
  | 40 => ⟨S2x4x256x32x128, .f32⟩
  | 41 => ⟨S2x256x32x4x128, .f32⟩
  | 42 => ⟨S2x8192x4x128, .f32⟩
  | 43 => ⟨S2x8192x4x128, .f32⟩
  | 44 => ⟨S_, .f32⟩
  | 45 => ⟨S2x8192x4, .f32⟩
  | 46 => ⟨S2x8192x4x1, .f32⟩
  | 47 => ⟨S_, .f32⟩
  | 48 => ⟨S2x8192x4x1, .f32⟩
  | 49 => ⟨S2x8192x4x1, .f32⟩
  | 50 => ⟨S_, .f32⟩
  | 51 => ⟨S2x8192x4x1, .f32⟩
  | 52 => ⟨S2x8192x4x1, .f32⟩
  | 53 => ⟨S2x8192x4x1, .f32⟩
  | 54 => ⟨S2x8192x4x128, .f32⟩
  | 55 => ⟨S2x8192x4x128, .f32⟩
  | 56 => ⟨S1x1x4x128, .f32⟩
  | 57 => ⟨S2x8192x4x128, .f32⟩
  | 58 => ⟨S2x8192x4x128, .f32⟩
  | 59 => ⟨S2x8192x4x128, .f32⟩
  | 60 => ⟨S2x8192x4x128, .f32⟩
  | 61 => ⟨S2x8192x4x128, .f32⟩
  | 62 => ⟨S_, .f32⟩
  | 63 => ⟨S2x8192x4x128, .f32⟩
  | 64 => ⟨S2x8192x4x128, .f32⟩
  | 65 => ⟨S_, .f32⟩
  | 66 => ⟨S2x8192x4x128, .f32⟩
  | 67 => ⟨S2x8192x4x128, .f32⟩
  | 68 => ⟨S2x8192x4x128, .f32⟩
  | 69 => ⟨S2x8192x4x128, .f32⟩
  | 70 => ⟨S2x8192x512, .f32⟩
  | 71 => ⟨S2x8192x512, .f32⟩
  | 72 => ⟨S_, .i32⟩
  | 73 => ⟨S_, .f32⟩
  | 74 => ⟨S2x8194x512, .f32⟩
  | 75 => ⟨S1x512, .f32⟩
  | 76 => ⟨S512, .f32⟩
  | 77 => ⟨S2x8192x512, .f32⟩
  | 78 => ⟨S1x1x512, .f32⟩
  | 79 => ⟨S2x8192x512, .f32⟩
  | 80 => ⟨S2x8192x512, .f32⟩
  | 81 => ⟨S_, .f32⟩
  | 82 => ⟨S2x8192x512, .f32⟩
  | 83 => ⟨S2x8192x512, .f32⟩
  | 84 => ⟨S1x512, .f32⟩
  | 85 => ⟨S512, .f32⟩
  | 86 => ⟨S2x8192x512, .f32⟩
  | 87 => ⟨S1x1x512, .f32⟩
  | 88 => ⟨S2x8192x512, .f32⟩
  | 89 => ⟨S2x8192x512, .f32⟩
  | 90 => ⟨S2x8192x512, .f32⟩
  | 91 => ⟨S1x512, .f32⟩
  | 92 => ⟨S512, .f32⟩
  | 93 => ⟨S2x8192x512, .f32⟩
  | 94 => ⟨S1x1x512, .f32⟩
  | 95 => ⟨S2x8192x512, .f32⟩
  | 96 => ⟨S2x8192x512, .f32⟩
  | 97 => ⟨S2x8192x512, .f32⟩
  | 98 => ⟨S1x1x512, .f32⟩
  | 99 => ⟨S2x8192x512, .f32⟩
  | 100 => ⟨S2x8192x512, .f32⟩
  | 101 => ⟨S2x8192x512, .f32⟩
  | 102 => ⟨S2x8192x1024, .f32⟩
  | 103 => ⟨S2x8192x1024, .f32⟩
  | 104 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_call0_cst : Ref sig .tc := ⟨.hbm, 22, rfl⟩
abbrev main_call0_call0_v0 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_call0_cst : Ref sig .tc := ⟨.hbm, 95, rfl⟩
abbrev main_call2_call0_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c : Ref sig .tc := ⟨.hbm, 104, rfl⟩
abbrev main_v74 : Ref sig .tc := ⟨.hbm, 105, rfl⟩
abbrev main_call3_v0 : Ref sig .tc := ⟨.hbm, 106, rfl⟩
abbrev main_call3_c : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_c_0 : Ref sig .tc := ⟨.hbm, 112, rfl⟩
abbrev main_call3_v5 : Ref sig .tc := ⟨.hbm, 113, rfl⟩
abbrev main_v75 : Ref sig .tc := ⟨.hbm, 114, rfl⟩
abbrev main_v76 : Ref sig .tc := ⟨.hbm, 115, rfl⟩
abbrev main_cst_9 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_10 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_11 : Ref sig .tc := ⟨.hbm, 133, rfl⟩
abbrev main_v89 : Ref sig .tc := ⟨.hbm, 134, rfl⟩
abbrev main_c_12 : Ref sig .tc := ⟨.hbm, 135, rfl⟩
abbrev main_v90_0 : Ref sig .tc := ⟨.hbm, 136, rfl⟩
abbrev main_v90_1 : Ref sig .tc := ⟨.hbm, 137, rfl⟩
abbrev main_v90_2 : Ref sig .tc := ⟨.hbm, 138, rfl⟩
abbrev main_v90_3 : Ref sig .tc := ⟨.hbm, 139, rfl⟩
abbrev main_v90_4 : Ref sig .tc := ⟨.hbm, 140, rfl⟩
abbrev main_while0c_c_22 : Ref sig .tc := ⟨.hbm, 141, rfl⟩
abbrev main_while0c_v144 : Ref sig .tc := ⟨.hbm, 142, rfl⟩
abbrev main_while0b_call5_c : Ref sig .tc := ⟨.hbm, 143, rfl⟩
abbrev main_while0b_call5_c_0 : Ref sig .tc := ⟨.hbm, 144, rfl⟩
abbrev main_while0b_call5_c_1 : Ref sig .tc := ⟨.hbm, 145, rfl⟩
abbrev main_while0b_call5_v0 : Ref sig .tc := ⟨.hbm, 146, rfl⟩
abbrev main_while0b_v144 : Ref sig .tc := ⟨.hbm, 147, rfl⟩
abbrev main_while0b_call6_c : Ref sig .tc := ⟨.hbm, 148, rfl⟩
abbrev main_while0b_call6_c_0 : Ref sig .tc := ⟨.hbm, 149, rfl⟩
abbrev main_while0b_call6_c_1 : Ref sig .tc := ⟨.hbm, 150, rfl⟩
abbrev main_while0b_call6_c_2 : Ref sig .tc := ⟨.hbm, 151, rfl⟩
abbrev main_while0b_call6_v0 : Ref sig .tc := ⟨.hbm, 152, rfl⟩
abbrev main_while0b_v145 : Ref sig .tc := ⟨.hbm, 153, rfl⟩
abbrev main_while0b_v146 : Ref sig .tc := ⟨.hbm, 154, rfl⟩
abbrev main_while0b_v147 : Ref sig .tc := ⟨.hbm, 155, rfl⟩
abbrev main_while0b_v148 : Ref sig .tc := ⟨.hbm, 156, rfl⟩
abbrev main_while0b_v149 : Ref sig .tc := ⟨.hbm, 157, rfl⟩
abbrev main_while0b_call7_v0 : Ref sig .tc := ⟨.hbm, 158, rfl⟩
abbrev main_while0b_call7_c : Ref sig .tc := ⟨.hbm, 159, rfl⟩
abbrev main_while0b_call7_c_0 : Ref sig .tc := ⟨.hbm, 160, rfl⟩
abbrev main_while0b_call7_c_1 : Ref sig .tc := ⟨.hbm, 161, rfl⟩
abbrev main_while0b_call7_c_2 : Ref sig .tc := ⟨.hbm, 162, rfl⟩
abbrev main_while0b_v150 : Ref sig .tc := ⟨.hbm, 163, rfl⟩
abbrev main_while0b_c_22 : Ref sig .tc := ⟨.hbm, 164, rfl⟩
abbrev main_while0b_v151 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_cst_13 : Ref sig .tc := ⟨.hbm, 172, rfl⟩
abbrev main_v97 : Ref sig .tc := ⟨.hbm, 173, rfl⟩
abbrev main_v98 : Ref sig .tc := ⟨.hbm, 174, rfl⟩
abbrev main_cst_14 : Ref sig .tc := ⟨.hbm, 175, rfl⟩
abbrev main_v99 : Ref sig .tc := ⟨.hbm, 176, rfl⟩
abbrev main_v100 : Ref sig .tc := ⟨.hbm, 177, rfl⟩
abbrev main_cst_15 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_call8_v0 : Ref sig .tc := ⟨.hbm, 188, rfl⟩
abbrev main_call8_v1 : Ref sig .tc := ⟨.hbm, 189, rfl⟩
abbrev main_call8_cst : Ref sig .tc := ⟨.hbm, 190, rfl⟩
abbrev main_call8_v2 : Ref sig .tc := ⟨.hbm, 191, rfl⟩
abbrev main_call8_v3 : Ref sig .tc := ⟨.hbm, 192, rfl⟩
abbrev main_call8_cst_0 : Ref sig .tc := ⟨.hbm, 193, rfl⟩
abbrev main_call8_v4 : Ref sig .tc := ⟨.hbm, 194, rfl⟩
abbrev main_call8_v5 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_c_16 : Ref sig .tc := ⟨.hbm, 200, rfl⟩
abbrev main_call9_v0 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_cst_17 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩

abbrev nD : Nat := 1
abbrev τ : Topo := Topo.v7x

variable {F : FTy → Type} [FloatOps F]

abbrev main_while0_count : Scf.Loop 32 := ⟨0#32, 256#32, 1#32⟩
-- ==== KernelFfn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2816 : Shape := ⟨2, ![1024, 2816]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceFfnIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x5632, .f32⟩
  | .hbm, ⟨22, _⟩ => ⟨S2816x1024, .f32⟩
  | .hbm, ⟨23, _⟩ => ⟨S16384x5632, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== KernelFfnA.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S2x2x1024x5632 : Shape := ⟨4, ![2, 2, 1024, 5632]⟩
abbrev S2x2x2816x1024 : Shape := ⟨4, ![2, 2, 2816, 1024]⟩
abbrev S1x1024x3584 : Shape := ⟨3, ![1, 1024, 3584]⟩
abbrev S1x1024x1024 : Shape := ⟨3, ![1, 1024, 1024]⟩
abbrev S1x1024 : Shape := ⟨2, ![1, 1024]⟩
abbrev S1024x3584 : Shape := ⟨2, ![1024, 3584]⟩
abbrev S1024x1024 : Shape := ⟨2, ![1024, 1024]⟩
abbrev S1024x2816 : Shape := ⟨2, ![1024, 2816]⟩
abbrev S1x1x64x5632 : Shape := ⟨4, ![1, 1, 64, 5632]⟩
abbrev S1x1x176x1024 : Shape := ⟨4, ![1, 1, 176, 1024]⟩
abbrev S1x64x3584 : Shape := ⟨3, ![1, 64, 3584]⟩
abbrev S1x64x1024 : Shape := ⟨3, ![1, 64, 1024]⟩
abbrev S64x5632 : Shape := ⟨2, ![64, 5632]⟩
abbrev S176x1024 : Shape := ⟨2, ![176, 1024]⟩
abbrev S64x3584 : Shape := ⟨2, ![64, 3584]⟩
abbrev S64x1024 : Shape := ⟨2, ![64, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 16
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S2x2x1024x5632, .f32⟩
  | .hbm, ⟨6, _⟩ => ⟨S2x2x2816x1024, .f32⟩
  | .hbm, ⟨7, _⟩ => ⟨S1x1024x3584, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S1024x5632, .bf16⟩
  | .hbm, ⟨13, _⟩ => ⟨S2816x1024, .bf16⟩
  | .hbm, ⟨14, _⟩ => ⟨S1024x3584, .bf16⟩
  | .hbm, ⟨15, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1x64x5632, .f32⟩
  | .local _ .vmem, ⟨8, _⟩ => ⟨S1x1x64x5632, .f32⟩
  | .local _ .vmem, ⟨9, _⟩ => ⟨S1x1x176x1024, .f32⟩
  | .local _ .vmem, ⟨10, _⟩ => ⟨S1x1x176x1024, .f32⟩
  | .local _ .vmem, ⟨11, _⟩ => ⟨S1x64x3584, .f32⟩
  | .local _ .vmem, ⟨12, _⟩ => ⟨S1x64x3584, .f32⟩
  | .local _ .vmem, ⟨13, _⟩ => ⟨S1x64x1024, .f32⟩
  | .local _ .vmem, ⟨14, _⟩ => ⟨S1x64x1024, .f32⟩
  | .local _ .vmem, ⟨15, _⟩ => ⟨S1024x1024, .f32⟩
  | .local _ .vmem, ⟨16, _⟩ => ⟨S1024x1024, .f32⟩
  | .local _ .vmem, ⟨17, _⟩ => ⟨S64x5632, .bf16⟩
  | .local _ .vmem, ⟨18, _⟩ => ⟨S64x5632, .bf16⟩
  | .local _ .vmem, ⟨19, _⟩ => ⟨S176x1024, .bf16⟩
  | .local _ .vmem, ⟨20, _⟩ => ⟨S176x1024, .bf16⟩
  | .local _ .vmem, ⟨21, _⟩ => ⟨S64x3584, .bf16⟩
  | .local _ .vmem, ⟨22, _⟩ => ⟨S64x3584, .bf16⟩
  | .local _ .vmem, ⟨23, _⟩ => ⟨S64x1024, .bf16⟩
  | .local _ .vmem, ⟨24, _⟩ => ⟨S64x1024, .bf16⟩
  | .local _ .vmem, ⟨25, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_7 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x64x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x3584 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x3584 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceFfnAIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S2x2x1024x5632 : Shape := ⟨4, ![2, 2, 1024, 5632]⟩
abbrev S2x2x2816x1024 : Shape := ⟨4, ![2, 2, 2816, 1024]⟩
abbrev S1x1024x3584 : Shape := ⟨3, ![1, 1024, 3584]⟩
abbrev S1x1024x1024 : Shape := ⟨3, ![1, 1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S1x1x1024x5632 : Shape := ⟨4, ![1, 1, 1024, 5632]⟩
abbrev S1x1x2816x1024 : Shape := ⟨4, ![1, 1, 2816, 1024]⟩
abbrev S1024x3584 : Shape := ⟨2, ![1024, 3584]⟩
abbrev S1024x1024 : Shape := ⟨2, ![1024, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S2x2x1024x5632, .f32⟩
  | .hbm, ⟨6, _⟩ => ⟨S2x2x2816x1024, .f32⟩
  | .hbm, ⟨7, _⟩ => ⟨S1x1024x3584, .f32⟩
  | .hbm, ⟨8, _⟩ => ⟨S1x1024x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x5632, .f32⟩
  | .hbm, ⟨26, _⟩ => ⟨S2816x1024, .f32⟩
  | .hbm, ⟨27, _⟩ => ⟨S16384x5632, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1x1x1024x5632, .f32⟩
  | .hbm, ⟨46, _⟩ => ⟨S1024x5632, .f32⟩
  | .hbm, ⟨47, _⟩ => ⟨S1024x5632, .bf16⟩
  | .hbm, ⟨48, _⟩ => ⟨S1x1x2816x1024, .f32⟩
  | .hbm, ⟨49, _⟩ => ⟨S2816x1024, .f32⟩
  | .hbm, ⟨50, _⟩ => ⟨S2816x1024, .bf16⟩
  | .hbm, ⟨51, _⟩ => ⟨S1024x3584, .f32⟩
  | .hbm, ⟨52, _⟩ => ⟨S1024x3584, .bf16⟩
  | .hbm, ⟨53, _⟩ => ⟨S1024x1024, .f32⟩
  | .hbm, ⟨54, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== KernelFfnB.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S1024x1024 : Shape := ⟨2, ![1024, 1024]⟩
abbrev S1024x2816 : Shape := ⟨2, ![1024, 2816]⟩
abbrev S1x1x64x5632 : Shape := ⟨4, ![1, 1, 64, 5632]⟩
abbrev S1x1x176x1024 : Shape := ⟨4, ![1, 1, 176, 1024]⟩
abbrev S64x5632 : Shape := ⟨2, ![64, 5632]⟩
abbrev S176x1024 : Shape := ⟨2, ![176, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 12
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S2x2x1024x5632, .f32⟩
  | .hbm, ⟨6, _⟩ => ⟨S2x2x2816x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S1024x5632, .bf16⟩
  | .hbm, ⟨11, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1x64x5632, .f32⟩
  | .local _ .vmem, ⟨8, _⟩ => ⟨S1x1x64x5632, .f32⟩
  | .local _ .vmem, ⟨9, _⟩ => ⟨S1x1x176x1024, .f32⟩
  | .local _ .vmem, ⟨10, _⟩ => ⟨S1x1x176x1024, .f32⟩
  | .local _ .vmem, ⟨11, _⟩ => ⟨S1024x1024, .f32⟩
  | .local _ .vmem, ⟨12, _⟩ => ⟨S1024x1024, .f32⟩
  | .local _ .vmem, ⟨13, _⟩ => ⟨S64x5632, .bf16⟩
  | .local _ .vmem, ⟨14, _⟩ => ⟨S64x5632, .bf16⟩
  | .local _ .vmem, ⟨15, _⟩ => ⟨S176x1024, .bf16⟩
  | .local _ .vmem, ⟨16, _⟩ => ⟨S176x1024, .bf16⟩
  | .local _ .vmem, ⟨17, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_7 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x64x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceFfnBIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S2x2x1024x5632 : Shape := ⟨4, ![2, 2, 1024, 5632]⟩
abbrev S2x2x2816x1024 : Shape := ⟨4, ![2, 2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S1x1x1024x5632 : Shape := ⟨4, ![1, 1, 1024, 5632]⟩
abbrev S1x1x2816x1024 : Shape := ⟨4, ![1, 1, 2816, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S2x2x1024x5632, .f32⟩
  | .hbm, ⟨6, _⟩ => ⟨S2x2x2816x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x5632, .f32⟩
  | .hbm, ⟨24, _⟩ => ⟨S2816x1024, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S1x1x1024x5632, .f32⟩
  | .hbm, ⟨44, _⟩ => ⟨S1024x5632, .f32⟩
  | .hbm, ⟨45, _⟩ => ⟨S1024x5632, .bf16⟩
  | .hbm, ⟨46, _⟩ => ⟨S1x1x2816x1024, .f32⟩
  | .hbm, ⟨47, _⟩ => ⟨S2816x1024, .f32⟩
  | .hbm, ⟨48, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== KernelFfnC.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S2x2x1024x5632 : Shape := ⟨4, ![2, 2, 1024, 5632]⟩
abbrev S2x2x2816x1024 : Shape := ⟨4, ![2, 2, 2816, 1024]⟩
abbrev S1x1024x3592 : Shape := ⟨3, ![1, 1024, 3592]⟩
abbrev S1x1024x1024 : Shape := ⟨3, ![1, 1024, 1024]⟩
abbrev S1x1024 : Shape := ⟨2, ![1, 1024]⟩
abbrev S1024x2048 : Shape := ⟨2, ![1024, 2048]⟩
abbrev S1024x1536 : Shape := ⟨2, ![1024, 1536]⟩
abbrev S1024x256 : Shape := ⟨2, ![1024, 256]⟩
abbrev S1024x1024 : Shape := ⟨2, ![1024, 1024]⟩
abbrev S1024x2816 : Shape := ⟨2, ![1024, 2816]⟩
abbrev S1x1x64x5632 : Shape := ⟨4, ![1, 1, 64, 5632]⟩
abbrev S1x1x176x1024 : Shape := ⟨4, ![1, 1, 176, 1024]⟩
abbrev S1x64x3592 : Shape := ⟨3, ![1, 64, 3592]⟩
abbrev S1x64x1024 : Shape := ⟨3, ![1, 64, 1024]⟩
abbrev S64x5632 : Shape := ⟨2, ![64, 5632]⟩
abbrev S176x1024 : Shape := ⟨2, ![176, 1024]⟩
abbrev S64x2048 : Shape := ⟨2, ![64, 2048]⟩
abbrev S64x1536 : Shape := ⟨2, ![64, 1536]⟩
abbrev S64x256 : Shape := ⟨2, ![64, 256]⟩
abbrev S64x1024 : Shape := ⟨2, ![64, 1024]⟩
abbrev S64x3592 : Shape := ⟨2, ![64, 3592]⟩
abbrev S64x128 : Shape := ⟨2, ![64, 128]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x2816 : Shape := ⟨2, ![256, 2816]⟩

abbrev nBuf : Space → Nat
  | .hbm => 18
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S2x2x1024x5632, .f32⟩
  | .hbm, ⟨6, _⟩ => ⟨S2x2x2816x1024, .f32⟩
  | .hbm, ⟨7, _⟩ => ⟨S1x1024x3592, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S1024x5632, .bf16⟩
  | .hbm, ⟨13, _⟩ => ⟨S2816x1024, .bf16⟩
  | .hbm, ⟨14, _⟩ => ⟨S1024x2048, .bf16⟩
  | .hbm, ⟨15, _⟩ => ⟨S1024x1536, .bf16⟩
  | .hbm, ⟨16, _⟩ => ⟨S1024x256, .bf16⟩
  | .hbm, ⟨17, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1x64x5632, .f32⟩
  | .local _ .vmem, ⟨8, _⟩ => ⟨S1x1x64x5632, .f32⟩
  | .local _ .vmem, ⟨9, _⟩ => ⟨S1x1x176x1024, .f32⟩
  | .local _ .vmem, ⟨10, _⟩ => ⟨S1x1x176x1024, .f32⟩
  | .local _ .vmem, ⟨11, _⟩ => ⟨S1x64x3592, .f32⟩
  | .local _ .vmem, ⟨12, _⟩ => ⟨S1x64x3592, .f32⟩
  | .local _ .vmem, ⟨13, _⟩ => ⟨S1x64x1024, .f32⟩
  | .local _ .vmem, ⟨14, _⟩ => ⟨S1x64x1024, .f32⟩
  | .local _ .vmem, ⟨15, _⟩ => ⟨S1024x1024, .f32⟩
  | .local _ .vmem, ⟨16, _⟩ => ⟨S1024x1024, .f32⟩
  | .local _ .vmem, ⟨17, _⟩ => ⟨S64x5632, .bf16⟩
  | .local _ .vmem, ⟨18, _⟩ => ⟨S64x5632, .bf16⟩
  | .local _ .vmem, ⟨19, _⟩ => ⟨S176x1024, .bf16⟩
  | .local _ .vmem, ⟨20, _⟩ => ⟨S176x1024, .bf16⟩
  | .local _ .vmem, ⟨21, _⟩ => ⟨S64x2048, .bf16⟩
  | .local _ .vmem, ⟨22, _⟩ => ⟨S64x2048, .bf16⟩
  | .local _ .vmem, ⟨23, _⟩ => ⟨S64x1536, .bf16⟩
  | .local _ .vmem, ⟨24, _⟩ => ⟨S64x1536, .bf16⟩
  | .local _ .vmem, ⟨25, _⟩ => ⟨S64x256, .bf16⟩
  | .local _ .vmem, ⟨26, _⟩ => ⟨S64x256, .bf16⟩
  | .local _ .vmem, ⟨27, _⟩ => ⟨S64x1024, .bf16⟩
  | .local _ .vmem, ⟨28, _⟩ => ⟨S64x1024, .bf16⟩
  | .local _ .vmem, ⟨29, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, arg0.toNat, c0_i32.toNat]

def cc0_transform_7 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x64x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x3592 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceFfnCIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S2x2x1024x5632 : Shape := ⟨4, ![2, 2, 1024, 5632]⟩
abbrev S2x2x2816x1024 : Shape := ⟨4, ![2, 2, 2816, 1024]⟩
abbrev S1x1024x3592 : Shape := ⟨3, ![1, 1024, 3592]⟩
abbrev S1x1024x1024 : Shape := ⟨3, ![1, 1024, 1024]⟩
abbrev S1024x3592 : Shape := ⟨2, ![1024, 3592]⟩
abbrev S1024x2048 : Shape := ⟨2, ![1024, 2048]⟩
abbrev S1024x8 : Shape := ⟨2, ![1024, 8]⟩
abbrev S1024x1536 : Shape := ⟨2, ![1024, 1536]⟩
abbrev S1024x4 : Shape := ⟨2, ![1024, 4]⟩
abbrev S_ : Shape := ⟨0, ![]⟩
abbrev S1024x128 : Shape := ⟨2, ![1024, 128]⟩
abbrev S1024x256 : Shape := ⟨2, ![1024, 256]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S1x1x1024x5632 : Shape := ⟨4, ![1, 1, 1024, 5632]⟩
abbrev S1x1x2816x1024 : Shape := ⟨4, ![1, 1, 2816, 1024]⟩
abbrev S1024x1024 : Shape := ⟨2, ![1024, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S2x2x1024x5632, .f32⟩
  | .hbm, ⟨6, _⟩ => ⟨S2x2x2816x1024, .f32⟩
  | .hbm, ⟨7, _⟩ => ⟨S1x1024x3592, .f32⟩
  | .hbm, ⟨8, _⟩ => ⟨S1x1024x1024, .f32⟩
  | .hbm, ⟨9, _⟩ => ⟨S1024x3592, .f32⟩
  | .hbm, ⟨10, _⟩ => ⟨S1024x3592, .bf16⟩
  | .hbm, ⟨11, _⟩ => ⟨S1024x2048, .bf16⟩
  | .hbm, ⟨12, _⟩ => ⟨S1024x8, .bf16⟩
  | .hbm, ⟨13, _⟩ => ⟨S1024x1536, .bf16⟩
  | .hbm, ⟨14, _⟩ => ⟨S1024x4, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S1024x4, .bf16⟩
  | .hbm, ⟨19, _⟩ => ⟨S_, .i32⟩
  | .hbm, ⟨20, _⟩ => ⟨S_, .bf16⟩
  | .hbm, ⟨21, _⟩ => ⟨S1024x128, .bf16⟩
  | .hbm, ⟨22, _⟩ => ⟨S1024x256, .bf16⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1024x5632, .f32⟩
  | .hbm, ⟨40, _⟩ => ⟨S2816x1024, .f32⟩
  | .hbm, ⟨41, _⟩ => ⟨S16384x5632, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S_, .f32⟩
  | .hbm, ⟨47, _⟩ => ⟨S16384x2816, .f32⟩
  | .hbm, ⟨48, _⟩ => ⟨S16384x2816, .f32⟩
  | .hbm, ⟨49, _⟩ => ⟨S_, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1x1x1024x5632, .f32⟩
  | .hbm, ⟨60, _⟩ => ⟨S1024x5632, .f32⟩
  | .hbm, ⟨61, _⟩ => ⟨S1024x5632, .bf16⟩
  | .hbm, ⟨62, _⟩ => ⟨S1x1x2816x1024, .f32⟩
  | .hbm, ⟨63, _⟩ => ⟨S2816x1024, .f32⟩
  | .hbm, ⟨64, _⟩ => ⟨S2816x1024, .bf16⟩
  | .hbm, ⟨65, _⟩ => ⟨S1024x1024, .f32⟩
  | .hbm, ⟨66, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]
-- ==== Proof.RefRun.lean ====
/- The run of the reference of the recurrent layer: its argument buffers keep what they held. -/
module

public import proofs.«01_k».proof.Proof.Gen.ReferenceIdeal.Run

@[expose] public section

set_option maxRecDepth 16384

noncomputable section

namespace Cert.RefRun

open Idealize.ShloMosaic Idealize.ShloMosaic.StableHlo Idealize.SL.Sem Cert.ReferenceIdeal Cert.ReferenceIdeal.Value

variable {F : FTy → Type} [FloatOps F]

/-- The buffers the reference's arguments live in. -/
abbrev args : List (Ref sig .tc) :=
  [main_arg0, main_arg1, main_arg2, main_arg3, main_arg4, main_arg5, main_arg6, main_arg7]

/-- The operations before the loop leave an argument as it was. -/
theorem pre_keep (V : Valuation τ sig (Elt F)) (r : Ref sig .tc) (h : r ∈ args) :
    afterL preI V (Proc.devRef .tc r) = V (Proc.devRef .tc r) := by
  simp only [preI, afterL_cons, afterL_nil]
  fin_cases h <;>
    rw [after_of_writes_sub _ _ hostOps0_10_writes (by decide +kernel),
      after_of_writes_sub _ _ hostOps0_9_writes (by decide +kernel),
      after_of_writes_sub _ _ hostOps0_8_writes (by decide +kernel),
      after_of_writes_sub _ _ hostOps0_7_writes (by decide +kernel),
      after_of_writes_sub _ _ hostOps0_6_writes (by decide +kernel),
      after_of_writes_sub _ _ hostOps0_5_writes (by decide +kernel),
      after_of_writes_sub _ _ hostOps0_4_writes (by decide +kernel),
      after_of_writes_sub _ _ hostOps0_3_writes (by decide +kernel),
      after_of_writes_sub _ _ hostOps0_2_writes (by decide +kernel),
      after_of_writes_sub _ _ hostOps0_1_writes (by decide +kernel),
      after_of_writes_sub _ _ hostOps0_writes (by decide +kernel)]

/-- One trip of the loop leaves an argument as it was. -/
theorem trip_keep (V : Valuation τ sig (Elt F)) (r : Ref sig .tc) (h : r ∉ while0Ops0_W ++ while0Ops0_1_W
      ++ while0Ops0_2_W ++ while0Ops0_3_W ++ while0Ops0_4_W ++ condOps_W) :
    afterL bodyI (after condOps V) (Proc.devRef .tc r) = V (Proc.devRef .tc r) := by
  simp only [List.mem_append, not_or] at h
  obtain ⟨⟨⟨⟨⟨h0, h1⟩, h2⟩, h3⟩, h4⟩, h5⟩ := h
  simp only [bodyI, afterL_cons, afterL_nil]
  rw [after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes h5]

variable (m : (ℓ : Loc nD τ sig) → Buf (Elt F) ℓ)

/-- A buffer that no operation of the loop writes keeps through all its trips. -/
theorem atK_keep (c : Dev nD) (r : Ref sig .tc) (h : r ∉ while0Ops0_W ++ while0Ops0_1_W
      ++ while0Ops0_2_W ++ while0Ops0_3_W ++ while0Ops0_4_W ++ condOps_W) : ∀ k,
    atK m k c (Proc.devRef .tc r) = entryContents preI m c (Proc.devRef .tc r)
  | 0 => rfl
  | k + 1 => (trip_keep (atK m k c) r h).trans (atK_keep c r h k)

/-- The buffers after the loop, before the operations that follow it. -/
abbrev left (c : Dev nD) : Valuation τ sig (Elt F) := after condOps (atK m 256 c)

/-- A buffer the loop does not write is after the loop as it was before. -/
theorem left_keep (c : Dev nD) (r : Ref sig .tc) (h : r ∉ while0Ops0_W ++ while0Ops0_1_W
      ++ while0Ops0_2_W ++ while0Ops0_3_W ++ while0Ops0_4_W ++ condOps_W) :
    left m c (Proc.devRef .tc r) = entryContents preI m c (Proc.devRef .tc r) := by
  rw [left, after_of_writes_sub _ _ condOps_writes (fun h' => h (List.mem_append_right _ h'))]
  exact atK_keep m c r h 256

/-- The operations after the loop leave an argument as it was. -/
theorem post_keep (V : Valuation τ sig (Elt F)) (r : Ref sig .tc) (h : r ∈ args) :
    afterL postI V (Proc.devRef .tc r) = V (Proc.devRef .tc r) := by
  simp only [postI, afterL_cons, afterL_nil]
  fin_cases h <;> after_results_simp

/-- The reference's arguments end as they were. -/
theorem final_keep (c : Dev nD) (r : Ref sig .tc) (h : r ∈ args) :
    finalContents condOps preI bodyI postI 256 m c (Proc.devRef .tc r) = m (c, Proc.devRef .tc r) := by
  refine (post_keep _ r h).trans ((left_keep m c r ?_).trans (pre_keep _ r h))
  revert h; revert r; decide +kernel

end Cert.RefRun

end
-- ==== Proof.Tiles.lean ====
/- Reading back a two-axis buffer that one run stores tile by tile: a load inside the stored tiles reads the array the
   tiles are blocks of. The tiles are checked by evaluating a Boolean on their offsets and sizes alone. -/
module

public import Idealize.ShloMosaic.Lib.Pipeline.ValueKit
public import Idealize.ShloMosaic.Lib.Pipeline.ReadBack

@[expose] public section

noncomputable section

namespace Cert.Tiles

open Idealize.ShloMosaic Idealize.ShloMosaic.View

variable {sig : RefSig} {κ : Kind} {sp : Space} {d : Fin 2 → ℕ} {e : EltTy} {Val : EltTy → Type}

/-- The rectangle is the unit-stride tile at rows from `a`, columns from `b`, of sizes `g` and `h`. -/
def isTile (r : Rect ⟨2, d⟩) (a b g h : ℕ) : Bool :=
  r.off 0 == a && r.off 1 == b && r.size 0 == g && r.size 1 == h && r.stride 0 == 1 && r.stride 1 == 1

/-- Some piece of the list is each of the `n` by `m` tiles of sizes `g` and `h` laid out from row `a`, column `b`. -/
def tiledBox (L : List (Piece Val ⟨2, d⟩ e)) (a b g h n m : ℕ) : Bool :=
  (List.range n).all fun i => (List.range m).all fun j => L.any fun p => isTile p.1 (a + g * i) (b + h * j) g h

/-- A tile holds every index between its corners. -/
theorem mem_of_isTile (r : Rect ⟨2, d⟩) (a b g h : ℕ) (ht : isTile r a b g h = true) (y : (⟨2, d⟩ : Shape).Idx)
    (h0 : a ≤ (y 0).val) (h0' : (y 0).val < a + g) (h1 : b ≤ (y 1).val) (h1' : (y 1).val < b + h) : y ∈ r.set := by
  simp only [isTile, Bool.and_eq_true, beq_iff_eq] at ht
  obtain ⟨⟨⟨⟨⟨e0, e1⟩, s0⟩, s1⟩, t0⟩, t1⟩ := ht
  refine (LoadRect.mem_set _).mpr fun ax => ?_
  match ax with
  | ⟨0, _⟩ => exact ⟨(y 0).val - a, by change _ < r.size 0; omega, by change (y 0).val = r.off 0 + r.stride 0 * _; rw [e0, t0]; omega⟩
  | ⟨1, _⟩ => exact ⟨(y 1).val - b, by change _ < r.size 1; omega, by change (y 1).val = r.off 1 + r.stride 1 * _; rw [e1, t1]; omega⟩

/-- Tiles laid out over a box cover it. -/
theorem cover_of_tiledBox (L : List (Piece Val ⟨2, d⟩ e)) (a b g h n m : ℕ) (ht : tiledBox L a b g h n m = true)
    (y : (⟨2, d⟩ : Shape).Idx) (h0 : a ≤ (y 0).val) (h0' : (y 0).val < a + g * n) (h1 : b ≤ (y 1).val)
    (h1' : (y 1).val < b + h * m) : ∃ p ∈ L, y ∈ p.1.set := by
  have hi : ((y 0).val - a) / g < n := Nat.div_lt_of_lt_mul (by omega)
  have hj : ((y 1).val - b) / h < m := Nat.div_lt_of_lt_mul (by omega)
  have := List.all_eq_true.mp (List.all_eq_true.mp ht _ (List.mem_range.mpr hi)) _ (List.mem_range.mpr hj)
  obtain ⟨p, hp, hq⟩ := List.any_eq_true.mp this
  have hg : 0 < g := Nat.pos_of_ne_zero fun hz => by subst hz; omega
  have hh : 0 < h := Nat.pos_of_ne_zero fun hz => by subst hz; omega
  have e0 := Nat.div_add_mod ((y 0).val - a) g
  have e1 := Nat.div_add_mod ((y 1).val - b) h
  have l0 := Nat.mod_lt ((y 0).val - a) hg
  have l1 := Nat.mod_lt ((y 1).val - b) hh
  exact ⟨p, hp, mem_of_isTile p.1 _ _ g h hq y (by omega) (by omega) (by omega) (by omega)⟩

/-- Pieces that are blocks of `G` and laid out over a box holding a load's rectangle: the load reads `G`. -/
theorem readCov_of_tiledBox [∀ e, Nonempty (Val e)] (v : View sig κ sp ⟨2, d⟩ e) (G : (⟨2, d⟩ : Shape).Idx → Val e)
    (L : List (Piece Val ⟨2, d⟩ e)) (off size : Fin 2 → ℕ) (inb : ∀ a, off a + size a ≤ d a) (g h n m : ℕ)
    (hL : PiecesOf G L) (ht : tiledBox L (off 0) (off 1) g h n m = true) (hn : size 0 = g * n) (hm : size 1 = h * m) :
    v.readCov L (Rect.unit (s := ⟨2, d⟩) off size inb).toLoadRect = ld G (Rect.unit (s := ⟨2, d⟩) off size inb) := by
  rw [readCov_eq_canon']
  funext j
  refine canon_apply_of_pieces G L hL.mem _ (cover_of_tiledBox L _ _ g h n m ht _ ?_ ?_ ?_ ?_)
  · show off 0 ≤ off 0 + 1 * (j 0).val; omega
  · show off 0 + 1 * (j 0).val < _; have := (j 0).isLt; change _ < size 0 at this; omega
  · show off 1 ≤ off 1 + 1 * (j 1).val; omega
  · show off 1 + 1 * (j 1).val < _; have := (j 1).isLt; change _ < size 1 at this; omega

/-- Pieces that are blocks of `G` leave `G` where they cover. -/
theorem canon_of_piecesOf [∀ e, Nonempty (Val e)] {s : Shape} (G : s.Idx → Val e) (L : List (Piece Val s e))
    (hL : PiecesOf G L) (y : s.Idx) (hc : ∃ p ∈ L, y ∈ p.1.set) : canon L y = G y :=
  canon_apply_of_pieces G L hL.mem y hc

end Cert.Tiles

end
-- ==== Proof.FfnBlock.lean ====
/- What the feed-forward kernel leaves in the output block of one grid point, element by element: `ffnAt` of the row of
   the block. The body works on four groups of 256 rows and, in each, on eleven groups of 256 hidden columns, through a
   scratch; one lemma about a group at a symbolic row and column offset serves all of them. -/
module

public import proofs.«01_k».proof.Proof.Gen.KernelFfnIdeal.Value
public import Idealize.ShloMosaic.Lib.Pipeline.ValueKit
public import Idealize.ShloMosaic.Lib.Pipeline.ReadBack
public import Idealize.ShloMosaic.Lib.Pointwise
public import proofs.«01_k».proof.Proof.Tiles

@[expose] public section

set_option maxRecDepth 16384

noncomputable section

namespace Cert.FfnValue

open Idealize.ShloMosaic Idealize.ShloMosaic.TcCoe Idealize.SL.Sem

/-- A row `f` divided by the square root of its mean square (plus the epsilon), times the gain `g`. -/
def rmsAt (f g : Fin 1024 → EReal) (k : Fin 1024) : EReal :=
  f k * Ideal.rsqrt (Ideal.div (∑ j, f j * f j) (Ideal.ofBits .f32 0x44800000#32) + Ideal.ofBits .f32 0x358637BD#32) * g k

/-- Hidden unit `j` of a row: the gate's projection times its logistic, times the other projection. -/
def hidAt (f g : Fin 1024 → EReal) (wg wu : Fin 1024 → Fin 2816 → EReal) (j : Fin 2816) : EReal :=
  (∑ k, rmsAt f g k * wg k j) * Ideal.logistic (∑ k, rmsAt f g k * wg k j) * ∑ k, rmsAt f g k * wu k j

/-- The feed-forward layer on a row, normalised at its end: half the projection of the hidden units added to the row. -/
def ffnAt (f g : Fin 1024 → EReal) (wg wu : Fin 1024 → Fin 2816 → EReal) (wo : Fin 2816 → Fin 1024 → EReal)
    (fg : Fin 1024 → EReal) (c : Fin 1024) : EReal :=
  rmsAt (fun k => f k + Ideal.ofBits .f32 0x3F000000#32 * ∑ j, hidAt f g wg wu j * wo j k) fg c

/-- The layer on a row reads its arguments only through their values. -/
theorem ffnAt_congr {f f' g g' : Fin 1024 → EReal} {wg wg' wu wu' : Fin 1024 → Fin 2816 → EReal} {wo wo' : Fin 2816 → Fin 1024 → EReal}
    {fg fg' : Fin 1024 → EReal} {c c' : Fin 1024} (h1 : ∀ k, f k = f' k) (h2 : ∀ k, g k = g' k) (h3 : ∀ k j, wg k j = wg' k j)
    (h4 : ∀ k j, wu k j = wu' k j) (h5 : ∀ j k, wo j k = wo' j k) (h6 : ∀ k, fg k = fg' k) (h7 : c = c') :
    ffnAt f g wg wu wo fg c = ffnAt f' g' wg' wu' wo' fg' c' := by
  rw [funext h1, funext h2, funext fun k => funext (h3 k), funext fun k => funext (h4 k), funext fun j => funext (h5 j), funext h6, h7]

section Block
open Cert.KernelFfnIdeal Cert.KernelFfnIdeal.Gen

variable (x0 : Vec Ideal S1024x1024 .f32) (x1 : Vec Ideal S1x1024 .f32) (x2 x3 : Vec Ideal S1024x2816 .bf16)
  (x4 : Vec Ideal S2816x1024 .bf16) (x5 : Vec Ideal S1x1024 .f32)

/-- The scratch's contents: hidden unit by hidden unit, of each row of the block. -/
def hid : Vec Ideal S1024x2816 .bf16 := fun i =>
  hidAt (fun k => x0 (ix2 (i 0) k)) (fun k => x1 (ix2 0 k)) (fun k j => x2 (ix2 k j)) (fun k j => x3 (ix2 k j)) (i 1)

/-- The output block. -/
def out : Vec Ideal S1024x1024 .f32 := fun i =>
  ffnAt (fun k => x0 (ix2 (i 0) k)) (fun k => x1 (ix2 0 k)) (fun k j => x2 (ix2 k j)) (fun k j => x3 (ix2 k j))
    (fun j k => x4 (ix2 j k)) (fun k => x5 (ix2 0 k)) (i 1)

/-- The hidden units the body stores for 256 rows from row `r` and 256 columns from column `o` are the scratch's
    contents there. -/
theorem hid_piece (r o : ℕ) (h0 : ∀ a, (![r, 0] : Fin 2 → ℕ) a + (![256, 1024] : Fin 2 → ℕ) a ≤ S1024x1024.size a)
    (hw : ∀ a, (![0, o] : Fin 2 → ℕ) a + (![1024, 256] : Fin 2 → ℕ) a ≤ S1024x2816.size a)
    (hs : ∀ a, (![r, o] : Fin 2 → ℕ) a + (![256, 256] : Fin 2 → ℕ) a ≤ S1024x2816.size a) (y : S256x256.Idx) :
    k0_pay5 (F := Ideal) (k0_pay1 (View.ld x0 (Rect.unit (s := S1024x1024) ![r, 0] ![256, 1024] h0)) x1)
      (View.ld x2 (Rect.unit (s := S1024x2816) ![0, o] ![1024, 256] hw))
      (View.ld x3 (Rect.unit (s := S1024x2816) ![0, o] ![1024, 256] hw)) y
      = View.ld (Val := Elt Ideal) (e' := .bf16) (hid x0 x1 x2 x3) (Rect.unit (s := S1024x2816) ![r, o] ![256, 256] hs) y := by
  idx_vars y
  pointwise [k0_pay5, k0_pay1, hid, hidAt, rmsAt]

/-- The rows the body stores from row `r` on are the output block there, the hidden units being the scratch's. -/
theorem out_piece (r : ℕ) (h0 : ∀ a, (![r, 0] : Fin 2 → ℕ) a + (![256, 1024] : Fin 2 → ℕ) a ≤ S1024x1024.size a)
    (hs : ∀ a, (![r, 0] : Fin 2 → ℕ) a + (![256, 2816] : Fin 2 → ℕ) a ≤ S1024x2816.size a) (y : S256x1024.Idx) :
    k0_pay17 (F := Ideal) (View.ld x0 (Rect.unit (s := S1024x1024) ![r, 0] ![256, 1024] h0))
      (View.ld (Val := Elt Ideal) (e' := .bf16) (hid x0 x1 x2 x3) (Rect.unit (s := S1024x2816) ![r, 0] ![256, 2816] hs)) x4 x5 y
      = View.ld (Val := Elt Ideal) (e' := .f32) (out x0 x1 x2 x3 x4 x5) (Rect.unit (s := S1024x1024) ![r, 0] ![256, 1024] h0) y := by
  idx_vars y
  pointwise [k0_pay17, out, ffnAt, rmsAt, hid]

/-- The same, the hidden units being any array equal to the scratch's rows. -/
theorem out_piece_of (r : ℕ) (h0 : ∀ a, (![r, 0] : Fin 2 → ℕ) a + (![256, 1024] : Fin 2 → ℕ) a ≤ S1024x1024.size a)
    (hs : ∀ a, (![r, 0] : Fin 2 → ℕ) a + (![256, 2816] : Fin 2 → ℕ) a ≤ S1024x2816.size a) (A : Vec Ideal S256x2816 .bf16)
    (hA : A = View.ld (Val := Elt Ideal) (e' := .bf16) (hid x0 x1 x2 x3) (Rect.unit (s := S1024x2816) ![r, 0] ![256, 2816] hs))
    (y : S256x1024.Idx) :
    k0_pay17 (F := Ideal) (View.ld x0 (Rect.unit (s := S1024x1024) ![r, 0] ![256, 1024] h0)) A x4 x5 y
      = out x0 x1 x2 x3 x4 x5 ((Rect.unit (s := S1024x1024) ![r, 0] ![256, 1024] h0).emb y) := by
  subst hA; exact out_piece x0 x1 x2 x3 x4 x5 r h0 hs y

set_option maxHeartbeats 2000000 in
/-- What the run leaves in the output block is `out` of the input blocks. -/
theorem out_eq (c : Dev nD) (i : grid0.Coords) (a1 : Memref sig .tc .vmem S1024x1024 .f32) (h1 : a1.IsWhole)
    (a2 : Memref sig .tc .vmem S1x1024 .f32) (h2 : a2.IsWhole) (a3 : Memref sig .tc .vmem S1024x2816 .bf16) (h3 : a3.IsWhole)
    (a4 : Memref sig .tc .vmem S1024x2816 .bf16) (h4 : a4.IsWhole) (a5 : Memref sig .tc .vmem S2816x1024 .bf16) (h5 : a5.IsWhole)
    (a6 : Memref sig .tc .vmem S1x1024 .f32) (h6 : a6.IsWhole) (a7 : Memref sig .tc .vmem S1024x1024 .f32) (h7 : a7.IsWhole)
    (a8 : Memref sig .tc .vmem S1024x2816 .bf16) (h8 : a8.IsWhole) (y : S1024x1024.Idx) :
    out0_A_6 (F := Ideal) c i a1 h1 a2 h2 a3 h3 a4 h4 a5 h5 a6 h6 a7 h7 a8 h8 x0 x1 x2 x3 x4 x5 y
      = out x0 x1 x2 x3 x4 x5 y := by
  have hc := cover0_A_6 (F := Ideal) c i a1 h1 a2 h2 a3 h3 a4 h4 a5 h5 a6 h6 a7 h7 a8 h8 x0 x1 x2 x3 x4 x5 y
  frame_open
  frame_out
  refine Tiles.canon_of_piecesOf (out x0 x1 x2 x3 x4 x5) _ ?pieces y ?cover
  case cover => exact View.cover_of_tiledL (s := S1024x1024) _ S256x1024.size (by sl_kernel_rfl) y
  case pieces =>
    refine ⟨fun x => ?_, fun x => ?_, fun x => ?_, fun x => ?_, trivial⟩
    all_goals
      refine out_piece_of x0 x1 x2 x3 x4 x5 _ _ (by decide) _ ?_ x
      refine Tiles.readCov_of_tiledBox _ _ _ _ _ _ 256 256 1 11 ?_ (by sl_kernel_rfl) rfl rfl
      clear x
      repeat' (first
        | exact trivial
        | refine ⟨fun z => hid_piece x0 x1 x2 x3 _ _ (by decide) (by decide) (by decide) z, ?_⟩)

end Block

end Cert.FfnValue

end
-- ==== Proof.FfnValue.lean ====
/- The feed-forward kernel's result array after the run, and its reference's, are one function of the arguments. -/
module

public import proofs.«01_k».proof.Proof.FfnBlock
public import proofs.«01_k».proof.Proof.Gen.ReferenceFfnIdeal.Read
public import Idealize.ShloMosaic.Lib.Claim
public import Idealize.ShloMosaic.Lib.Tactic.CleanTypes

@[expose] public section

set_option maxRecDepth 16384

noncomputable section

namespace Cert.FfnValue

open Idealize.ShloMosaic Idealize.ShloMosaic.TcCoe Idealize.SL.Sem

/-- The result as a function of the five arguments: `ffnAt` of every row, the two halves of the input projection's columns
    being the gate's and the other projection's. -/
def result (X : Vec Ideal ⟨2, ![16384, 1024]⟩ .f32) (g : Vec Ideal ⟨1, ![1024]⟩ .f32) (W : Vec Ideal ⟨2, ![1024, 5632]⟩ .bf16)
    (O : Vec Ideal ⟨2, ![2816, 1024]⟩ .bf16) (fg : Vec Ideal ⟨1, ![1024]⟩ .f32) : Vec Ideal ⟨2, ![16384, 1024]⟩ .f32 := fun i =>
  ffnAt (fun k => X (ix2 (i 0) k)) (fun k => g (ix1 k)) (fun k j => W (ix2 k ⟨j.val, by omega⟩))
    (fun k j => W (ix2 k ⟨2816 + j.val, by omega⟩)) (fun j k => O (ix2 j k)) (fun k => fg (ix1 k)) (i 1)

section Kernel
open Cert.KernelFfnIdeal Cert.KernelFfnIdeal.Gen

variable (m : (ℓ : Loc nD τ sig) → Buf (Elt Ideal) ℓ)

/-- Where each window's block lies, point by point. -/
theorem index_eq : ∀ t : Fin cfg0.N, win0_0.index t = ![t.val, 0] ∧ win0_1.index t = ![0, 0] ∧ win0_2.index t = ![0, 0]
    ∧ win0_3.index t = ![0, 1] ∧ win0_4.index t = ![0, 0] ∧ win0_5.index t = ![0, 0] ∧ win0_6.index t = ![t.val, 0] :=
  (by decide +kernel : ∀ t : Fin grid0.N, _)

/-- The kernel's result array after the run. -/
theorem kernel_array (c : Dev nD) : (dats m 0 c).arrAt 6 cfg0.N
    = result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (dats m 0 c).arrAt_eq_of_covers 6 _ (by decide +kernel) fun t hf y => ?_
  blk_simp
  rw [after0_6]
  unfold outsAt0
  rw [out_eq]
  obtain ⟨e0, e1, e2, e3, e4, e5, e6⟩ := index_eq t
  unfold out result
  refine ffnAt_congr (fun k => ?_) (fun k => ?_) (fun k j => ?_) (fun k j => ?_) (fun j k => ?_) (fun k => ?_) ?_
  · blk_ext [iblk, V, e0, e6]
  · blk_ext! [iblk, V, e1]
  · blk_ext [iblk, V, e2]
  · blk_ext [iblk, V, e3]
  · blk_ext [iblk, V, e4]
  · blk_ext! [iblk, V, e5]
  · apply Fin.ext; blk_simp [e6]

end Kernel

section Reference
open Cert.ReferenceFfnIdeal Cert.ReferenceFfnIdeal.Value Cert.ReferenceFfnIdeal.Read

variable (m : (ℓ : Loc nD τ sig) → Buf (Elt Ideal) ℓ)

/-- The reference's result array. -/
theorem reference_array (c : Dev nD) : res_main_v36 (F := Ideal) m c
    = result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  rw [val_main_v36_eq]
  funext i
  idx_vars i
  pointwise [result, ffnAt, hidAt, rmsAt, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_call0_v0, val_main_call0_v1, val_main_call0_cst, val_main_call0_v2, val_main_call0_v3, val_main_call0_cst_0, val_main_call0_v4, val_main_call0_v5, val_main_v18, val_main_v19, val_main_v20, val_main_cst_2, val_main_v21, val_main_v22, val_main_v23, val_main_v24, val_main_cst_3, val_main_v25, val_main_v26, val_main_cst_4, val_main_v27, val_main_v28, val_main_cst_5, val_main_v29, val_main_v30, val_main_v31, val_main_v32, val_main_v33, val_main_v34, val_main_v35, val_main_v36]
  simp only [Ideal.logistic]

end Reference

end Cert.FfnValue

end
-- ==== Proof.FfnHalf.lean ====
/- The feed-forward layer without a normalisation at its end: what the kernel's body leaves in a block, piece by piece,
   and the result array, for the three calls of it. -/
module

public import proofs.«01_k».proof.Proof.FfnValue
public import proofs.«01_k».proof.Proof.Gen.KernelFfnAIdeal.Value

@[expose] public section

set_option maxRecDepth 16384

noncomputable section

namespace Cert.FfnValue

open Idealize.ShloMosaic Idealize.ShloMosaic.TcCoe Idealize.SL.Sem

/-- The feed-forward layer on a row: half the projection of the hidden units added to the row. -/
def halfAt (f g : Fin 1024 → EReal) (wg wu : Fin 1024 → Fin 2816 → EReal) (wo : Fin 2816 → Fin 1024 → EReal) (c : Fin 1024) : EReal :=
  f c + Ideal.ofBits .f32 0x3F000000#32 * ∑ j, hidAt f g wg wu j * wo j c

/-- The layer on a row reads its arguments only through their values. -/
theorem halfAt_congr {f f' g g' : Fin 1024 → EReal} {wg wg' wu wu' : Fin 1024 → Fin 2816 → EReal} {wo wo' : Fin 2816 → Fin 1024 → EReal}
    {c c' : Fin 1024} (h1 : ∀ k, f k = f' k) (h2 : ∀ k, g k = g' k) (h3 : ∀ k j, wg k j = wg' k j)
    (h4 : ∀ k j, wu k j = wu' k j) (h5 : ∀ j k, wo j k = wo' j k) (h7 : c = c') :
    halfAt f g wg wu wo c = halfAt f' g' wg' wu' wo' c' := by
  rw [funext h1, funext h2, funext fun k => funext (h3 k), funext fun k => funext (h4 k), funext fun j => funext (h5 j), h7]

/-- The result as a function of the first four arguments: `halfAt` of every row. -/
def half (X : Vec Ideal ⟨2, ![16384, 1024]⟩ .f32) (g : Vec Ideal ⟨1, ![1024]⟩ .f32) (W : Vec Ideal ⟨2, ![1024, 5632]⟩ .bf16)
    (O : Vec Ideal ⟨2, ![2816, 1024]⟩ .bf16) : Vec Ideal ⟨2, ![16384, 1024]⟩ .f32 := fun i =>
  halfAt (fun k => X (ix2 (i 0) k)) (fun k => g (ix1 k)) (fun k j => W (ix2 k ⟨j.val, by omega⟩))
    (fun k j => W (ix2 k ⟨2816 + j.val, by omega⟩)) (fun j k => O (ix2 j k)) (i 1)

/-- One matrix of a stack of stacks. -/
def pick4 {a b r c : ℕ} (p : Fin a) (q : Fin b) (S : Vec Ideal ⟨4, ![a, b, r, c]⟩ .f32) : Vec Ideal ⟨2, ![r, c]⟩ .bf16 := fun i =>
  S (ix4 p q (i 0) (i 1))

/-- One matrix of a stack. -/
def pick3 {a r c : ℕ} (p : Fin a) (S : Vec Ideal ⟨3, ![a, r, c]⟩ .f32) : Vec Ideal ⟨2, ![r, c]⟩ .bf16 := fun i =>
  S (ix3 p (i 0) (i 1))

section Block
open Cert.KernelFfnAIdeal Cert.KernelFfnAIdeal.Gen

variable (x0 : Vec Ideal S1024x1024 .f32) (x1 : Vec Ideal S1x1024 .f32) (x2 x3 : Vec Ideal S1024x2816 .bf16)
  (x4 : Vec Ideal S2816x1024 .bf16)

/-- The output block. -/
def halfBlk : Vec Ideal S1024x1024 .f32 := fun i =>
  halfAt (fun k => x0 (ix2 (i 0) k)) (fun k => x1 (ix2 0 k)) (fun k j => x2 (ix2 k j)) (fun k j => x3 (ix2 k j))
    (fun j k => x4 (ix2 j k)) (i 1)

/-- The rows the body stores from row `r` on are the output block there, the hidden units being any array equal to the
    scratch's rows. -/
theorem half_piece (r : ℕ) (h0 : ∀ a, (![r, 0] : Fin 2 → ℕ) a + (![256, 1024] : Fin 2 → ℕ) a ≤ S1024x1024.size a)
    (hs : ∀ a, (![r, 0] : Fin 2 → ℕ) a + (![256, 2816] : Fin 2 → ℕ) a ≤ S1024x2816.size a) (A : Vec Ideal S256x2816 .bf16)
    (hA : A = View.ld (Val := Elt Ideal) (e' := .bf16) (hid x0 x1 x2 x3) (Rect.unit (s := S1024x2816) ![r, 0] ![256, 2816] hs))
    (y : S256x1024.Idx) :
    k0_pay1 (F := Ideal) (View.ld x0 (Rect.unit (s := S1024x1024) ![r, 0] ![256, 1024] h0)) A x4 y
      = halfBlk x0 x1 x2 x3 x4 ((Rect.unit (s := S1024x1024) ![r, 0] ![256, 1024] h0).emb y) := by
  subst hA
  show _ = View.ld (Val := Elt Ideal) (e' := .f32) (halfBlk x0 x1 x2 x3 x4) (Rect.unit (s := S1024x1024) ![r, 0] ![256, 1024] h0) y
  idx_vars y
  pointwise [k0_pay1, halfBlk, halfAt, hid]

end Block

end Cert.FfnValue

end
-- ==== Proof.FfnHalfA.lean ====
/- The first feed-forward call's result arrays after the run, and its reference's, are the same functions of the arguments. -/
module

public import proofs.«01_k».proof.Proof.FfnHalf
public import proofs.«01_k».proof.Proof.Gen.KernelFfnAIdeal.Value
public import proofs.«01_k».proof.Proof.Gen.ReferenceFfnAIdeal.Read

@[expose] public section

set_option maxRecDepth 16384

noncomputable section

namespace Cert.FfnA

open Idealize.ShloMosaic Idealize.ShloMosaic.TcCoe Idealize.SL.Sem Cert.FfnValue

section Kernel
open Cert.KernelFfnAIdeal Cert.KernelFfnAIdeal.Gen

variable (m : (ℓ : Loc nD τ sig) → Buf (Elt Ideal) ℓ) (c : Dev nD) (t : Fin cfg0.N)

set_option maxHeartbeats 2000000 in
/-- What the run leaves in the output block is `halfBlk` of the input blocks. -/
theorem out_eq (y : S1024x1024.Idx) : (outsAt0 m c t).1 y
    = halfBlk (iblk m c 0 t) (iblk m c 1 t) (iblk m c 2 t) (iblk m c 3 t) (iblk m c 4 t) y := by
  unfold outsAt0
  dsimp only
  generalize (iblk m c 0 t : Vec Ideal S1024x1024 .f32) = x0
  generalize (iblk m c 1 t : Vec Ideal S1x1024 .f32) = x1
  generalize (iblk m c 2 t : Vec Ideal S1024x2816 .bf16) = x2
  generalize (iblk m c 3 t : Vec Ideal S1024x2816 .bf16) = x3
  generalize (iblk m c 4 t : Vec Ideal S2816x1024 .bf16) = x4
  frame_open
  frame_out
  refine Tiles.canon_of_piecesOf (halfBlk x0 x1 x2 x3 x4) _ ?pieces y ?cover
  case cover => exact View.cover_of_tiledL (s := S1024x1024) _ S256x1024.size (by sl_kernel_rfl) y
  case pieces =>
    refine ⟨fun x => ?_, fun x => ?_, fun x => ?_, fun x => ?_, trivial⟩
    all_goals
      refine half_piece x0 x1 x2 x3 x4 _ _ (by decide) _ ?_ x
      refine Tiles.readCov_of_tiledBox _ _ _ _ _ _ 256 256 1 11 ?_ (by sl_kernel_rfl) rfl rfl
      clear x
      repeat' (first
        | exact trivial
        | refine ⟨fun z => hid_piece x0 x1 x2 x3 _ _ (by decide) (by decide) (by decide) z, ?_⟩)

/-- The first weights' block, cast. -/
theorem side_a (y : S64x5632.Idx) : (outsAt0 m c t).2.1 y = (iblk m c 6 t : Vec Ideal S1x1x64x5632 .f32) (ix4 0 0 (y 0) (y 1)) := by
  unfold outsAt0
  dsimp only
  generalize (iblk m c 6 t : Vec Ideal S1x1x64x5632 .f32) = x6
  frame_open
  frame_out
  idx_vars y
  pointwise [k0_pay2]

/-- The second weights' block, cast. -/
theorem side_b (y : S176x1024.Idx) : (outsAt0 m c t).2.2.1 y = (iblk m c 7 t : Vec Ideal S1x1x176x1024 .f32) (ix4 0 0 (y 0) (y 1)) := by
  unfold outsAt0
  dsimp only
  generalize (iblk m c 7 t : Vec Ideal S1x1x176x1024 .f32) = x7
  frame_open
  frame_out
  idx_vars y
  pointwise [k0_pay3]

/-- The third weights' block, cast. -/
theorem side_c (y : S64x3584.Idx) : (outsAt0 m c t).2.2.2.1 y = (iblk m c 8 t : Vec Ideal S1x64x3584 .f32) (ix3 0 (y 0) (y 1)) := by
  unfold outsAt0
  dsimp only
  generalize (iblk m c 8 t : Vec Ideal S1x64x3584 .f32) = x8
  frame_open
  frame_out
  idx_vars y
  pointwise [k0_pay4]

/-- The fourth weights' block, cast. -/
theorem side_d (y : S64x1024.Idx) : (outsAt0 m c t).2.2.2.2 y = (iblk m c 9 t : Vec Ideal S1x64x1024 .f32) (ix3 0 (y 0) (y 1)) := by
  unfold outsAt0
  dsimp only
  generalize (iblk m c 9 t : Vec Ideal S1x64x1024 .f32) = x9
  frame_open
  frame_out
  idx_vars y
  pointwise [k0_pay5]

omit t

/-- Where each window's block lies, point by point. -/
theorem index_eq : ∀ t : Fin cfg0.N, win0_0.index t = ![t.val, 0] ∧ win0_1.index t = ![0, 0] ∧ win0_2.index t = ![0, 0]
    ∧ win0_3.index t = ![0, 1] ∧ win0_4.index t = ![0, 0] ∧ win0_6.index t = ![0, 1, t.val, 0] ∧ win0_7.index t = ![0, 1, t.val, 0]
    ∧ win0_8.index t = ![0, t.val, 0] ∧ win0_9.index t = ![0, t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

/-- The kernel's first result array after the run. -/
theorem kernel_half : (dats m 0 c).arrAt 10 cfg0.N
    = half (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 10 _ (by decide +kernel) fun t hf y => ?_
  blk_simp
  rw [after0_10, out_eq]
  obtain ⟨e0, e1, e2, e3, e4, e6, e7, e8, e9, e10, e11, e12, e13, e14⟩ := index_eq t
  unfold halfBlk half
  refine halfAt_congr (fun k => ?_) (fun k => ?_) (fun k j => ?_) (fun k j => ?_) (fun j k => ?_) ?_
  · blk_ext [iblk, V, e0, e10]
  · blk_ext! [iblk, V, e1]
  · blk_ext [iblk, V, e2]
  · blk_ext [iblk, V, e3]
  · blk_ext [iblk, V, e4]
  · apply Fin.ext; blk_simp [e10]

/-- The kernel's second result array after the run. -/
theorem kernel_a : (dats m 0 c).arrAt 11 cfg0.N = pick4 0 1 (m ((c.tc : Thread nD τ).loc main_arg5)) := by
  refine (dats m 0 c).arrAt_eq_of_covers 11 _ (by decide +kernel) fun t hf y => ?_
  blk_simp
  rw [after0_11, side_a]
  obtain ⟨e0, e1, e2, e3, e4, e6, e7, e8, e9, e10, e11, e12, e13, e14⟩ := index_eq t
  unfold pick4
  blk_ext [iblk, V, e6, e11]

/-- The kernel's third result array after the run. -/
theorem kernel_b : (dats m 0 c).arrAt 12 cfg0.N = pick4 0 1 (m ((c.tc : Thread nD τ).loc main_arg6)) := by
  refine (dats m 0 c).arrAt_eq_of_covers 12 _ (by decide +kernel) fun t hf y => ?_
  blk_simp
  rw [after0_12, side_b]
  obtain ⟨e0, e1, e2, e3, e4, e6, e7, e8, e9, e10, e11, e12, e13, e14⟩ := index_eq t
  unfold pick4
  blk_ext [iblk, V, e7, e12]

/-- The kernel's fourth result array after the run. -/
theorem kernel_c : (dats m 0 c).arrAt 13 cfg0.N = pick3 0 (m ((c.tc : Thread nD τ).loc main_arg7)) := by
  refine (dats m 0 c).arrAt_eq_of_covers 13 _ (by decide +kernel) fun t hf y => ?_
  blk_simp
  rw [after0_13, side_c]
  obtain ⟨e0, e1, e2, e3, e4, e6, e7, e8, e9, e10, e11, e12, e13, e14⟩ := index_eq t
  unfold pick3
  blk_ext [iblk, V, e8, e13]

/-- The kernel's fifth result array after the run. -/
theorem kernel_d : (dats m 0 c).arrAt 14 cfg0.N = pick3 0 (m ((c.tc : Thread nD τ).loc main_arg8)) := by
  refine (dats m 0 c).arrAt_eq_of_covers 14 _ (by decide +kernel) fun t hf y => ?_
  blk_simp
  rw [after0_14, side_d]
  obtain ⟨e0, e1, e2, e3, e4, e6, e7, e8, e9, e10, e11, e12, e13, e14⟩ := index_eq t
  unfold pick3
  blk_ext [iblk, V, e9, e14]

end Kernel

section Reference
open Cert.ReferenceFfnAIdeal Cert.ReferenceFfnAIdeal.Value Cert.ReferenceFfnAIdeal.Read

/-- The reference's first result. -/
theorem reference_half (X : Vec Ideal S16384x1024 .f32) (g : Vec Ideal S1024 .f32) (W : Vec Ideal S1024x5632 .bf16) (O : Vec Ideal S2816x1024 .bf16) :
    val_main_v23 (F := Ideal) X g W O = half X g W O := by
  funext i
  idx_vars i
  pointwise [half, halfAt, hidAt, rmsAt, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_call0_v0, val_main_call0_v1, val_main_call0_cst, val_main_call0_v2, val_main_call0_v3, val_main_call0_cst_0, val_main_call0_v4, val_main_call0_v5, val_main_v18, val_main_v19, val_main_v20, val_main_cst_2, val_main_v21, val_main_v22, val_main_v23]
  simp only [Ideal.logistic]

/-- The reference's second result. -/
theorem reference_a (S : Vec Ideal S2x2x1024x5632 .f32) : val_main_v26 (F := Ideal) S = pick4 0 1 S := by
  funext i
  idx_vars i
  pointwise [pick4, val_main_v24, val_main_v25, val_main_v26]

/-- The reference's third result. -/
theorem reference_b (S : Vec Ideal S2x2x2816x1024 .f32) : val_main_v29 (F := Ideal) S = pick4 0 1 S := by
  funext i
  idx_vars i
  pointwise [pick4, val_main_v27, val_main_v28, val_main_v29]

/-- The reference's fourth result. -/
theorem reference_c (S : Vec Ideal S1x1024x3584 .f32) : val_main_v31 (F := Ideal) S = pick3 0 S := by
  funext i
  idx_vars i
  pointwise [pick3, val_main_v30, val_main_v31]

/-- The reference's fifth result. -/
theorem reference_d (S : Vec Ideal S1x1024x1024 .f32) : val_main_v33 (F := Ideal) S = pick3 0 S := by
  funext i
  idx_vars i
  pointwise [pick3, val_main_v32, val_main_v33]

end Reference

end Cert.FfnA

end
-- ==== Proof.FfnHalfB.lean ====
/- The second feed-forward call's result arrays after the run, and its reference's, are the same functions of the arguments. -/
module

public import proofs.«01_k».proof.Proof.FfnHalf
public import proofs.«01_k».proof.Proof.Gen.KernelFfnBIdeal.Value
public import proofs.«01_k».proof.Proof.Gen.ReferenceFfnBIdeal.Read

@[expose] public section

set_option maxRecDepth 16384

noncomputable section

namespace Cert.FfnB

open Idealize.ShloMosaic Idealize.ShloMosaic.TcCoe Idealize.SL.Sem Cert.FfnValue

section Kernel
open Cert.KernelFfnBIdeal Cert.KernelFfnBIdeal.Gen

variable (m : (ℓ : Loc nD τ sig) → Buf (Elt Ideal) ℓ) (c : Dev nD) (t : Fin cfg0.N)

set_option maxHeartbeats 2000000 in
/-- What the run leaves in the output block is `halfBlk` of the input blocks. -/
theorem out_eq (y : S1024x1024.Idx) : (outsAt0 m c t).1 y
    = halfBlk (iblk m c 0 t) (iblk m c 1 t) (iblk m c 2 t) (iblk m c 3 t) (iblk m c 4 t) y := by
  unfold outsAt0
  dsimp only
  generalize (iblk m c 0 t : Vec Ideal S1024x1024 .f32) = x0
  generalize (iblk m c 1 t : Vec Ideal S1x1024 .f32) = x1
  generalize (iblk m c 2 t : Vec Ideal S1024x2816 .bf16) = x2
  generalize (iblk m c 3 t : Vec Ideal S1024x2816 .bf16) = x3
  generalize (iblk m c 4 t : Vec Ideal S2816x1024 .bf16) = x4
  frame_open
  frame_out
  refine Tiles.canon_of_piecesOf (halfBlk x0 x1 x2 x3 x4) _ ?pieces y ?cover
  case cover => exact View.cover_of_tiledL (s := S1024x1024) _ S256x1024.size (by sl_kernel_rfl) y
  case pieces =>
    refine ⟨fun x => ?_, fun x => ?_, fun x => ?_, fun x => ?_, trivial⟩
    all_goals
      refine half_piece x0 x1 x2 x3 x4 _ _ (by decide) _ ?_ x
      refine Tiles.readCov_of_tiledBox _ _ _ _ _ _ 256 256 1 11 ?_ (by sl_kernel_rfl) rfl rfl
      clear x
      repeat' (first
        | exact trivial
        | refine ⟨fun z => hid_piece x0 x1 x2 x3 _ _ (by decide) (by decide) (by decide) z, ?_⟩)

/-- The first weights' block, cast. -/
theorem side_a (y : S64x5632.Idx) : (outsAt0 m c t).2.1 y = (iblk m c 6 t : Vec Ideal S1x1x64x5632 .f32) (ix4 0 0 (y 0) (y 1)) := by
  unfold outsAt0
  dsimp only
  generalize (iblk m c 6 t : Vec Ideal S1x1x64x5632 .f32) = x6
  frame_open
  frame_out
  idx_vars y
  pointwise [k0_pay2]

/-- The second weights' block, cast. -/
theorem side_b (y : S176x1024.Idx) : (outsAt0 m c t).2.2 y = (iblk m c 7 t : Vec Ideal S1x1x176x1024 .f32) (ix4 0 0 (y 0) (y 1)) := by
  unfold outsAt0
  dsimp only
  generalize (iblk m c 7 t : Vec Ideal S1x1x176x1024 .f32) = x7
  frame_open
  frame_out
  idx_vars y
  pointwise [k0_pay3]

omit t

/-- Where each window's block lies, point by point. -/
theorem index_eq : ∀ t : Fin cfg0.N, win0_0.index t = ![t.val, 0] ∧ win0_1.index t = ![0, 0] ∧ win0_2.index t = ![0, 0]
    ∧ win0_3.index t = ![0, 1] ∧ win0_4.index t = ![0, 0] ∧ win0_6.index t = ![1, 0, t.val, 0] ∧ win0_7.index t = ![1, 0, t.val, 0]
    ∧ win0_8.index t = ![t.val, 0] ∧ win0_9.index t = ![t.val, 0] ∧ win0_10.index t = ![t.val, 0] :=
  (by decide +kernel : ∀ t : Fin grid0.N, _)

/-- The kernel's first result array after the run. -/
theorem kernel_half : (dats m 0 c).arrAt 8 cfg0.N
    = half (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 8 _ (by decide +kernel) fun t hf y => ?_
  blk_simp
  rw [after0_8, out_eq]
  obtain ⟨e0, e1, e2, e3, e4, e6, e7, e8, e9, e10⟩ := index_eq t
  unfold halfBlk half
  refine halfAt_congr (fun k => ?_) (fun k => ?_) (fun k j => ?_) (fun k j => ?_) (fun j k => ?_) ?_
  · blk_ext [iblk, V, e0, e8]
  · blk_ext! [iblk, V, e1]
  · blk_ext [iblk, V, e2]
  · blk_ext [iblk, V, e3]
  · blk_ext [iblk, V, e4]
  · apply Fin.ext; blk_simp [e8]

/-- The kernel's second result array after the run. -/
theorem kernel_a : (dats m 0 c).arrAt 9 cfg0.N = pick4 1 0 (m ((c.tc : Thread nD τ).loc main_arg5)) := by
  refine (dats m 0 c).arrAt_eq_of_covers 9 _ (by decide +kernel) fun t hf y => ?_
  blk_simp
  rw [after0_9, side_a]
  obtain ⟨e0, e1, e2, e3, e4, e6, e7, e8, e9, e10⟩ := index_eq t
  unfold pick4
  blk_ext [iblk, V, e6, e9]

/-- The kernel's third result array after the run. -/
theorem kernel_b : (dats m 0 c).arrAt 10 cfg0.N = pick4 1 0 (m ((c.tc : Thread nD τ).loc main_arg6)) := by
  refine (dats m 0 c).arrAt_eq_of_covers 10 _ (by decide +kernel) fun t hf y => ?_
  blk_simp
  rw [after0_10, side_b]
  obtain ⟨e0, e1, e2, e3, e4, e6, e7, e8, e9, e10⟩ := index_eq t
  unfold pick4
  blk_ext [iblk, V, e7, e10]

end Kernel

section Reference
open Cert.ReferenceFfnBIdeal Cert.ReferenceFfnBIdeal.Value Cert.ReferenceFfnBIdeal.Read

/-- The reference's first result. -/
theorem reference_half (X : Vec Ideal S16384x1024 .f32) (g : Vec Ideal S1024 .f32) (W : Vec Ideal S1024x5632 .bf16) (O : Vec Ideal S2816x1024 .bf16) :
    val_main_v23 (F := Ideal) X g W O = half X g W O := by
  funext i
  idx_vars i
  pointwise [half, halfAt, hidAt, rmsAt, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_call0_v0, val_main_call0_v1, val_main_call0_cst, val_main_call0_v2, val_main_call0_v3, val_main_call0_cst_0, val_main_call0_v4, val_main_call0_v5, val_main_v18, val_main_v19, val_main_v20, val_main_cst_2, val_main_v21, val_main_v22, val_main_v23]
  simp only [Ideal.logistic]

/-- The reference's second result. -/
theorem reference_a (S : Vec Ideal S2x2x1024x5632 .f32) : val_main_v26 (F := Ideal) S = pick4 1 0 S := by
  funext i
  idx_vars i
  pointwise [pick4, val_main_v24, val_main_v25, val_main_v26]

/-- The reference's third result. -/
theorem reference_b (S : Vec Ideal S2x2x2816x1024 .f32) : val_main_v29 (F := Ideal) S = pick4 1 0 S := by
  funext i
  idx_vars i
  pointwise [pick4, val_main_v27, val_main_v28, val_main_v29]

end Reference

end Cert.FfnB

end
-- ==== Proof.FfnHalfC.lean ====
/- The third feed-forward call's result arrays after the run, and its reference's, are the same functions of the arguments. -/
module

public import proofs.«01_k».proof.Proof.FfnHalf
public import proofs.«01_k».proof.Proof.Gen.KernelFfnCIdeal.Value
public import proofs.«01_k».proof.Proof.Gen.ReferenceFfnCIdeal.Read

@[expose] public section

set_option maxRecDepth 16384

noncomputable section

namespace Cert.FfnC

open Idealize.ShloMosaic Idealize.ShloMosaic.TcCoe Idealize.SL.Sem Cert.FfnValue

/-- The columns of the gate weights: four of the eight gate columns at the head of each 128, and nothing beside them. -/
def gateCol (f : Fin 3592 → EReal) (j : Fin 256) : EReal :=
  if h : j.val < 4 then f ⟨2048 + j.val, by omega⟩
  else if h : 128 ≤ j.val ∧ j.val < 132 then f ⟨1924 + j.val, by omega⟩ else 0

/-- Gate columns past the first 128 are the second four, and the lanes past them are nothing. -/
theorem gateCol_hi (f : Fin 3592 → EReal) (n : ℕ) (h : n < 128) : gateCol f ⟨128 + n, by omega⟩
    = if n < 4 then f ⟨2048 + (n + 128 - 124) % 128, by omega⟩ else 0 := by
  unfold gateCol
  rw [dif_neg (by show ¬ 128 + n < 4; omega)]
  by_cases h4 : n < 4
  · rw [dif_pos (by show 128 ≤ 128 + n ∧ 128 + n < 132; omega), if_pos h4]
    exact congrArg f (Fin.ext (by show 1924 + (128 + n) = 2048 + (n + 128 - 124) % 128; omega))
  · rw [dif_neg (by show ¬ (128 ≤ 128 + n ∧ 128 + n < 132); omega), if_neg h4]

/-- Gate columns among the first 128 are the first four, and the lanes past them are nothing. -/
theorem gateCol_lo (f : Fin 3592 → EReal) (n : ℕ) (h : n < 128) : gateCol f ⟨n, by omega⟩
    = if n < 4 then f ⟨2048 + n, by omega⟩ else 0 := by
  unfold gateCol
  by_cases h4 : n < 4
  · rw [dif_pos h4, if_pos h4]
  · rw [dif_neg h4, dif_neg (by show ¬ (128 ≤ n ∧ n < 132); omega), if_neg h4]

/-- Choosing by the comparison of a lane's number with four is choosing by that lane's number. -/
theorem select_lane (x : Fin 128) (a b : EReal) :
    Scalar.select (IntOp.cmpi .slt (BitVec.ofNat 32 x.val) 4#32) a b = if x.val < 4 then a else b := by
  have h : ∀ x : Fin 128, IntOp.cmpi .slt (BitVec.ofNat 32 x.val) 4#32 = if x.val < 4 then 1#1 else 0#1 := by decide
  rw [h x]
  by_cases h4 : x.val < 4
  · rw [if_pos h4, if_pos h4]; rfl
  · rw [if_neg h4, if_neg h4]; rfl

/-- Gate columns padded four by four and put side by side are `gateCol`. -/
theorem gateCol_pad (f : Fin 3592 → EReal) (j : Fin 256) (z : EReal) (hz : z = 0) :
    (if h : j.val < 128 then if h' : j.val < 4 then f ⟨2048 + j.val, by omega⟩ else z
      else if h' : j.val - 128 < 4 then f ⟨2048 + (4 + (j.val - 128)), by omega⟩ else z) = gateCol f j := by
  subst hz
  obtain ⟨n, hn⟩ := j
  by_cases h : n < 128
  · rw [gateCol_lo f n h, dif_pos h]
    rfl
  · obtain ⟨k, rfl⟩ : ∃ k, n = 128 + k := ⟨n - 128, by omega⟩
    rw [gateCol_hi f k (by omega), dif_neg h]
    by_cases h4 : k < 4
    · rw [dif_pos (by show 128 + k - 128 < 4; omega), if_pos h4]
      exact congrArg f (Fin.ext (by show 2048 + (4 + (128 + k - 128)) = 2048 + (k + 128 - 124) % 128; omega))
    · rw [dif_neg (by show ¬ 128 + k - 128 < 4; omega), if_neg h4]

/-- The gate columns read a row only through its values. -/
theorem gateCol_congr {f f' : Fin 3592 → EReal} {j j' : Fin 256} (h : ∀ k, f k = f' k) (hj : j = j') : gateCol f j = gateCol f' j' := by
  rw [funext h, hj]

/-- The gate weights laid out for the next layer. -/
def gates (S : Vec Ideal ⟨3, ![1, 1024, 3592]⟩ .f32) : Vec Ideal ⟨2, ![1024, 256]⟩ .bf16 := fun i =>
  gateCol (fun k => S (ix3 0 (i 0) k)) (i 1)

/-- A run of columns of a matrix of a stack. -/
def cut (n p : ℕ) (h : n + p ≤ 3592) (S : Vec Ideal ⟨3, ![1, 1024, 3592]⟩ .f32) : Vec Ideal ⟨2, ![1024, n]⟩ .bf16 := fun i =>
  S (ix3 0 (i 0) ⟨p + (i 1).val, by have := (i 1).isLt; change (i 1).val < n at this; omega⟩)

section Kernel
open Cert.KernelFfnCIdeal Cert.KernelFfnCIdeal.Gen

variable (m : (ℓ : Loc nD τ sig) → Buf (Elt Ideal) ℓ) (c : Dev nD) (t : Fin cfg0.N)

set_option maxHeartbeats 2000000 in
/-- What the run leaves in the output block is `halfBlk` of the input blocks. -/
theorem out_eq (y : S1024x1024.Idx) : (outsAt0 m c t).1 y
    = halfBlk (iblk m c 0 t) (iblk m c 1 t) (iblk m c 2 t) (iblk m c 3 t) (iblk m c 4 t) y := by
  unfold outsAt0
  dsimp only
  generalize (iblk m c 0 t : Vec Ideal S1024x1024 .f32) = x0
  generalize (iblk m c 1 t : Vec Ideal S1x1024 .f32) = x1
  generalize (iblk m c 2 t : Vec Ideal S1024x2816 .bf16) = x2
  generalize (iblk m c 3 t : Vec Ideal S1024x2816 .bf16) = x3
  generalize (iblk m c 4 t : Vec Ideal S2816x1024 .bf16) = x4
  frame_open
  frame_out
  refine Tiles.canon_of_piecesOf (halfBlk x0 x1 x2 x3 x4) _ ?pieces y ?cover
  case cover => exact View.cover_of_tiledL (s := S1024x1024) _ S256x1024.size (by sl_kernel_rfl) y
  case pieces =>
    refine ⟨fun x => ?_, fun x => ?_, fun x => ?_, fun x => ?_, trivial⟩
    all_goals
      refine half_piece x0 x1 x2 x3 x4 _ _ (by decide) _ ?_ x
      refine Tiles.readCov_of_tiledBox _ _ _ _ _ _ 256 256 1 11 ?_ (by sl_kernel_rfl) rfl rfl
      clear x
      repeat' (first
        | exact trivial
        | refine ⟨fun z => hid_piece x0 x1 x2 x3 _ _ (by decide) (by decide) (by decide) z, ?_⟩)

/-- The first weights' block, cast. -/
theorem side_a (y : S64x5632.Idx) : (outsAt0 m c t).2.1 y = (iblk m c 6 t : Vec Ideal S1x1x64x5632 .f32) (ix4 0 0 (y 0) (y 1)) := by
  unfold outsAt0
  dsimp only
  generalize (iblk m c 6 t : Vec Ideal S1x1x64x5632 .f32) = x6
  frame_open
  frame_out
  idx_vars y
  pointwise [k0_pay1]

/-- The second weights' block, cast. -/
theorem side_b (y : S176x1024.Idx) : (outsAt0 m c t).2.2.1 y = (iblk m c 7 t : Vec Ideal S1x1x176x1024 .f32) (ix4 0 0 (y 0) (y 1)) := by
  unfold outsAt0
  dsimp only
  generalize (iblk m c 7 t : Vec Ideal S1x1x176x1024 .f32) = x7
  frame_open
  frame_out
  idx_vars y
  pointwise [k0_pay2]

/-- The third weights' first columns, cast. -/
theorem side_c (y : S64x2048.Idx) : (outsAt0 m c t).2.2.2.1 y = (iblk m c 8 t : Vec Ideal S1x64x3592 .f32) (ix3 0 (y 0) ⟨(y 1).val, by have := (y 1).isLt; change (y 1).val < 2048 at this; omega⟩) := by
  unfold outsAt0
  dsimp only
  generalize (iblk m c 8 t : Vec Ideal S1x64x3592 .f32) = x8
  frame_open
  frame_out
  idx_vars y
  pointwise [k0_pay4, k0_pay3]

/-- The third weights' last columns, cast. -/
theorem side_d (y : S64x1536.Idx) : (outsAt0 m c t).2.2.2.2.1 y = (iblk m c 8 t : Vec Ideal S1x64x3592 .f32) (ix3 0 (y 0) ⟨2056 + (y 1).val, by have := (y 1).isLt; change (y 1).val < 1536 at this; omega⟩) := by
  unfold outsAt0
  dsimp only
  generalize (iblk m c 8 t : Vec Ideal S1x64x3592 .f32) = x8
  frame_open
  frame_out
  idx_vars y
  pointwise [k0_pay5, k0_pay3]

/-- The gate weights' block as a function of the weights' block. -/
def gateBlk (x8 : Vec Ideal S1x64x3592 .f32) : Vec Ideal S64x256 .bf16 := fun y => gateCol (fun k => x8 (ix3 0 (y 0) k)) (y 1)

/-- The third weights' gate columns, laid out and cast. -/
theorem side_e (y : S64x256.Idx) : (outsAt0 m c t).2.2.2.2.2.1 y
    = gateCol (fun k => (iblk m c 8 t : Vec Ideal S1x64x3592 .f32) (ix3 0 (y 0) k)) (y 1) := by
  unfold outsAt0
  dsimp only
  generalize (iblk m c 8 t : Vec Ideal S1x64x3592 .f32) = x8
  frame_open
  frame_out
  refine Tiles.canon_of_piecesOf (gateBlk x8) _ ?pieces y ?cover
  case cover => exact View.cover_of_tiledL (s := S64x256) _ S64x128.size (by sl_kernel_rfl) y
  case pieces =>
    refine ⟨fun x => ?_, fun x => ?_, trivial⟩
    · show _ = View.ld (Val := Elt Ideal) (e' := .bf16) (gateBlk x8) _ x
      idx_vars x
      pointwise [gateBlk, k0_pay11, k0_pay8, k0_pay9, k0_pay10, k0_pay6, k0_pay3]
      exact (select_lane x1 _ _).trans (gateCol_hi (fun k => x8 (ix3 0 x0 k)) x1.val x1.isLt).symm
    · show _ = View.ld (Val := Elt Ideal) (e' := .bf16) (gateBlk x8) _ x
      idx_vars x
      pointwise [gateBlk, k0_pay7, k0_pay6, k0_pay3]
      exact (select_lane x1 _ _).trans (gateCol_lo (fun k => x8 (ix3 0 x0 k)) x1.val x1.isLt).symm

/-- The fourth weights' block, cast. -/
theorem side_f (y : S64x1024.Idx) : (outsAt0 m c t).2.2.2.2.2.2 y = (iblk m c 9 t : Vec Ideal S1x64x1024 .f32) (ix3 0 (y 0) (y 1)) := by
  unfold outsAt0
  dsimp only
  generalize (iblk m c 9 t : Vec Ideal S1x64x1024 .f32) = x9
  frame_open
  frame_out
  idx_vars y
  pointwise [k0_pay12]

omit t

/-- Where each window's block lies, point by point. -/
theorem index_eq : ∀ t : Fin cfg0.N, win0_0.index t = ![t.val, 0] ∧ win0_1.index t = ![0, 0] ∧ win0_2.index t = ![0, 0]
    ∧ win0_3.index t = ![0, 1] ∧ win0_4.index t = ![0, 0] ∧ win0_6.index t = ![1, 1, t.val, 0] ∧ win0_7.index t = ![1, 1, t.val, 0]
    ∧ win0_8.index t = ![0, t.val, 0] ∧ win0_9.index t = ![0, t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

/-- The kernel's first result array after the run. -/
theorem kernel_half : (dats m 0 c).arrAt 10 cfg0.N
    = half (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 10 _ (by decide +kernel) fun t hf y => ?_
  blk_simp
  rw [after0_10, out_eq]
  obtain ⟨e0, e1, e2, e3, e4, e6, e7, e8, e9, e10, e11, e12, e13, e14, e15, e16⟩ := index_eq t
  unfold halfBlk half
  refine halfAt_congr (fun k => ?_) (fun k => ?_) (fun k j => ?_) (fun k j => ?_) (fun j k => ?_) ?_
  · blk_ext [iblk, V, e0, e10]
  · blk_ext! [iblk, V, e1]
  · blk_ext [iblk, V, e2]
  · blk_ext [iblk, V, e3]
  · blk_ext [iblk, V, e4]
  · apply Fin.ext; blk_simp [e10]

/-- The kernel's second result array after the run. -/
theorem kernel_a : (dats m 0 c).arrAt 11 cfg0.N = pick4 1 1 (m ((c.tc : Thread nD τ).loc main_arg5)) := by
  refine (dats m 0 c).arrAt_eq_of_covers 11 _ (by decide +kernel) fun t hf y => ?_
  blk_simp
  rw [after0_11, side_a]
  obtain ⟨e0, e1, e2, e3, e4, e6, e7, e8, e9, e10, e11, e12, e13, e14, e15, e16⟩ := index_eq t
  unfold pick4
  blk_ext [iblk, V, e6, e11]

/-- The kernel's third result array after the run. -/
theorem kernel_b : (dats m 0 c).arrAt 12 cfg0.N = pick4 1 1 (m ((c.tc : Thread nD τ).loc main_arg6)) := by
  refine (dats m 0 c).arrAt_eq_of_covers 12 _ (by decide +kernel) fun t hf y => ?_
  blk_simp
  rw [after0_12, side_b]
  obtain ⟨e0, e1, e2, e3, e4, e6, e7, e8, e9, e10, e11, e12, e13, e14, e15, e16⟩ := index_eq t
  unfold pick4
  blk_ext [iblk, V, e7, e12]

/-- The kernel's fourth result array after the run. -/
theorem kernel_c : (dats m 0 c).arrAt 13 cfg0.N = cut 2048 0 (by decide) (m ((c.tc : Thread nD τ).loc main_arg7)) := by
  refine (dats m 0 c).arrAt_eq_of_covers 13 _ (by decide +kernel) fun t hf y => ?_
  blk_simp
  rw [after0_13, side_c]
  obtain ⟨e0, e1, e2, e3, e4, e6, e7, e8, e9, e10, e11, e12, e13, e14, e15, e16⟩ := index_eq t
  unfold cut
  blk_ext [iblk, V, e8, e13]

/-- The kernel's fifth result array after the run. -/
theorem kernel_d : (dats m 0 c).arrAt 14 cfg0.N = cut 1536 2056 (by decide) (m ((c.tc : Thread nD τ).loc main_arg7)) := by
  refine (dats m 0 c).arrAt_eq_of_covers 14 _ (by decide +kernel) fun t hf y => ?_
  blk_simp
  rw [after0_14, side_d]
  obtain ⟨e0, e1, e2, e3, e4, e6, e7, e8, e9, e10, e11, e12, e13, e14, e15, e16⟩ := index_eq t
  unfold cut
  blk_ext [iblk, V, e8, e14]

/-- The kernel's sixth result array after the run. -/
theorem kernel_e : (dats m 0 c).arrAt 15 cfg0.N = gates (m ((c.tc : Thread nD τ).loc main_arg7)) := by
  refine (dats m 0 c).arrAt_eq_of_covers 15 _ (by decide +kernel) fun t hf y => ?_
  blk_simp
  rw [after0_15, side_e]
  obtain ⟨e0, e1, e2, e3, e4, e6, e7, e8, e9, e10, e11, e12, e13, e14, e15, e16⟩ := index_eq t
  unfold gates
  refine gateCol_congr (fun k => ?_) ?_
  · blk_ext [iblk, V, e8, e15]
  · apply Fin.ext; blk_simp [e15]

/-- The kernel's seventh result array after the run. -/
theorem kernel_f : (dats m 0 c).arrAt 16 cfg0.N = pick3 0 (m ((c.tc : Thread nD τ).loc main_arg8)) := by
  refine (dats m 0 c).arrAt_eq_of_covers 16 _ (by decide +kernel) fun t hf y => ?_
  blk_simp
  rw [after0_16, side_f]
  obtain ⟨e0, e1, e2, e3, e4, e6, e7, e8, e9, e10, e11, e12, e13, e14, e15, e16⟩ := index_eq t
  unfold pick3
  blk_ext [iblk, V, e9, e16]

end Kernel

section Reference
open Cert.ReferenceFfnCIdeal Cert.ReferenceFfnCIdeal.Value Cert.ReferenceFfnCIdeal.Read

/-- The reference's first result. -/
theorem reference_half (X : Vec Ideal S16384x1024 .f32) (g : Vec Ideal S1024 .f32) (W : Vec Ideal S1024x5632 .bf16) (O : Vec Ideal S2816x1024 .bf16) :
    val_main_v33 (F := Ideal) X g W O = half X g W O := by
  funext i
  idx_vars i
  pointwise [half, halfAt, hidAt, rmsAt, val_main_v10, val_main_cst, val_main_v11, val_main_v12, val_main_cst_1, val_main_v13, val_main_v14, val_main_cst_2, val_main_v15, val_main_v16, val_main_v17, val_main_v18, val_main_v19, val_main_v20, val_main_v21, val_main_v22, val_main_v23, val_main_v24, val_main_v25, val_main_v26, val_main_v27, val_main_call2_v0, val_main_call2_v1, val_main_call2_cst, val_main_call2_v2, val_main_call2_v3, val_main_call2_cst_0, val_main_call2_v4, val_main_call2_v5, val_main_v28, val_main_v29, val_main_v30, val_main_cst_3, val_main_v31, val_main_v32, val_main_v33]
  simp only [Ideal.logistic]

/-- The reference's second result. -/
theorem reference_a (S : Vec Ideal S2x2x1024x5632 .f32) : val_main_v36 (F := Ideal) S = pick4 1 1 S := by
  funext i
  idx_vars i
  pointwise [pick4, val_main_v34, val_main_v35, val_main_v36]

/-- The reference's third result. -/
theorem reference_b (S : Vec Ideal S2x2x2816x1024 .f32) : val_main_v39 (F := Ideal) S = pick4 1 1 S := by
  funext i
  idx_vars i
  pointwise [pick4, val_main_v37, val_main_v38, val_main_v39]

/-- The reference's fourth result. -/
theorem reference_c (S : Vec Ideal S1x1024x3592 .f32) : val_main_v2 (F := Ideal) S = cut 2048 0 (by decide) S := by
  funext i
  idx_vars i
  pointwise [cut, val_main_v0, val_main_v1, val_main_v2]

/-- The reference's fifth result. -/
theorem reference_d (S : Vec Ideal S1x1024x3592 .f32) : val_main_v4 (F := Ideal) S = cut 1536 2056 (by decide) S := by
  funext i
  idx_vars i
  pointwise [cut, val_main_v0, val_main_v1, val_main_v4]

/-- The reference's sixth result. -/
theorem reference_e (S : Vec Ideal S1x1024x3592 .f32) : val_main_v9 (F := Ideal) S = gates S := by
  funext i
  idx_vars i
  pointwise [gates, val_main_v0, val_main_v1, val_main_v3, val_main_v5, val_main_c, val_main_call0_v0, val_main_v6, val_main_v7, val_main_c_0, val_main_call1_v0, val_main_v8, val_main_v9]
  exact gateCol_pad (fun k => S (ix3 0 i0 k)) i1 _ (by simp [FloatOps.sitofp])

/-- The reference's seventh result. -/
theorem reference_f (S : Vec Ideal S1x1024x1024 .f32) : val_main_v41 (F := Ideal) S = pick3 0 S := by
  funext i
  idx_vars i
  pointwise [pick3, val_main_v40, val_main_v41]

end Reference

end Cert.FfnC

end
-- ==== Proof.MixMath.lean ====
/- The recurrence of the mixing layer, token by token, over the projected rows of one batch: the gate, its running
   log-decay inside a chunk of 32 tokens, the state carried from chunk to chunk, the head outputs and the short
   convolution. Rows and columns are counted by natural numbers, so that one description serves every tile. -/
module

public import Idealize.ShloMosaic.Lib.Pointwise

@[expose] public section

noncomputable section

namespace Cert.Mix

open Idealize.ShloMosaic

section Sums

/-- A sum over `m` groups of `n` in which only group `c` counts is the sum over that group. -/
theorem sum_group (m n : ℕ) (c : ℕ) (hc : c < m) (F : ℕ → EReal) :
    (∑ j : Fin (m * n), if j.val / n = c then F j.val else 0) = ∑ i : Fin n, F (n * c + i.val) := by
  rw [← finProdFinEquiv.sum_comp, Fintype.sum_prod_type, Finset.sum_eq_single (⟨c, hc⟩ : Fin m)]
  · refine Finset.sum_congr rfl fun i _ => ?_
    have hn : 0 < n := Nat.pos_of_ne_zero fun h => by subst h; exact i.elim0
    have h : (finProdFinEquiv ((⟨c, hc⟩ : Fin m), i)).val = n * c + i.val := by simp [finProdFinEquiv, Nat.add_comm]
    rw [h, if_pos (by rw [Nat.mul_add_div hn, Nat.div_eq_of_lt i.isLt, Nat.add_zero])]
  · intro b _ hb
    refine Finset.sum_eq_zero fun i _ => ?_
    have hn : 0 < n := Nat.pos_of_ne_zero fun h => by subst h; exact i.elim0
    have h : (finProdFinEquiv (b, i)).val = n * b.val + i.val := by simp [finProdFinEquiv, Nat.add_comm]
    rw [h, if_neg]
    rw [Nat.mul_add_div hn, Nat.div_eq_of_lt i.isLt, Nat.add_zero]
    exact fun e => hb (Fin.ext e)
  · exact fun h => absurd (Finset.mem_univ _) h

/-- A sum with a summand `⊥` is `⊥`. -/
theorem sum_eq_bot {ι : Type} [Fintype ι] [DecidableEq ι] (f : ι → EReal) (i : ι) (h : f i = ⊥) : ∑ j, f j = ⊥ := by
  rw [← Finset.add_sum_erase _ _ (Finset.mem_univ i), h, EReal.bot_add]

/-- Summing numbers below `⊤` in two parts, the number and what subtracting it from itself leaves, sums the numbers. -/
theorem sum_add_rest {ι : Type} [Fintype ι] [DecidableEq ι] (p : ι → Prop) [DecidablePred p] (x : ι → EReal) (hx : ∀ j, x j ≠ ⊤) :
    (∑ j, if p j then x j else 0) + (∑ j, if p j then x j - x j else 0) = ∑ j, if p j then x j else 0 := by
  by_cases h : ∃ j, p j ∧ x j = ⊥
  · obtain ⟨j, hj, hb⟩ := h
    rw [sum_eq_bot (fun j => if p j then x j else 0) j (by simp [hj, hb]), EReal.bot_add]
  · rw [Finset.sum_eq_zero (s := Finset.univ) (f := fun j => if p j then x j - x j else 0), add_zero]
    intro j _
    by_cases hj : p j
    · rw [if_pos hj]; exact EReal.sub_self (hx j) fun e => h ⟨j, hj, e⟩
    · rw [if_neg hj]

end Sums

section Recurrence

variable (P : ℕ → ℕ → EReal) (lb hg : ℕ → EReal) (cw : ℕ → ℕ → EReal) (cb : ℕ → EReal)

/-- The forget gate of token `t` at key column `k`: the lower bound, opened towards one by the logistic of the projection. -/
def gate (t k : ℕ) : EReal := lb k + (1 - lb k) * Ideal.logistic (P t (512 + k))

/-- The running sum of the gate's logarithm over the tokens of the chunk up to token `t`. -/
def cum (t k : ℕ) : EReal := ∑ j : Fin 32, if j.val ≤ t % 32 then Ideal.log (gate P lb (32 * (t / 32) + j.val) k) else 0

/-- The running sum at the end of chunk `c`. -/
def last (c k : ℕ) : EReal := cum P lb (32 * c + 31) k

/-- The query, decayed from the chunk's start. -/
def qdec (t k : ℕ) : EReal := P t k * Ideal.logistic (P t k) * Ideal.exp (cum P lb t k)

/-- The key, with the decay from the chunk's start taken out. -/
def kdec (t k : ℕ) : EReal := (1 - gate P lb t k) * Ideal.exp (0 - cum P lb t k)

/-- The key, decayed to the chunk's end. -/
def kend (t k : ℕ) : EReal := (1 - gate P lb t k) * Ideal.exp (last P lb (t / 32) k - cum P lb t k)

/-- The state before chunk `c`, at value column `v` and key column `k`. -/
def state : ℕ → ℕ → ℕ → EReal
  | 0, _, _ => 0
  | c + 1, v, k => Ideal.exp (last P lb c k) * state c v k + ∑ i : Fin 32, P (32 * c + i.val) (1024 + v) * kend P lb (32 * c + i.val) k

/-- The attention of token `t` to token `i` of its chunk, in the head whose columns start at `lo`; none to later tokens. -/
def attn (lo t i : ℕ) : EReal :=
  if i ≤ t % 32 then ∑ d : Fin 128, qdec P lb t (lo + d.val) * kdec P lb (32 * (t / 32) + i) (lo + d.val) else 0

/-- The head's output: the chunk's own values by attention, and what the state keeps of the earlier chunks. -/
def headOut (lo t v : ℕ) : EReal :=
  (∑ i : Fin 32, P (32 * (t / 32) + i.val) (1024 + (lo + v)) * attn P lb lo t i.val)
    + ∑ d : Fin 128, state P lb (t / 32) (lo + v) (lo + d.val) * qdec P lb t (lo + d.val)

/-- The head's output divided by its root mean square over the head's columns, scaled, and gated. -/
def headY (lo t d : ℕ) : EReal :=
  headOut P lb lo t d
    * Ideal.rsqrt (Ideal.div (∑ x : Fin 128, headOut P lb lo t x.val * headOut P lb lo t x.val) (Ideal.ofBits .f32 0x43000000#32)
        + Ideal.ofBits .f32 0x358637BD#32)
    * hg (lo + d) * (P t (1536 + (lo + d)) * Ideal.logistic (P t (1536 + (lo + d))))

/-- The convolution's input at token `t`. -/
def convIn (t k : ℕ) : EReal := P t (2560 + k) * P t (3072 + k)

/-- The convolution's input `n` tokens back: zero before the sequence's first token. -/
def convBack (n t k : ℕ) : EReal := if n ≤ t then convIn P (t - n) k else 0

/-- The gated convolution of the last three tokens. -/
def convY (t k : ℕ) : EReal :=
  P t (2048 + k) * (cb k + cw 0 k * convBack P 2 t k + cw 1 k * convBack P 1 t k + cw 2 k * convIn P t k)

end Recurrence

end Cert.Mix

end
-- ==== Proof.MixTile.lean ====
/- One tile of 256 tokens of the recurrent kernel, entry by entry: its gates, running sums, attention, states and head
   outputs are those of the token sequence. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Tiles
public import proofs.«01_k».proof.Proof.MixMath

@[expose] public section

set_option maxRecDepth 16384

noncomputable section

namespace Cert.MixTile

open Idealize.ShloMosaic Idealize.ShloMosaic.TcCoe Idealize.SL.Sem Cert.KernelIdeal Cert.KernelIdeal.Gen Cert.Mix

/-- Which earlier-or-same tokens of the same chunk a token of the tile attends to. -/
def tri : IVec S256x256 1 :=
  k0_pay385 (iota .tc S256x256 32 [0] iota_S256x256_d0_w32) (iota .tc S256x256 32 [1] iota_S256x256_d1_w32) 32#32
    k0_pay383 k0_pay384 1#32

/-- The same as numbers, zero or one. -/
def tri01 : FVec Ideal S256x256 .bf16 := k0_pay388 (F := Ideal) tri k0_pay386 k0_pay387

/-- Which of the eight groups of 128 columns belongs to a token's chunk. -/
def emask : IVec S256x1024 1 := k0_pay394 k0_pay389 k0_pay390 k0_pay391 k0_pay392 k0_pay393

/-- The quotient a signed division rounded towards minus infinity computes. -/
def floorQ (n d : BitVec 32) : BitVec 32 :=
  Scalar.select
    (IntOp.andi (IntOp.cmpi .ne (IntOp.subi (BitVec.setWidth 32 (IntOp.cmpi .sgt n 0#32)) (BitVec.setWidth 32 (IntOp.cmpi .slt n 0#32))) 1#32)
      (IntOp.cmpi .ne (IntOp.remsi ArithUnit.vector n d) 0#32))
    (IntOp.subi (IntOp.divsi ArithUnit.vector n d) 1#32) (IntOp.divsi ArithUnit.vector n d)

/-- Dividing a row number by 32. -/
theorem floorQ_32 : ∀ r : Fin 256, floorQ (BitVec.ofNat 32 r.val) 32#32 = BitVec.ofNat 32 (r.val / 32) := by decide +kernel
/-- Dividing a column number by 128. -/
theorem floorQ_128 : ∀ r : Fin 1024, floorQ (BitVec.ofNat 32 r.val) 128#32 = BitVec.ofNat 32 (r.val / 128) := by decide +kernel

/-- Comparing two small numbers for equality. -/
theorem cmp_eq_small : ∀ a b : Fin 8, IntOp.cmpi .eq (BitVec.ofNat 32 a.val) (BitVec.ofNat 32 b.val) = if b.val = a.val then 1#1 else 0#1 := by
  decide +kernel

/-- Comparing two small numbers for order. -/
theorem cmp_sle_small (a b : Fin 256) : IntOp.cmpi .sle (BitVec.ofNat 32 a.val) (BitVec.ofNat 32 b.val) = if a.val ≤ b.val then 1#1 else 0#1 := by
  have h : (BitVec.ofNat 32 a.val).sle (BitVec.ofNat 32 b.val) = decide (a.val ≤ b.val) := by
    rw [BitVec.sle_eq_decide, BitVec.toInt_eq_toNat_of_lt (by simp; omega), BitVec.toInt_eq_toNat_of_lt (by simp; omega)]
    simp only [BitVec.toNat_ofNat, Nat.cast_le]
    rw [Nat.mod_eq_of_lt (by omega), Nat.mod_eq_of_lt (by omega)]
  show BitVec.ofBool ((BitVec.ofNat 32 a.val).sle (BitVec.ofNat 32 b.val)) = _
  rw [h]
  by_cases hl : a.val ≤ b.val <;> simp [hl]

/-- A token attends to the earlier-or-same tokens of its chunk and to no other. -/
theorem tri_entry (r j : Fin 256) : tri (ix2 r j) = if j.val / 32 = r.val / 32 ∧ j.val ≤ r.val then 1#1 else 0#1 := by
  pointwise [tri, k0_pay385, k0_pay383, k0_pay384]
  show IntOp.cmpi .sgt (Scalar.select (IntOp.cmpi .eq (floorQ (BitVec.ofNat 32 r.val) 32#32) (floorQ (BitVec.ofNat 32 j.val) 32#32))
    (Scalar.select (IntOp.cmpi .sle (BitVec.ofNat 32 j.val) (BitVec.ofNat 32 r.val)) 1#32 0#32) 0#32) 0#32 = _
  rw [floorQ_32, floorQ_32, cmp_sle_small, cmp_eq_small ⟨r.val / 32, by omega⟩ ⟨j.val / 32, by omega⟩]
  by_cases h1 : j.val / 32 = r.val / 32 <;> by_cases h2 : j.val ≤ r.val <;> simp only [h1, h2, if_true, if_false, true_and, false_and, and_true, and_false] <;> rfl

/-- The columns of a token's chunk are the 128 from 128 times the chunk. -/
theorem emask_entry (r : Fin 256) (j : Fin 1024) : emask (ix2 r j) = if j.val / 128 = r.val / 32 then 1#1 else 0#1 := by
  pointwise [emask, k0_pay389, k0_pay390, k0_pay391, k0_pay392, k0_pay393, k0_pay394]
  show IntOp.cmpi .eq (floorQ (BitVec.ofNat 32 r.val) 32#32) (floorQ (BitVec.ofNat 32 j.val) 128#32) = _
  rw [floorQ_32, floorQ_128, cmp_eq_small ⟨r.val / 32, by omega⟩ ⟨j.val / 128, by omega⟩]

/-- Eight bands of 32 rows, each one value per column, stacked: a row reads its band's value. -/
theorem concat_rows {α : Type} (a0 a1 a2 a3 a4 a5 a6 a7 : S32x512.Idx → α) (h) (r : Fin 256) (k : Fin 512) (G : ℕ → α)
    (h0 : ∀ i, a0 (ix2 i k) = G 0) (h1 : ∀ i, a1 (ix2 i k) = G 1) (h2 : ∀ i, a2 (ix2 i k) = G 2) (h3 : ∀ i, a3 (ix2 i k) = G 3) (h4 : ∀ i, a4 (ix2 i k) = G 4) (h5 : ∀ i, a5 (ix2 i k) = G 5) (h6 : ∀ i, a6 (ix2 i k) = G 6) (h7 : ∀ i, a7 (ix2 i k) = G 7) :
    concatenate S256x512 0 [⟨S32x512, a0⟩, ⟨S32x512, a1⟩, ⟨S32x512, a2⟩, ⟨S32x512, a3⟩, ⟨S32x512, a4⟩, ⟨S32x512, a5⟩, ⟨S32x512, a6⟩, ⟨S32x512, a7⟩] h (ix2 r k) = G (r.val / 32) := by
  have e := concatenate_ofFn_apply (t := S256x512) (s₁ := S32x512) (0 : Fin 2) ![a0, a1, a2, a3, a4, a5, a6, a7] h rfl 32 rfl (ix2 r k)
    ⟨r.val / 32, by omega⟩ rfl (ix2 ⟨r.val % 32, by omega⟩ k) rfl (fun b hb => by match b with | ⟨0, _⟩ => exact absurd rfl hb | ⟨1, _⟩ => rfl)
  refine e.trans ?_
  have hG : ∀ c : Fin 8, ∀ i, (![a0, a1, a2, a3, a4, a5, a6, a7] : Fin 8 → S32x512.Idx → α) c (ix2 i k) = G c.val := by
    intro c i
    fin_cases c
    exacts [h0 i, h1 i, h2 i, h3 i, h4 i, h5 i, h6 i, h7 i]
  exact hG _ _

/-- Eight groups of 128 columns side by side: a column reads its group's entry. -/
theorem concat_cols {α : Type} {m : ℕ} (a0 a1 a2 a3 a4 a5 a6 a7 : (⟨2, ![m, 128]⟩ : Shape).Idx → α) (h) (r : Fin m) (j : Fin 1024) (G : ℕ → Fin 128 → α)
    (h0 : ∀ i, a0 (ix2 r i) = G 0 i) (h1 : ∀ i, a1 (ix2 r i) = G 1 i) (h2 : ∀ i, a2 (ix2 r i) = G 2 i) (h3 : ∀ i, a3 (ix2 r i) = G 3 i) (h4 : ∀ i, a4 (ix2 r i) = G 4 i) (h5 : ∀ i, a5 (ix2 r i) = G 5 i) (h6 : ∀ i, a6 (ix2 r i) = G 6 i) (h7 : ∀ i, a7 (ix2 r i) = G 7 i) :
    concatenate (⟨2, ![m, 1024]⟩ : Shape) 1 [⟨(⟨2, ![m, 128]⟩ : Shape), a0⟩, ⟨(⟨2, ![m, 128]⟩ : Shape), a1⟩, ⟨(⟨2, ![m, 128]⟩ : Shape), a2⟩, ⟨(⟨2, ![m, 128]⟩ : Shape), a3⟩, ⟨(⟨2, ![m, 128]⟩ : Shape), a4⟩, ⟨(⟨2, ![m, 128]⟩ : Shape), a5⟩, ⟨(⟨2, ![m, 128]⟩ : Shape), a6⟩, ⟨(⟨2, ![m, 128]⟩ : Shape), a7⟩] h (ix2 r j) = G (j.val / 128) ⟨j.val % 128, by omega⟩ := by
  have e := concatenate_ofFn_apply (t := (⟨2, ![m, 1024]⟩ : Shape)) (s₁ := (⟨2, ![m, 128]⟩ : Shape)) (1 : Fin 2) ![a0, a1, a2, a3, a4, a5, a6, a7] h rfl 128 rfl (ix2 r j)
    ⟨j.val / 128, by omega⟩ rfl (ix2 r ⟨j.val % 128, by omega⟩) rfl (fun b hb => by match b with | ⟨1, _⟩ => exact absurd rfl hb | ⟨0, _⟩ => rfl)
  refine e.trans ?_
  have hG : ∀ c : Fin 8, ∀ i, (![a0, a1, a2, a3, a4, a5, a6, a7] : Fin 8 → (⟨2, ![m, 128]⟩ : Shape).Idx → α) c (ix2 r i) = G c.val i := by
    intro c i
    fin_cases c
    exacts [h0 i, h1 i, h2 i, h3 i, h4 i, h5 i, h6 i, h7 i]
  exact hG _ _

variable (x4 : Vec Ideal S3x512 .f32) (Pf : Vec Ideal S256x512 .f32)
/-- The tile's gates. -/
def fT : FVec Ideal S256x512 .f32 := k0_pay395 (F := Ideal) (k0_pay382 x4) Pf
/-- The tile's running sums of the gates' logarithms. -/
def bT : FVec Ideal S256x512 .f32 := k0_pay396 (F := Ideal) (k0_pay382 x4) tri01 Pf
/-- The tile's sums at the ends of the chunks, a row per token. -/
def eT : FVec Ideal S256x512 .f32 := k0_pay397 (F := Ideal) (k0_pay382 x4) tri01 Pf

/-- The lower bound of the forget gate, per key column. -/
def lbOf (k : ℕ) : EReal := if h : k < 512 then k0_pay382 (F := Ideal) x4 (ix2 0 ⟨k, h⟩) else 0

variable (P : ℕ → ℕ → EReal) (T : ℕ)
  (hP : ∀ (r : Fin 256) (k : Fin 512), Pf (ix2 r k) = P (256 * T + r.val) (512 + k.val))

include hP

/-- The tile's gates are the sequence's. -/
theorem f_entry (r : Fin 256) (k : Fin 512) : fT x4 Pf (ix2 r k) = gate P (lbOf x4) (256 * T + r.val) k.val := by
  pointwise [fT, k0_pay395]
  rw [hP]
  simp only [gate, lbOf, k.isLt, dif_pos]

/-- The tile's running sums are the sequence's. -/
theorem b_entry (hlog : ∀ t k, Ideal.log (gate P (lbOf x4) t k) ≠ ⊤) (r : Fin 256) (k : Fin 512) :
    bT x4 Pf (ix2 r k) = cum P (lbOf x4) (256 * T + r.val) k.val := by
  have hf := f_entry x4 Pf P T hP
  have e : bT x4 Pf (ix2 r k) = (∑ x : Fin 256, Scalar.select (tri (ix2 r x)) (Ideal.log (fT x4 Pf (ix2 x k))) 0)
      + ∑ x : Fin 256, Scalar.select (tri (ix2 r x)) (Ideal.log (fT x4 Pf (ix2 x k)) - Ideal.log (fT x4 Pf (ix2 x k))) 0 := by
    pointwise [bT, tri01, k0_pay386, k0_pay387, k0_pay388, k0_pay396, k0_pay395, fT]
  rw [e]
  simp only [hf, tri_entry]
  have hs : ∀ (x : Fin 256) (a : EReal), Scalar.select (if x.val / 32 = r.val / 32 ∧ x.val ≤ r.val then 1#1 else 0#1) a 0
      = if x.val / 32 = r.val / 32 ∧ x.val ≤ r.val then a else 0 := by
    intro x a
    by_cases h : x.val / 32 = r.val / 32 ∧ x.val ≤ r.val <;> simp [h, Scalar.select]
  simp only [hs]
  rw [sum_add_rest (fun x : Fin 256 => x.val / 32 = r.val / 32 ∧ x.val ≤ r.val)
    (fun x : Fin 256 => Ideal.log (gate P (lbOf x4) (256 * T + x.val) k.val)) fun x => hlog _ _]
  have hc := sum_group 8 32 (r.val / 32) (by omega)
    (fun x => if x ≤ r.val then Ideal.log (gate P (lbOf x4) (256 * T + x) k.val) else 0)
  simp only [ite_and]
  refine hc.trans ?_
  unfold cum
  refine Finset.sum_congr rfl fun i _ => ?_
  have e1 : (256 * T + r.val) % 32 = r.val % 32 := by omega
  have e2 : 256 * T + (32 * (r.val / 32) + i.val) = 32 * ((256 * T + r.val) / 32) + i.val := by omega
  rw [e1, ← e2]
  by_cases h : i.val ≤ r.val % 32
  · rw [if_pos h, if_pos (by omega)]
  · rw [if_neg h, if_neg (by omega)]

/-- The tile's sums at the chunks' ends are the sequence's. -/
theorem e_entry (hlog : ∀ t k, Ideal.log (gate P (lbOf x4) t k) ≠ ⊤) (r : Fin 256) (k : Fin 512) :
    eT x4 Pf (ix2 r k) = last P (lbOf x4) ((256 * T + r.val) / 32) k.val := by
  have hb := b_entry x4 Pf P T hP hlog
  have e : eT x4 Pf (ix2 r k) = last P (lbOf x4) (8 * T + r.val / 32) k.val := by
    unfold eT k0_pay397
    refine concat_rows _ _ _ _ _ _ _ _ _ r k (fun c => last P (lbOf x4) (8 * T + c) k.val) ?_ ?_ ?_ ?_ ?_ ?_ ?_ ?_
    all_goals
      intro i
      pointwise []
      refine (hb _ k).trans ?_
      unfold last
      congr 1
      omega
  rw [e]
  congr 1
  omega

omit hP

/-- A selection by a condition's bit. -/
theorem select_of {p : Prop} [Decidable p] (a b : EReal) : Scalar.select (if p then 1#1 else 0#1) a b = if p then a else b := by
  by_cases h : p <;> simp [h, Scalar.select]

section Head

variable (lb : ℕ → EReal) (lo : ℕ)
  (bH eH kH : FVec Ideal S256x128 .f32) (q v g : Vec Ideal S256x128 .f32) (st : Vec Ideal S1x128x128 .f32) (hgn : Vec Ideal S1x128 .f32)

/-- The decayed queries of a head. -/
def qdT : FVec Ideal S256x128 .bf16 := k0_pay48 (F := Ideal) q bH (k0_pay47 q)

/-- The head's outputs from the tile's own tokens, one column per token. -/
def ownT : FVec Ideal S128x256 .f32 := k0_pay51 (F := Ideal) tri q v bH kH (k0_pay47 q)

/-- What each chunk adds to the state, chunk beside chunk. -/
def addT : FVec Ideal S128x1024 .f32 := k0_pay52 (F := Ideal) emask v bH eH kH

/-- The head's state after the tile. -/
def stT : FVec Ideal S1x128x128 .f32 := k0_pay63 (F := Ideal) eH (addT bH eH kH v) (k0_pay54 st) (k0_pay55 eH)

/-- The head's outputs from the state, one column per token. -/
def keptT : FVec Ideal S128x256 .f32 := k0_pay64 (F := Ideal) emask eH (qdT bH q) (addT bH eH kH v) (k0_pay54 st) (k0_pay55 eH)

/-- The head's normalised and gated outputs. -/
def headT : FVec Ideal S256x128 .bf16 := k0_pay65 (F := Ideal) g (ownT bH kH q v) (keptT bH eH kH q v st) hgn

variable (hb : ∀ (r : Fin 256) (d : Fin 128), bH (ix2 r d) = cum P lb (256 * T + r.val) (lo + d.val))
  (he : ∀ (r : Fin 256) (d : Fin 128), eH (ix2 r d) = last P lb ((256 * T + r.val) / 32) (lo + d.val))
  (hk : ∀ (r : Fin 256) (d : Fin 128), kH (ix2 r d) = 1 - gate P lb (256 * T + r.val) (lo + d.val))
  (hq : ∀ (r : Fin 256) (d : Fin 128), q (ix2 r d) = P (256 * T + r.val) (lo + d.val))
  (hv : ∀ (r : Fin 256) (d : Fin 128), v (ix2 r d) = P (256 * T + r.val) (1024 + (lo + d.val)))
  (hg : ∀ (r : Fin 256) (d : Fin 128), g (ix2 r d) = P (256 * T + r.val) (1536 + (lo + d.val)))
  (hst : ∀ a d : Fin 128, st (ix3 0 a d) = state P lb (8 * T) (lo + a.val) (lo + d.val))
  (hgv : ℕ → EReal) (hh : ∀ d : Fin 128, hgn (ix2 0 d) = hgv (lo + d.val))

include hb hq in
/-- The tile's decayed queries. -/
theorem qdT_entry (r : Fin 256) (d : Fin 128) : qdT bH q (ix2 r d) = qdec P lb (256 * T + r.val) (lo + d.val) := by
  pointwise [qdT, k0_pay48, k0_pay47]
  rw [hb, hq]; rfl

include hb hk hq hv in
/-- What the chunk's own values give a token, by attention. -/
theorem ownT_entry (d : Fin 128) (r : Fin 256) : ownT bH kH q v (ix2 d r)
    = ∑ i : Fin 32, P (32 * ((256 * T + r.val) / 32) + i.val) (1024 + (lo + d.val)) * attn P lb lo (256 * T + r.val) i.val := by
  pointwise [ownT, k0_pay51, k0_pay48, k0_pay49, k0_pay47]
  have hc := sum_group 8 32 (r.val / 32) (by omega)
    (fun x => if x ≤ r.val then P (256 * T + x) (1024 + (lo + d.val)) * ∑ c : Fin 128, qdec P lb (256 * T + r.val) (lo + c.val)
      * kdec P lb (256 * T + x) (lo + c.val) else 0)
  refine (Finset.sum_congr rfl fun x _ => ?_).trans (hc.trans ?_)
  · simp only [tri_entry, hb, hk, hq, hv]
    refine (select_of _ _).trans ?_
    rw [ite_and]; rfl
  refine Finset.sum_congr rfl fun i _ => ?_
  have e1 : (256 * T + r.val) % 32 = r.val % 32 := by omega
  have e2 : 256 * T + (32 * (r.val / 32) + i.val) = 32 * ((256 * T + r.val) / 32) + i.val := by omega
  unfold attn
  rw [e1, ← e2]
  by_cases h : i.val ≤ r.val % 32
  · rw [if_pos h, if_pos (by omega)]
  · rw [if_neg h, if_neg (by omega), mul_zero]

include hb he hk hv in
/-- What each chunk of the tile adds to the state. -/
theorem addT_entry (a : Fin 128) (j : Fin 1024) : addT bH eH kH v (ix2 a j)
    = ∑ i : Fin 32, P (32 * (8 * T + j.val / 128) + i.val) (1024 + (lo + a.val)) * kend P lb (32 * (8 * T + j.val / 128) + i.val) (lo + j.val % 128) := by
  unfold addT k0_pay52
  generalize hC : concatenate S256x1024 1 _ _ = C
  have hCe : ∀ (r : Fin 256), C (ix2 r j) = kend P lb (256 * T + r.val) (lo + j.val % 128) := by
    intro r
    rw [← hC]
    have hp : ∀ i : Fin 128, truncf (F := Ideal) .bf16 (mulf kH (exp (subf eH bH))) bitsLt_bf16_f32 (ix2 r i) = kend P lb (256 * T + r.val) (lo + i.val) := by
      intro i
      pointwise []
      rw [hk, he, hb]; rfl
    exact concat_cols _ _ _ _ _ _ _ _ _ r j (fun _ i => kend P lb (256 * T + r.val) (lo + i.val)) hp hp hp hp hp hp hp hp
  pointwise [k0_pay49]
  have hc := sum_group 8 32 (j.val / 128) (by omega)
    (fun x => P (256 * T + x) (1024 + (lo + a.val)) * kend P lb (256 * T + x) (lo + j.val % 128))
  have hcomm : ∀ x : Fin 256, (j.val / 128 = x.val / 32) = (x.val / 32 = j.val / 128) := fun x => propext eq_comm
  refine (Finset.sum_congr rfl fun x _ => ?_).trans (hc.trans (Finset.sum_congr rfl fun i _ => ?_))
  · simp only [emask_entry, hCe, hv]
    refine (select_of _ _).trans ?_
    simp only [hcomm]
  have e2 : 256 * T + (32 * (j.val / 128) + i.val) = 32 * (8 * T + j.val / 128) + i.val := by omega
  rw [e2]

include hb he hk hv in
/-- One chunk's step of the state. -/
theorem step_entry (c : ℕ) (hc : c < 8) (a d : Fin 128) (r : Fin 256) (hr : r.val = 32 * c) (j : Fin 1024) (hj : j.val = 128 * c + d.val)
    (s : EReal) (hs : s = state P lb (8 * T + c) (lo + a.val) (lo + d.val)) :
    Ideal.exp (eH (ix2 r d)) * s + addT bH eH kH v (ix2 a j) = state P lb (8 * T + (c + 1)) (lo + a.val) (lo + d.val) := by
  rw [addT_entry P T lb lo bH eH kH v hb he hk hv, he, hs, hr, hj]
  have e1 : (256 * T + 32 * c) / 32 = 8 * T + c := by omega
  have e2 : (128 * c + d.val) / 128 = c := by omega
  have e3 : (128 * c + d.val) % 128 = d.val := by omega
  rw [e1, e2, e3]
  rfl

/-! The states between the chunks of the tile, one from the other. -/

include hb he hk hv hst in
/-- The state after the tile's first chunk. -/
theorem chunk1_entry (a d : Fin 128) : k0_pay56 (F := Ideal) (addT bH eH kH v) (k0_pay54 st) (k0_pay55 eH) (ix2 a d)
    = state P lb (8 * T + 1) (lo + a.val) (lo + d.val) := by
  pointwise [k0_pay56, k0_pay55, k0_pay54]
  exact step_entry P T lb lo bH eH kH v hb he hk hv 0 (by decide) a d 0 rfl _ (by simp) _ (hst a d)

include hb he hk hv hst in
/-- The state after its second chunk. -/
theorem chunk2_entry (a d : Fin 128) : k0_pay57 (F := Ideal) eH (addT bH eH kH v) (k0_pay54 st) (k0_pay55 eH) (ix2 a d)
    = state P lb (8 * T + 2) (lo + a.val) (lo + d.val) := by
  pointwise [k0_pay57]
  exact step_entry P T lb lo bH eH kH v hb he hk hv 1 (by decide) a d 32 rfl _ rfl _ (chunk1_entry P T lb lo bH eH kH v st hb he hk hv hst a d)

include hb he hk hv hst in
/-- The state after its third chunk. -/
theorem chunk3_entry (a d : Fin 128) : k0_pay58 (F := Ideal) eH (addT bH eH kH v) (k0_pay54 st) (k0_pay55 eH) (ix2 a d)
    = state P lb (8 * T + 3) (lo + a.val) (lo + d.val) := by
  pointwise [k0_pay58]
  exact step_entry P T lb lo bH eH kH v hb he hk hv 2 (by decide) a d 64 rfl _ rfl _ (chunk2_entry P T lb lo bH eH kH v st hb he hk hv hst a d)

include hb he hk hv hst in
/-- The state after its fourth chunk. -/
theorem chunk4_entry (a d : Fin 128) : k0_pay59 (F := Ideal) eH (addT bH eH kH v) (k0_pay54 st) (k0_pay55 eH) (ix2 a d)
    = state P lb (8 * T + 4) (lo + a.val) (lo + d.val) := by
  pointwise [k0_pay59]
  exact step_entry P T lb lo bH eH kH v hb he hk hv 3 (by decide) a d 96 rfl _ rfl _ (chunk3_entry P T lb lo bH eH kH v st hb he hk hv hst a d)

include hb he hk hv hst in
/-- The state after its fifth chunk. -/
theorem chunk5_entry (a d : Fin 128) : k0_pay60 (F := Ideal) eH (addT bH eH kH v) (k0_pay54 st) (k0_pay55 eH) (ix2 a d)
    = state P lb (8 * T + 5) (lo + a.val) (lo + d.val) := by
  pointwise [k0_pay60]
  exact step_entry P T lb lo bH eH kH v hb he hk hv 4 (by decide) a d 128 rfl _ rfl _ (chunk4_entry P T lb lo bH eH kH v st hb he hk hv hst a d)

include hb he hk hv hst in
/-- The state after its sixth chunk. -/
theorem chunk6_entry (a d : Fin 128) : k0_pay61 (F := Ideal) eH (addT bH eH kH v) (k0_pay54 st) (k0_pay55 eH) (ix2 a d)
    = state P lb (8 * T + 6) (lo + a.val) (lo + d.val) := by
  pointwise [k0_pay61]
  exact step_entry P T lb lo bH eH kH v hb he hk hv 5 (by decide) a d 160 rfl _ rfl _ (chunk5_entry P T lb lo bH eH kH v st hb he hk hv hst a d)

include hb he hk hv hst in
/-- The state after its seventh chunk. -/
theorem chunk7_entry (a d : Fin 128) : k0_pay62 (F := Ideal) eH (addT bH eH kH v) (k0_pay54 st) (k0_pay55 eH) (ix2 a d)
    = state P lb (8 * T + 7) (lo + a.val) (lo + d.val) := by
  pointwise [k0_pay62]
  exact step_entry P T lb lo bH eH kH v hb he hk hv 6 (by decide) a d 192 rfl _ rfl _ (chunk6_entry P T lb lo bH eH kH v st hb he hk hv hst a d)

include hb he hk hv hst in
/-- The state after its eighth chunk, which the tile leaves. -/
theorem chunk8_entry (a d : Fin 128) : stT bH eH kH v st (ix3 0 a d)
    = state P lb (8 * T + 8) (lo + a.val) (lo + d.val) := by
  pointwise [stT, k0_pay63]
  exact step_entry P T lb lo bH eH kH v hb he hk hv 7 (by decide) a d 224 rfl _ rfl _ (chunk7_entry P T lb lo bH eH kH v st hb he hk hv hst a d)

include hb he hk hq hv hst in
/-- What the states before the chunks give a token. -/
theorem keptT_entry (a : Fin 128) (r : Fin 256) : keptT bH eH kH q v st (ix2 a r)
    = ∑ d : Fin 128, state P lb ((256 * T + r.val) / 32) (lo + a.val) (lo + d.val) * qdec P lb (256 * T + r.val) (lo + d.val) := by
  unfold keptT k0_pay64
  generalize hC : concatenate S128x1024 1 _ _ = C
  generalize hQ : concatenate S256x1024 1 _ _ = Q
  have hCe : ∀ j : Fin 1024, C (ix2 a j) = state P lb (8 * T + j.val / 128) (lo + a.val) (lo + j.val % 128) := by
    intro j
    rw [← hC]
    refine concat_cols _ _ _ _ _ _ _ _ _ a j (fun c i => state P lb (8 * T + c) (lo + a.val) (lo + i.val)) (fun i => ?_)
      (chunk1_entry P T lb lo bH eH kH v st hb he hk hv hst a) (chunk2_entry P T lb lo bH eH kH v st hb he hk hv hst a)
      (chunk3_entry P T lb lo bH eH kH v st hb he hk hv hst a) (chunk4_entry P T lb lo bH eH kH v st hb he hk hv hst a)
      (chunk5_entry P T lb lo bH eH kH v st hb he hk hv hst a) (chunk6_entry P T lb lo bH eH kH v st hb he hk hv hst a)
      (chunk7_entry P T lb lo bH eH kH v st hb he hk hv hst a)
    pointwise [k0_pay54]
    exact hst a i
  have hQe : ∀ j : Fin 1024, Q (ix2 r j) = qdec P lb (256 * T + r.val) (lo + j.val % 128) := by
    intro j
    rw [← hQ]
    have hp := qdT_entry P T lb lo bH q hb hq r
    exact concat_cols _ _ _ _ _ _ _ _ _ r j (fun _ i => qdec P lb (256 * T + r.val) (lo + i.val)) hp hp hp hp hp hp hp hp
  pointwise []
  have hc := sum_group 8 128 (r.val / 32) (by omega)
    (fun j => state P lb (8 * T + j / 128) (lo + a.val) (lo + j % 128) * qdec P lb (256 * T + r.val) (lo + j % 128))
  refine (Finset.sum_congr rfl fun j _ => ?_).trans (hc.trans (Finset.sum_congr rfl fun i _ => ?_))
  · rw [emask_entry, hCe, hQe]
    refine (select_of _ _).trans ?_
    rfl
  · have e1 : (128 * (r.val / 32) + i.val) / 128 = r.val / 32 := by omega
    have e2 : (128 * (r.val / 32) + i.val) % 128 = i.val := by omega
    have e3 : (256 * T + r.val) / 32 = 8 * T + r.val / 32 := by omega
    rw [e1, e2, e3]

include hb he hk hq hv hg hst hh in
/-- A head's gated, normalised output on the tile is the sequence's. -/
theorem headT_entry (r : Fin 256) (d : Fin 128) : headT bH eH kH q v g st hgn (ix2 r d) = headY P lb hgv lo (256 * T + r.val) d.val := by
  pointwise [headT, k0_pay65]
  have ho : ∀ x : Fin 128, ownT bH kH q v (ix2 x r) + keptT bH eH kH q v st (ix2 x r) = headOut P lb lo (256 * T + r.val) x.val := fun x => by
    rw [ownT_entry P T lb lo bH kH q v hb hk hq hv, keptT_entry P T lb lo bH eH kH q v st hb he hk hq hv hst]; rfl
  simp only [ho, hg, hh]
  rfl

end Head

/-! The heads' columns cut out of the tile's arrays, and a head of the tile from the tile's projections. -/

section Cut

variable (lo : ℕ) (hs : S256x512.Slices ![0, lo] S256x128)

/-- The columns of a head. -/
def cut (X : FVec Ideal S256x512 .f32) : FVec Ideal S256x128 .f32 := extractStridedSlice S256x128 ![0, lo] X hs

/-- One minus the gate, in the columns of a head. -/
def cutKey : FVec Ideal S256x128 .f32 := subf (broadcast S256x128 (Scalar.ofBits .f32 0x3F800000#32)) (cut lo hs (fT x4 Pf))

variable (q v g : Vec Ideal S256x128 .f32) (st : Vec Ideal S1x128x128 .f32) (hgn : Vec Ideal S1x128 .f32)

/-- A head's state after the tile, from the tile's projections. -/
def headState : FVec Ideal S1x128x128 .f32 := stT (cut lo hs (bT x4 Pf)) (cut lo hs (eT x4 Pf)) (cutKey x4 Pf lo hs) v st

/-- A head's outputs, from the tile's projections. -/
def headOutT : FVec Ideal S256x128 .bf16 :=
  headT (cut lo hs (bT x4 Pf)) (cut lo hs (eT x4 Pf)) (cutKey x4 Pf lo hs) q v g st hgn

/-- An entry of a head's columns. -/
theorem cut_entry (X : FVec Ideal S256x512 .f32) (G : ℕ → ℕ → EReal) (hX : ∀ (r : Fin 256) (k : Fin 512), X (ix2 r k) = G r.val k.val)
    (r : Fin 256) (d : Fin 128) : cut lo hs X (ix2 r d) = G r.val (lo + d.val) := by
  have hlo : lo + 128 ≤ 512 := hs.2 1
  have e : cut lo hs X (ix2 r d) = X (ix2 r ⟨lo + d.val, by omega⟩) := by
    unfold cut
    pointwise []
  rw [e, hX]

end Cut

end Cert.MixTile

end
-- ==== Proof.MixLink.lean ====
/- The pieces of one block of 1024 tokens: the projections as they are stored in blocks of columns, the convolution's
   buffer, the four heads' states, and the blocks of the result. -/
module

public import proofs.«01_k».proof.Proof.MixTile

@[expose] public section

set_option maxRecDepth 16384

noncomputable section

namespace Cert.MixTile

open Idealize.ShloMosaic Idealize.ShloMosaic.TcCoe Idealize.SL.Sem Cert.KernelIdeal Cert.KernelIdeal.Gen Cert.Mix

/-! The gate's logarithm is never infinite above. -/

/-- The logistic function takes real values, also at the infinities. -/
theorem logistic_real (x : EReal) : ∃ r : ℝ, Ideal.logistic x = r := by
  induction x with
  | bot => exact ⟨0, by simp⟩
  | top => exact ⟨1, by simp⟩
  | coe r => exact ⟨_, Ideal.logistic_coe r⟩

/-- The exponential is never negative. -/
theorem exp_nonneg (x : EReal) : 0 ≤ Ideal.exp x := by
  induction x with
  | bot => simp
  | top => simp
  | coe r => simp [Real.exp_nonneg]

/-- A nonnegative number divided by a larger one is no infinity above. -/
theorem div_ne_top (a s : EReal) (h0 : 0 ≤ a) (h : a ≤ s) : Ideal.div a s ≠ ⊤ := by
  unfold Ideal.div
  by_cases hs : s = 0
  · subst hs
    rw [if_pos rfl, if_neg (not_lt.mpr h)]
    exact bot_ne_top
  rw [if_neg hs]
  induction s with
  | bot => exact absurd (le_bot_iff.mp h ▸ h0) (by simp)
  | top => simp
  | coe r =>
    induction a with
    | bot => simp at h0
    | top => simp at h
    | coe q => rw [← EReal.coe_inv, ← EReal.coe_mul]; exact EReal.coe_ne_top _

/-- The gate's lower bound is never infinite above. -/
theorem lbOf_ne_top (x4 : Vec Ideal S3x512 .f32) (k : ℕ) : lbOf x4 k ≠ ⊤ := by
  unfold lbOf
  split
  · next h =>
    pointwise [k0_pay382]
    refine (Fin.sum_univ_one _).trans_ne (div_ne_top _ _ (exp_nonneg _) ?_)
    exact Finset.single_le_sum (f := fun x : Fin 3 => Ideal.exp (x4 (ix2 x ⟨k, h⟩) - _)) (fun _ _ => exp_nonneg _) (Finset.mem_univ 0)
  · exact EReal.zero_ne_top

/-- The gate's logarithm is never infinite above. -/
theorem gate_log_ne_top (P : ℕ → ℕ → EReal) (lb : ℕ → EReal) (hlb : ∀ k, lb k ≠ ⊤) (t k : ℕ) : Ideal.log (gate P lb t k) ≠ ⊤ := by
  have hg : gate P lb t k ≠ ⊤ := by
    obtain ⟨r, hr⟩ := logistic_real (P t (512 + k))
    unfold gate
    rw [hr]
    have := hlb k
    generalize lb k = b at this
    induction b with
    | bot => rw [EReal.bot_add]; exact bot_ne_top
    | top => exact absurd rfl this
    | coe q =>
      have e : ((q : EReal) + (1 - (q : EReal)) * (r : EReal)) = ((q + (1 - q) * r : ℝ) : EReal) := by push_cast; rfl
      rw [e]; exact EReal.coe_ne_top _
  generalize gate P lb t k = g at hg
  induction g with
  | bot => simp
  | top => exact absurd rfl hg
  | coe q =>
    rw [Ideal.log_coe]
    split
    · exact bot_ne_top
    · exact EReal.coe_ne_top _

/-! A head of the tile from the tile's projections, which are the rows of the token sequence's. -/

section HeadOf

variable (x4 : Vec Ideal S3x512 .f32) (Pf : Vec Ideal S256x512 .f32) (P : ℕ → ℕ → EReal) (T lo : ℕ) (hs : S256x512.Slices ![0, lo] S256x128)
  (q v g : Vec Ideal S256x128 .f32) (st : Vec Ideal S1x128x128 .f32) (hgn : Vec Ideal S1x128 .f32) (hgv : ℕ → EReal)
  (hP : ∀ (r : Fin 256) (k : Fin 512), Pf (ix2 r k) = P (256 * T + r.val) (512 + k.val))
  (hq : ∀ (r : Fin 256) (d : Fin 128), q (ix2 r d) = P (256 * T + r.val) (lo + d.val))
  (hv : ∀ (r : Fin 256) (d : Fin 128), v (ix2 r d) = P (256 * T + r.val) (1024 + (lo + d.val)))
  (hg : ∀ (r : Fin 256) (d : Fin 128), g (ix2 r d) = P (256 * T + r.val) (1536 + (lo + d.val)))
  (hst : ∀ a d : Fin 128, st (ix3 0 a d) = state P (lbOf x4) (8 * T) (lo + a.val) (lo + d.val))
  (hh : ∀ d : Fin 128, hgn (ix2 0 d) = hgv (lo + d.val))

include hP in
/-- A head's columns of the running sums. -/
theorem cut_b (r : Fin 256) (d : Fin 128) : cut lo hs (bT x4 Pf) (ix2 r d) = cum P (lbOf x4) (256 * T + r.val) (lo + d.val) :=
  cut_entry lo hs _ (fun r k => cum P (lbOf x4) (256 * T + r) k)
    (b_entry x4 Pf P T hP (gate_log_ne_top P _ (lbOf_ne_top x4))) r d

include hP in
/-- A head's columns of the sums at the ends of the chunks. -/
theorem cut_e (r : Fin 256) (d : Fin 128) : cut lo hs (eT x4 Pf) (ix2 r d) = last P (lbOf x4) ((256 * T + r.val) / 32) (lo + d.val) :=
  cut_entry lo hs _ (fun r k => last P (lbOf x4) ((256 * T + r) / 32) k)
    (e_entry x4 Pf P T hP (gate_log_ne_top P _ (lbOf_ne_top x4))) r d

include hP in
/-- A head's columns of the keys. -/
theorem cut_k (r : Fin 256) (d : Fin 128) : cutKey x4 Pf lo hs (ix2 r d) = 1 - gate P (lbOf x4) (256 * T + r.val) (lo + d.val) := by
  have h := cut_entry lo hs _ (fun r k => gate P (lbOf x4) (256 * T + r) k) (f_entry x4 Pf P T hP) r d
  unfold cutKey
  generalize cut lo hs (fT x4 Pf) = C at h
  pointwise []
  rw [h]

include hP hv hst in
/-- The head's state after the tile is the recurrence's after the tile's eight chunks. -/
theorem headState_entry (a d : Fin 128) : headState x4 Pf lo hs v st (ix3 0 a d) = state P (lbOf x4) (8 * (T + 1)) (lo + a.val) (lo + d.val) :=
  chunk8_entry P T (lbOf x4) lo _ _ _ v st (cut_b x4 Pf P T lo hs hP) (cut_e x4 Pf P T lo hs hP) (cut_k x4 Pf P T lo hs hP) hv hst a d

include hP hq hv hg hst hh in
/-- The head's outputs in the tile. -/
theorem headOutT_entry (r : Fin 256) (d : Fin 128) : headOutT x4 Pf lo hs q v g st hgn (ix2 r d) = headY P (lbOf x4) hgv lo (256 * T + r.val) d.val :=
  headT_entry P T (lbOf x4) lo _ _ _ q v g st hgn (cut_b x4 Pf P T lo hs hP) (cut_e x4 Pf P T lo hs hP) (cut_k x4 Pf P T lo hs hP) hq hv hg hst hgv hh r d

end HeadOf

/-! The projections. -/

section Proj

variable (X : Vec Ideal S1x256x1024 .f32) (x2 : Vec Ideal S1x1024 .f32) (x3 : Vec Ideal S1024x3584 .bf16)

/-- A row of 1024 numbers, divided by its root mean square, scaled, and multiplied into a column. -/
def projRow (row gain w : Fin 1024 → EReal) : EReal :=
  ∑ j : Fin 1024, row j * Ideal.rsqrt (Ideal.div (∑ i : Fin 1024, row i * row i) (Ideal.ofBits .f32 0x44800000#32)
    + Ideal.ofBits .f32 0x358637BD#32) * gain j * w j

/-- The projections of a tile's 256 rows. -/
def pj : Vec Ideal S256x3584 .f32 := fun i =>
  projRow (fun j => X (ix3 0 (i 0) j)) (fun j => x2 (ix2 0 j)) (fun j => x3 (ix2 j (i 1)))

/-- A stored block of 256 columns of the projections lies where the projections' columns from `o` lie. -/
theorem proj_piece (o : ℕ) (hw : ∀ a, (![0, o] : Fin 2 → ℕ) a + (![1024, 256] : Fin 2 → ℕ) a ≤ S1024x3584.size a)
    (hs : ∀ a, (![0, o] : Fin 2 → ℕ) a + (![256, 256] : Fin 2 → ℕ) a ≤ S256x3584.size a) (y : S256x256.Idx) :
    k0_pay41 (F := Ideal) (k0_pay19 X x2) (View.ld x3 (Rect.unit (s := S1024x3584) ![0, o] ![1024, 256] hw)) y
      = pj X x2 x3 ((Rect.unit (s := S256x3584) ![0, o] ![256, 256] hs).emb y) := by
  change _ = View.ld (Val := Elt Ideal) (e' := .f32) (pj X x2 x3) (Rect.unit (s := S256x3584) ![0, o] ![256, 256] hs) y
  idx_vars y
  pointwise [k0_pay41, k0_pay19, pj, projRow]

variable {sig' : RefSig} {κ : Kind} {sp : Space}

/-- Fourteen stores of 256 columns each leave the projections, whatever was stored before. -/
theorem proj_canon (p0 p1 p2 p3 p4 p5 p6 p7 p8 p9 p10 p11 p12 p13 : View.Piece (Elt Ideal) S256x3584 .f32)
    (R : List (View.Piece (Elt Ideal) S256x3584 .f32))
    (hL : View.PiecesOf (pj X x2 x3) [p0, p1, p2, p3, p4, p5, p6, p7, p8, p9, p10, p11, p12, p13])
    (ht : Tiles.tiledBox [p0, p1, p2, p3, p4, p5, p6, p7, p8, p9, p10, p11, p12, p13] 0 0 256 256 1 14 = true) (y : S256x3584.Idx) :
    View.canon (p0 :: p1 :: p2 :: p3 :: p4 :: p5 :: p6 :: p7 :: p8 :: p9 :: p10 :: p11 :: p12 :: p13 :: R) y = pj X x2 x3 y := by
  refine View.canon_append_of_piecesOf (pj X x2 x3) R _ hL y (Tiles.cover_of_tiledBox _ 0 0 256 256 1 14 ht y ?_ ?_ ?_ ?_)
  · omega
  · have := (y 0).isLt; change _ < 256 at this; omega
  · omega
  · have := (y 1).isLt; change _ < 3584 at this; omega

/-- The buffer of projections, stored in 14 blocks of columns, reads back as the projections. -/
theorem proj_read (v : View sig' κ sp S256x3584 .f32) (p0 p1 p2 p3 p4 p5 p6 p7 p8 p9 p10 p11 p12 p13 : View.Piece (Elt Ideal) S256x3584 .f32)
    (R : List (View.Piece (Elt Ideal) S256x3584 .f32))
    (hL : View.PiecesOf (pj X x2 x3) [p0, p1, p2, p3, p4, p5, p6, p7, p8, p9, p10, p11, p12, p13])
    (ht : Tiles.tiledBox [p0, p1, p2, p3, p4, p5, p6, p7, p8, p9, p10, p11, p12, p13] 0 0 256 256 1 14 = true)
    (r : Rect S256x3584) :
    v.readCov (p0 :: p1 :: p2 :: p3 :: p4 :: p5 :: p6 :: p7 :: p8 :: p9 :: p10 :: p11 :: p12 :: p13 :: R) r.toLoadRect
      = View.ld (pj X x2 x3) r := by
  rw [View.readCov_eq_canon']
  funext j
  exact proj_canon X x2 x3 p0 p1 p2 p3 p4 p5 p6 p7 p8 p9 p10 p11 p12 p13 R hL ht _

end Proj

/-! The convolution's buffer: eight rows of the tile before, then the tile's 256. -/

section Conv

variable {sig' : RefSig} {κ : Kind} {sp : Space}

variable (w : Vec Ideal S256x512 .f32) (u : Vec Ideal S8x512 .f32)
  (hw : ∀ a, (![8, 0] : Fin 2 → ℕ) a + (![256, 512] : Fin 2 → ℕ) a ≤ S264x512.size a)
  (hu : ∀ a, (![0, 0] : Fin 2 → ℕ) a + (![8, 512] : Fin 2 → ℕ) a ≤ S264x512.size a)
  (R : List (View.Piece (Elt Ideal) S264x512 .f32))

/-- The rows from 8 on of the convolution's buffer are the tile's inputs. -/
theorem tile_row (n : ℕ) (hn : n < 256) (k : Fin 512) (y : S264x512.Idx) (h0 : (y 0).val = 8 + n) (h1 : (y 1).val = k.val) :
    View.canon (⟨Rect.unit (s := S264x512) ![8, 0] ![256, 512] hw, w⟩ :: R) y = w (ix2 ⟨n, hn⟩ k) := by
  have e : y = (Rect.unit (s := S264x512) ![8, 0] ![256, 512] hw).emb (ix2 ⟨n, hn⟩ k) := by
    funext a
    match a with
    | ⟨0, _⟩ => apply Fin.ext; show (y 0).val = 8 + 1 * n; omega
    | ⟨1, _⟩ => apply Fin.ext; show (y 1).val = 0 + 1 * k.val; omega
  rw [e]
  exact View.canon_cons_emb _ _ _ _

/-- The first 8 rows of the convolution's buffer are the last 8 inputs of the tile before. -/
theorem old_row (n : ℕ) (hn : n < 8) (k : Fin 512) (y : S264x512.Idx) (h0 : (y 0).val = n) (h1 : (y 1).val = k.val) :
    View.canon (⟨Rect.unit (s := S264x512) ![8, 0] ![256, 512] hw, w⟩ :: R) y = View.canon R y := by
  refine View.canon_cons_of_not_mem _ _ fun h => ?_
  obtain ⟨j, _, hj⟩ := (LoadRect.mem_set _).mp h 0
  change (y 0).val = 8 + 1 * j at hj
  omega

/-- At a sequence's start the first 8 rows of the convolution's buffer are zero. -/
theorem low_row (n : ℕ) (hn : n < 8) (k : Fin 512) (y : S264x512.Idx) (h0 : (y 0).val = n) (h1 : (y 1).val = k.val) :
    View.canon (⟨Rect.unit (s := S264x512) ![0, 0] ![8, 512] hu, u⟩ :: R) y = u (ix2 ⟨n, hn⟩ k) := by
  have e : y = (Rect.unit (s := S264x512) ![0, 0] ![8, 512] hu).emb (ix2 ⟨n, hn⟩ k) := by
    funext a
    match a with
    | ⟨0, _⟩ => apply Fin.ext; show (y 0).val = 0 + 1 * n; omega
    | ⟨1, _⟩ => apply Fin.ext; show (y 1).val = 0 + 1 * k.val; omega
  rw [e]
  exact View.canon_cons_emb _ _ _ _

/-- The convolution's input of a tile, from two groups of columns. -/
theorem convIn_tile (A B : Vec Ideal S256x512 .f32) (P : ℕ → ℕ → EReal) (T : ℕ)
    (hA : ∀ (r : Fin 256) (k : Fin 512), A (ix2 r k) = P (256 * T + r.val) (2560 + k.val))
    (hB : ∀ (r : Fin 256) (k : Fin 512), B (ix2 r k) = P (256 * T + r.val) (3072 + k.val)) (r : Fin 256) (k : Fin 512) :
    k0_pay138 (F := Ideal) A B (ix2 r k) = convIn P (256 * T + r.val) k.val := by
  pointwise [k0_pay138, k0_pay137]
  rw [hA, hB]
  rfl

/-- The same before the store's change of shape. -/
theorem convIn_own (A B : Vec Ideal S256x512 .f32) (P : ℕ → ℕ → EReal) (T : ℕ)
    (hA : ∀ (r : Fin 256) (k : Fin 512), A (ix2 r k) = P (256 * T + r.val) (2560 + k.val))
    (hB : ∀ (r : Fin 256) (k : Fin 512), B (ix2 r k) = P (256 * T + r.val) (3072 + k.val)) (r : Fin 256) (k : Fin 512) :
    k0_pay137 (F := Ideal) A B (ix2 r k) = convIn P (256 * T + r.val) k.val := by
  pointwise [k0_pay137]
  rw [hA, hB]
  rfl

/-- A store of eight rows keeps them. -/
theorem low_same (U : Vec Ideal S8x512 .f32) : k0_pay142 (F := Ideal) U = U := by
  funext y
  idx_vars y
  pointwise [k0_pay142]

variable (P : ℕ → ℕ → EReal) (T : ℕ)
  (hwP : ∀ (r : Fin 256) (k : Fin 512), w (ix2 r k) = convIn P (256 * T + r.val) k.val)

/-- `n` rows before a row of the tile, in the numbering of the buffer. -/
theorem back_of_row (G : ℕ → ℕ → EReal) (hlow : ∀ i k, i < 8 → G i k = convBack P (8 - i) (256 * T) k)
    (hrow : ∀ i k, i < 256 → G (8 + i) k = convIn P (256 * T + i) k) (n r k : ℕ) (hn : n ≤ 2) (hr : r < 256) :
    G (8 - n + r) k = convBack P n (256 * T + r) k := by
  by_cases h : n ≤ r
  · have e : 8 - n + r = 8 + (r - n) := by omega
    have e2 : 256 * T + (r - n) = 256 * T + r - n := by omega
    rw [e, hrow _ _ (by omega), convBack, if_pos (by omega), e2]
  · rw [hlow _ _ (by omega), convBack, convBack]
    have e : 8 - (8 - n + r) = n - r := by omega
    rw [e]
    by_cases h2 : n ≤ 256 * T + r
    · have e2 : 256 * T - (n - r) = 256 * T + r - n := by omega
      rw [if_pos (by omega), if_pos h2, e2]
    · rw [if_neg (by omega), if_neg h2]

include hwP in
/-- The last eight rows, kept for the tile after. -/
theorem shift_read (v : View sig' κ sp S264x512 .f32)
    (hb : ∀ a, (![256, 0] : Fin 2 → ℕ) a + (![8, 512] : Fin 2 → ℕ) a ≤ S264x512.size a) (i : Fin 8) (k : Fin 512) :
    v.readCov (⟨Rect.unit (s := S264x512) ![8, 0] ![256, 512] hw, w⟩ :: R) (Rect.unit (s := S264x512) ![256, 0] ![8, 512] hb).toLoadRect (ix2 i k)
      = convBack P (8 - i.val) (256 * (T + 1)) k.val := by
  rw [View.readCov_eq_canon']
  refine (tile_row w hw R (248 + i.val) (by omega) k _ ?_ ?_).trans ?_
  · show 256 + 1 * i.val = _; omega
  · show 0 + 1 * k.val = _; omega
  rw [hwP, convBack, if_pos (by omega)]
  congr 1
  show 256 * T + (248 + i.val) = _
  omega

include hwP in
/-- The rows `n` before the tile's. -/
theorem back_read (v : View sig' κ sp S264x512 .f32) (o n : ℕ) (hn : n ≤ 2) (ho : o + n = 8)
    (hb : ∀ a, (![o, 0] : Fin 2 → ℕ) a + (![256, 512] : Fin 2 → ℕ) a ≤ S264x512.size a)
    (huP : ∀ (i : Fin 8) (k : Fin 512), u (ix2 i k) = convBack P (8 - i.val) (256 * T) k.val) (r : Fin 256) (k : Fin 512) :
    v.readCov (⟨Rect.unit (s := S264x512) ![8, 0] ![256, 512] hw, w⟩ :: ⟨Rect.unit (s := S264x512) ![0, 0] ![8, 512] hu, u⟩ :: R)
      (Rect.unit (s := S264x512) ![o, 0] ![256, 512] hb).toLoadRect (ix2 r k) = convBack P n (256 * T + r.val) k.val := by
  rw [View.readCov_eq_canon']
  refine Eq.trans ?_ (back_of_row P T (fun i k => if i < 8 then convBack P (8 - i) (256 * T) k else convIn P (256 * T + (i - 8)) k)
    (fun i k h => if_pos h) (fun i k h => (if_neg (by omega)).trans (by congr 1; omega)) n r.val k.val hn r.isLt)
  by_cases h : 8 - n + r.val < 8
  · rw [if_pos h]
    have e0 : ∀ j, j = o + 1 * r.val → j = 8 - n + r.val := by omega
    refine (old_row w hw _ (8 - n + r.val) h k _ (e0 _ rfl) (by show 0 + 1 * k.val = _; omega)).trans ?_
    refine (low_row u hu R (8 - n + r.val) h k _ (e0 _ rfl) (by show 0 + 1 * k.val = _; omega)).trans ?_
    exact huP _ _
  · rw [if_neg h]
    refine (tile_row w hw _ (8 - n + r.val - 8) (by omega) k _ (by show o + 1 * r.val = _; omega) (by show 0 + 1 * k.val = _; omega)).trans ?_
    exact hwP _ _

include hwP in
/-- The same where the eight rows are what the buffer held before. -/
theorem back_read_old (m : Memref sig' κ sp S264x512 .f32) (hm : m.IsWhole) (Z : Vec Ideal S264x512 .f32) (o n : ℕ) (hn : n ≤ 2) (ho : o + n = 8)
    (hb : ∀ a, (![o, 0] : Fin 2 → ℕ) a + (![256, 512] : Fin 2 → ℕ) a ≤ S264x512.size a)
    (hZ : ∀ (i : Fin 8) (k : Fin 512), Z (ix2 ⟨i.val, by omega⟩ k) = convBack P (8 - i.val) (256 * T) k.val) (r : Fin 256) (k : Fin 512) :
    View.ld (m.view.read (Elt Ideal) (m.view.writes (Elt Ideal) (hm.unread Z) [⟨Rect.unit (s := S264x512) ![8, 0] ![256, 512] hw, w⟩]))
      (Rect.unit (s := S264x512) ![o, 0] ![256, 512] hb) (ix2 r k) = convBack P n (256 * T + r.val) k.val := by
  refine Eq.trans ?_ (back_of_row P T (fun i k => if i < 8 then convBack P (8 - i) (256 * T) k else convIn P (256 * T + (i - 8)) k)
    (fun i k h => if_pos h) (fun i k h => (if_neg (by omega)).trans (by congr 1; omega)) n r.val k.val hn r.isLt)
  have hold : ∀ y : S264x512.Idx, (y 0).val < 8 →
      m.view.read (Elt Ideal) (m.view.writes (Elt Ideal) (hm.unread Z) [⟨Rect.unit (s := S264x512) ![8, 0] ![256, 512] hw, w⟩]) y = Z y := by
    intro y hy
    rw [View.writes_cons, View.read_slice_write_of_not_mem]
    · exact congrFun (hm.read_unread Z) y
    · rw [Rect.map_emb_univ]
      intro h
      obtain ⟨j, _, hj⟩ := (LoadRect.mem_set _).mp h 0
      change (y 0).val = 8 + 1 * j at hj
      omega
  by_cases h : 8 - n + r.val < 8
  · rw [if_pos h]
    refine (hold _ (by show o + 1 * r.val < 8; omega)).trans ?_
    refine Eq.trans (congrArg Z ?_) (hZ ⟨8 - n + r.val, h⟩ k)
    funext a
    match a with
    | ⟨0, _⟩ => apply Fin.ext; show o + 1 * r.val = 8 - n + r.val; omega
    | ⟨1, _⟩ => apply Fin.ext; show 0 + 1 * k.val = k.val; omega
  · rw [if_neg h]
    have e : (Rect.unit (s := S264x512) ![o, 0] ![256, 512] hb).emb (ix2 r k)
        = (Rect.unit (s := S264x512) ![8, 0] ![256, 512] hw).emb (ix2 ⟨8 - n + r.val - 8, by omega⟩ k) := by
      funext a
      match a with
      | ⟨0, _⟩ => apply Fin.ext; show o + 1 * r.val = 8 + 1 * (8 - n + r.val - 8); omega
      | ⟨1, _⟩ => rfl
    refine (congrArg _ e).trans ?_
    refine (View.read_writes_cons_emb _ _ _ _ _ _).trans ?_
    exact hwP _ _

/-- The gated convolution's piece. -/
theorem conv_piece (zc z2 z1 gg : Vec Ideal S256x512 .f32) (b c0 c1 c2 : Vec Ideal S1x512 .f32) (cw : ℕ → ℕ → EReal) (cb : ℕ → EReal)
    (hzc : ∀ (r : Fin 256) (k : Fin 512), zc (ix2 r k) = convIn P (256 * T + r.val) k.val)
    (hz2 : ∀ (r : Fin 256) (k : Fin 512), z2 (ix2 r k) = convBack P 2 (256 * T + r.val) k.val)
    (hz1 : ∀ (r : Fin 256) (k : Fin 512), z1 (ix2 r k) = convBack P 1 (256 * T + r.val) k.val)
    (hgg : ∀ (r : Fin 256) (k : Fin 512), gg (ix2 r k) = P (256 * T + r.val) (2048 + k.val))
    (hb : ∀ k : Fin 512, b (ix2 0 k) = cb k.val) (h0 : ∀ k : Fin 512, c0 (ix2 0 k) = cw 0 k.val)
    (h1 : ∀ k : Fin 512, c1 (ix2 0 k) = cw 1 k.val) (h2 : ∀ k : Fin 512, c2 (ix2 0 k) = cw 2 k.val) (r : Fin 256) (k : Fin 512) :
    k0_pay141 (F := Ideal) zc (k0_pay139 z2 b c0) (k0_pay140 z1 c1) c2 gg (ix2 r k) = convY P cw cb (256 * T + r.val) k.val := by
  pointwise [k0_pay141, k0_pay139, k0_pay140]
  rw [hzc, hz2, hz1, hgg, hb, h0, h1, h2]
  rfl

end Conv

/-! The state's buffer: one head beside the other. -/

section States

variable {sig' : RefSig} {κ : Kind} {sp : Space} (L : List (View.Piece (Elt Ideal) S4x128x128 .f32)) (a d : Fin 128)

/-- A head's state, read from the states' buffer after the heads before it were stored. -/
theorem st_read (v : View sig' κ sp S4x128x128 .f32) (n : ℕ) (hn : n < 4)
    (hb : ∀ a, (![n, 0, 0] : Fin 3 → ℕ) a + (![1, 128, 128] : Fin 3 → ℕ) a ≤ S4x128x128.size a) :
    v.readCov L (Rect.unit (s := S4x128x128) ![n, 0, 0] ![1, 128, 128] hb).toLoadRect (ix3 0 a d) = View.canon L (ix3 ⟨n, hn⟩ a d) := by
  rw [View.readCov_eq_canon']
  refine congrArg (View.canon L) (funext fun x => ?_)
  match x with
  | ⟨0, _⟩ => apply Fin.ext; show n + 1 * 0 = n; omega
  | ⟨1, _⟩ => apply Fin.ext; show 0 + 1 * a.val = a.val; omega
  | ⟨2, _⟩ => apply Fin.ext; show 0 + 1 * d.val = d.val; omega

/-- One head's state cut out of the four. -/
theorem st_ld (X : Vec Ideal S4x128x128 .f32) (n : ℕ) (hn : n < 4)
    (hb : ∀ a, (![n, 0, 0] : Fin 3 → ℕ) a + (![1, 128, 128] : Fin 3 → ℕ) a ≤ S4x128x128.size a) :
    View.ld X (Rect.unit (s := S4x128x128) ![n, 0, 0] ![1, 128, 128] hb) (ix3 0 a d) = X (ix3 ⟨n, hn⟩ a d) := by
  refine congrArg X (funext fun x => ?_)
  match x with
  | ⟨0, _⟩ => apply Fin.ext; show n + 1 * 0 = n; omega
  | ⟨1, _⟩ => apply Fin.ext; show 0 + 1 * a.val = a.val; omega
  | ⟨2, _⟩ => apply Fin.ext; show 0 + 1 * d.val = d.val; omega

variable (h : Fin 4) (n : ℕ) (hb : ∀ a, (![n, 0, 0] : Fin 3 → ℕ) a + (![1, 128, 128] : Fin 3 → ℕ) a ≤ S4x128x128.size a) (w : Vec Ideal S1x128x128 .f32)

/-- A head's block reads what was stored there. -/
theorem st_hit (hn : n = h.val) :
    View.canon (⟨Rect.unit (s := S4x128x128) ![n, 0, 0] ![1, 128, 128] hb, w⟩ :: L) (ix3 h a d) = w (ix3 0 a d) := by
  subst hn
  have e : ix3 h a d = (Rect.unit (s := S4x128x128) ![h.val, 0, 0] ![1, 128, 128] hb).emb (ix3 0 a d) := by
    funext x
    match x with
    | ⟨0, _⟩ => apply Fin.ext; show h.val = h.val + 1 * 0; omega
    | ⟨1, _⟩ => apply Fin.ext; show a.val = 0 + 1 * a.val; omega
    | ⟨2, _⟩ => apply Fin.ext; show d.val = 0 + 1 * d.val; omega
  rw [e]
  exact View.canon_cons_emb _ _ _ _

/-- A head's block does not read what was stored for another head. -/
theorem st_miss (hn : n ≠ h.val) :
    View.canon (⟨Rect.unit (s := S4x128x128) ![n, 0, 0] ![1, 128, 128] hb, w⟩ :: L) (ix3 h a d) = View.canon L (ix3 h a d) := by
  refine View.canon_cons_of_not_mem _ _ fun hm => ?_
  obtain ⟨j, hj, e⟩ := (LoadRect.mem_set _).mp hm 0
  change j < 1 at hj
  change h.val = n + 1 * j at e
  omega

end States

/-! The mixed columns of a tile, and the output rows. -/

section Out

variable (P : ℕ → ℕ → EReal) (lb hg : ℕ → EReal) (cw : ℕ → ℕ → EReal) (cb : ℕ → EReal)

/-- The mixed column `c` of token `t`: four heads of 128 columns, then the convolution's 512. -/
def mixed (t c : ℕ) : EReal := if c < 512 then headY P lb hg (128 * (c / 128)) t (c % 128) else convY P cw cb t (c - 512)

/-- The mixed columns of a tile's rows. -/
def mixTile (T : ℕ) : Vec Ideal S256x1024 .bf16 := fun i => mixed P lb hg cw cb (256 * T + (i 0).val) (i 1).val

/-- The first 512 mixed columns are the heads'. -/
theorem mixed_head (h : ℕ) (hh : h < 4) (lo : ℕ) (hlo : lo = 128 * h) (t : ℕ) (d : Fin 128) : mixed P lb hg cw cb t (lo + d.val) = headY P lb hg lo t d.val := by
  have e1 : 128 * ((lo + d.val) / 128) = lo := by omega
  have e2 : (lo + d.val) % 128 = d.val := by omega
  unfold mixed
  rw [if_pos (by omega), e1, e2]

/-- The last 512 mixed columns are the convolution's. -/
theorem mixed_conv (t : ℕ) (k : Fin 512) : mixed P lb hg cw cb t (512 + k.val) = convY P cw cb t k.val := by
  unfold mixed
  rw [if_neg (by omega)]
  congr 1
  omega

variable {sig' : RefSig} {κ : Kind} {sp : Space}

/-- Five stores leave the mixed columns of a tile, whatever was stored before. -/
theorem mix_read (T : ℕ) (v : View sig' κ sp S256x1024 .bf16) (R : List (View.Piece (Elt Ideal) S256x1024 .bf16))
    (b4 : ∀ a, (![0, 512] : Fin 2 → ℕ) a + (![256, 512] : Fin 2 → ℕ) a ≤ S256x1024.size a) (w4 : Vec Ideal S256x512 .bf16)
    (b3 : ∀ a, (![0, 384] : Fin 2 → ℕ) a + (![256, 128] : Fin 2 → ℕ) a ≤ S256x1024.size a) (w3 : Vec Ideal S256x128 .bf16)
    (b2 : ∀ a, (![0, 256] : Fin 2 → ℕ) a + (![256, 128] : Fin 2 → ℕ) a ≤ S256x1024.size a) (w2 : Vec Ideal S256x128 .bf16)
    (b1 : ∀ a, (![0, 128] : Fin 2 → ℕ) a + (![256, 128] : Fin 2 → ℕ) a ≤ S256x1024.size a) (w1 : Vec Ideal S256x128 .bf16)
    (b0 : ∀ a, (![0, 0] : Fin 2 → ℕ) a + (![256, 128] : Fin 2 → ℕ) a ≤ S256x1024.size a) (w0 : Vec Ideal S256x128 .bf16)
    (h4 : ∀ (r : Fin 256) (k : Fin 512), w4 (ix2 r k) = convY P cw cb (256 * T + r.val) k.val)
    (h3 : ∀ (r : Fin 256) (d : Fin 128), w3 (ix2 r d) = headY P lb hg 384 (256 * T + r.val) d.val)
    (h2 : ∀ (r : Fin 256) (d : Fin 128), w2 (ix2 r d) = headY P lb hg 256 (256 * T + r.val) d.val)
    (h1 : ∀ (r : Fin 256) (d : Fin 128), w1 (ix2 r d) = headY P lb hg 128 (256 * T + r.val) d.val)
    (h0 : ∀ (r : Fin 256) (d : Fin 128), w0 (ix2 r d) = headY P lb hg 0 (256 * T + r.val) d.val)
    (bw : ∀ a, (![0, 0] : Fin 2 → ℕ) a + (![256, 1024] : Fin 2 → ℕ) a ≤ S256x1024.size a) :
    v.readCov (⟨Rect.unit (s := S256x1024) ![0, 512] ![256, 512] b4, w4⟩ :: ⟨Rect.unit (s := S256x1024) ![0, 384] ![256, 128] b3, w3⟩
      :: ⟨Rect.unit (s := S256x1024) ![0, 256] ![256, 128] b2, w2⟩ :: ⟨Rect.unit (s := S256x1024) ![0, 128] ![256, 128] b1, w1⟩
      :: ⟨Rect.unit (s := S256x1024) ![0, 0] ![256, 128] b0, w0⟩ :: R) (Rect.unit (s := S256x1024) ![0, 0] ![256, 1024] bw).toLoadRect
      = mixTile P lb hg cw cb T := by
  rw [View.readCov_eq_canon']
  funext j
  have ej : (Rect.unit (s := S256x1024) ![0, 0] ![256, 1024] bw).toLoadRect.idx j = j := by
    funext a
    match a with
    | ⟨0, _⟩ => apply Fin.ext; show 0 + 1 * (j 0).val = (j 0).val; omega
    | ⟨1, _⟩ => apply Fin.ext; show 0 + 1 * (j 1).val = (j 1).val; omega
  refine (congrArg _ ej).trans ?_
  refine View.canon_append_of_piecesOf (mixTile P lb hg cw cb T) R [_, _, _, _, _] ?_ j ?_
  · refine ⟨fun x => ?_, fun x => ?_, fun x => ?_, fun x => ?_, fun x => ?_, trivial⟩
    · change w4 x = View.ld (Val := Elt Ideal) (e' := .bf16) (mixTile P lb hg cw cb T) (Rect.unit (s := S256x1024) ![0, 512] ![256, 512] b4) x
      idx_vars x
      pointwise [mixTile]
      rw [h4]; exact (mixed_conv P lb hg cw cb _ _).symm
    · change w3 x = View.ld (Val := Elt Ideal) (e' := .bf16) (mixTile P lb hg cw cb T) (Rect.unit (s := S256x1024) ![0, 384] ![256, 128] b3) x
      idx_vars x
      pointwise [mixTile]
      rw [h3]; exact (mixed_head P lb hg cw cb 3 (by decide) _ rfl _ _).symm
    · change w2 x = View.ld (Val := Elt Ideal) (e' := .bf16) (mixTile P lb hg cw cb T) (Rect.unit (s := S256x1024) ![0, 256] ![256, 128] b2) x
      idx_vars x
      pointwise [mixTile]
      rw [h2]; exact (mixed_head P lb hg cw cb 2 (by decide) _ rfl _ _).symm
    · change w1 x = View.ld (Val := Elt Ideal) (e' := .bf16) (mixTile P lb hg cw cb T) (Rect.unit (s := S256x1024) ![0, 128] ![256, 128] b1) x
      idx_vars x
      pointwise [mixTile]
      rw [h1]; exact (mixed_head P lb hg cw cb 1 (by decide) _ rfl _ _).symm
    · change w0 x = View.ld (Val := Elt Ideal) (e' := .bf16) (mixTile P lb hg cw cb T) (Rect.unit (s := S256x1024) ![0, 0] ![256, 128] b0) x
      idx_vars x
      pointwise [mixTile]
      rw [h0]
      have := (mixed_head P lb hg cw cb 0 (by decide) 0 rfl (256 * T + x0.val) x1).symm
      rwa [Nat.zero_add] at this
  · have hr : (j 0).val < 256 := (j 0).isLt
    have hc : (j 1).val < 1024 := (j 1).isLt
    by_cases c4 : 512 ≤ (j 1).val
    · exact ⟨_, .head _, Tiles.mem_of_isTile _ 0 512 256 512 (by sl_kernel_rfl) j (by omega) (by omega) (by omega) (by omega)⟩
    by_cases c3 : 384 ≤ (j 1).val
    · exact ⟨_, .tail _ (.head _), Tiles.mem_of_isTile _ 0 384 256 128 (by sl_kernel_rfl) j (by omega) (by omega) (by omega) (by omega)⟩
    by_cases c2 : 256 ≤ (j 1).val
    · exact ⟨_, .tail _ (.tail _ (.head _)), Tiles.mem_of_isTile _ 0 256 256 128 (by sl_kernel_rfl) j (by omega) (by omega) (by omega) (by omega)⟩
    by_cases c1 : 128 ≤ (j 1).val
    · exact ⟨_, .tail _ (.tail _ (.tail _ (.head _))), Tiles.mem_of_isTile _ 0 128 256 128 (by sl_kernel_rfl) j (by omega) (by omega) (by omega) (by omega)⟩
    · exact ⟨_, .tail _ (.tail _ (.tail _ (.tail _ (.head _)))), Tiles.mem_of_isTile _ 0 0 256 128 (by sl_kernel_rfl) j (by omega) (by omega) (by omega) (by omega)⟩

/-- A row among the first eight of the convolution's buffer. -/
abbrev front (i : Fin 8) : Fin 264 := ⟨i.val, Nat.lt_of_lt_of_le i.isLt (by decide)⟩

/-- The output block: the input's rows, each with its mixed columns multiplied into the output weights added. -/
def outBlk (x0 : Vec Ideal S1x1024x1024 .f32) (x8 : Vec Ideal S1024x1024 .bf16) (s : ℕ) : Vec Ideal S1x1024x1024 .f32 := fun i =>
  x0 (ix3 0 (i 1) (i 2)) + ∑ j : Fin 1024, mixed P lb hg cw cb (1024 * s + (i 1).val) j.val * x8 (ix2 j (i 2))

/-- A stored block of 256 rows of the result lies where the result's rows from `o` lie. -/
theorem out_piece (x0 : Vec Ideal S1x1024x1024 .f32) (x8 : Vec Ideal S1024x1024 .bf16) (s k o : ℕ) (ho : o = 256 * k)
    (hs : ∀ a, (![0, o, 0] : Fin 3 → ℕ) a + (![1, 256, 1024] : Fin 3 → ℕ) a ≤ S1x1024x1024.size a)
    (Y : Vec Ideal S256x1024 .bf16) (hY : Y = mixTile P lb hg cw cb (4 * s + k)) (y : S1x256x1024.Idx) :
    k0_pay143 (F := Ideal) (View.ld x0 (Rect.unit (s := S1x1024x1024) ![0, o, 0] ![1, 256, 1024] hs)) Y x8 y
      = outBlk P lb hg cw cb x0 x8 s ((Rect.unit (s := S1x1024x1024) ![0, o, 0] ![1, 256, 1024] hs).emb y) := by
  change _ = View.ld (Val := Elt Ideal) (e' := .f32) (outBlk P lb hg cw cb x0 x8 s) (Rect.unit (s := S1x1024x1024) ![0, o, 0] ![1, 256, 1024] hs) y
  subst ho hY
  idx_vars y
  pointwise [k0_pay143, outBlk, mixTile]
  have e : 256 * (4 * s + k) + y1.val = 1024 * s + (256 * k + y1.val) := by omega
  rw [e]

/-- A row of 512 numbers, by position. -/
def rowOf (x : Vec Ideal S1x512 .f32) (k : ℕ) : EReal := if h : k < 512 then x (ix2 0 ⟨k, h⟩) else 0

/-- Three rows of 512 numbers, by position. -/
def rowsOf (x : Vec Ideal S3x512 .f32) (i k : ℕ) : EReal := if h : i < 3 ∧ k < 512 then x (ix2 ⟨i, h.1⟩ ⟨k, h.2⟩) else 0

/-- A row's entry by position. -/
theorem rowOf_entry (x : Vec Ideal S1x512 .f32) (k : Fin 512) : x (ix2 0 k) = rowOf x k.val := by
  simp only [rowOf, k.isLt, dif_pos]

/-- A head's part of a row, by position. -/
theorem rowOf_cut (x : Vec Ideal S1x512 .f32) (lo : ℕ) (hb : ∀ a, (![0, lo] : Fin 2 → ℕ) a + (![1, 128] : Fin 2 → ℕ) a ≤ S1x512.size a) (d : Fin 128) :
    View.ld x (Rect.unit (s := S1x512) ![0, lo] ![1, 128] hb) (ix2 0 d) = rowOf x (lo + d.val) := by
  have hlo : lo + 128 ≤ 512 := hb 1
  rw [← rowOf_entry x ⟨lo + d.val, by omega⟩]
  pointwise []

/-- One of three rows, by position. -/
theorem rowsOf_cut (x : Vec Ideal S3x512 .f32) (i : ℕ) (hb : ∀ a, (![i, 0] : Fin 2 → ℕ) a + (![1, 512] : Fin 2 → ℕ) a ≤ S3x512.size a) (k : Fin 512) :
    View.ld x (Rect.unit (s := S3x512) ![i, 0] ![1, 512] hb) (ix2 0 k) = rowsOf x i k.val := by
  have hi : i + 1 ≤ 3 := hb 0
  have e : rowsOf x i k.val = x (ix2 ⟨i, by omega⟩ k) := by
    simp only [rowsOf, k.isLt, and_true, show i < 3 by omega, dif_pos]
  rw [e]
  pointwise []

/-- A row of the block is in the 256 rows from `o` when it lies between them. -/
theorem mem_rows (o : ℕ) (hb : ∀ a, (![0, o, 0] : Fin 3 → ℕ) a + (![1, 256, 1024] : Fin 3 → ℕ) a ≤ S1x1024x1024.size a) (y : S1x1024x1024.Idx)
    (h : o ≤ (y 1).val) (h' : (y 1).val < o + 256) : y ∈ (Rect.unit (s := S1x1024x1024) ![0, o, 0] ![1, 256, 1024] hb).set := by
  have h0 : (y 0).val < 1 := (y 0).isLt
  have h2 : (y 2).val < 1024 := (y 2).isLt
  refine (LoadRect.mem_set _).mpr fun ax => ?_
  match ax with
  | ⟨0, _⟩ => exact ⟨0, by change 0 < 1; omega, by change (y 0).val = 0 + 1 * 0; omega⟩
  | ⟨1, _⟩ => exact ⟨(y 1).val - o, by change _ < 256; omega, by change (y 1).val = o + 1 * _; omega⟩
  | ⟨2, _⟩ => exact ⟨(y 2).val, by change _ < 1024; omega, by change (y 2).val = 0 + 1 * _; omega⟩

/-- Four stores of 256 rows leave the whole output block. -/
theorem out_canon (G : Vec Ideal S1x1024x1024 .f32) (w3 w2 w1 w0 : Vec Ideal S1x256x1024 .f32)
    (b3 : ∀ a, (![0, 768, 0] : Fin 3 → ℕ) a + (![1, 256, 1024] : Fin 3 → ℕ) a ≤ S1x1024x1024.size a)
    (b2 : ∀ a, (![0, 512, 0] : Fin 3 → ℕ) a + (![1, 256, 1024] : Fin 3 → ℕ) a ≤ S1x1024x1024.size a)
    (b1 : ∀ a, (![0, 256, 0] : Fin 3 → ℕ) a + (![1, 256, 1024] : Fin 3 → ℕ) a ≤ S1x1024x1024.size a)
    (b0 : ∀ a, (![0, 0, 0] : Fin 3 → ℕ) a + (![1, 256, 1024] : Fin 3 → ℕ) a ≤ S1x1024x1024.size a)
    (h3 : ∀ x, w3 x = G ((Rect.unit (s := S1x1024x1024) ![0, 768, 0] ![1, 256, 1024] b3).emb x)) (h2 : ∀ x, w2 x = G ((Rect.unit (s := S1x1024x1024) ![0, 512, 0] ![1, 256, 1024] b2).emb x)) (h1 : ∀ x, w1 x = G ((Rect.unit (s := S1x1024x1024) ![0, 256, 0] ![1, 256, 1024] b1).emb x)) (h0 : ∀ x, w0 x = G ((Rect.unit (s := S1x1024x1024) ![0, 0, 0] ![1, 256, 1024] b0).emb x))
    (y : S1x1024x1024.Idx) : View.canon (Val := Elt Ideal) (e := .f32) [⟨Rect.unit (s := S1x1024x1024) ![0, 768, 0] ![1, 256, 1024] b3, w3⟩, ⟨Rect.unit (s := S1x1024x1024) ![0, 512, 0] ![1, 256, 1024] b2, w2⟩, ⟨Rect.unit (s := S1x1024x1024) ![0, 256, 0] ![1, 256, 1024] b1, w1⟩, ⟨Rect.unit (s := S1x1024x1024) ![0, 0, 0] ![1, 256, 1024] b0, w0⟩] y = G y := by
  have hp : View.PiecesOf G [⟨Rect.unit (s := S1x1024x1024) ![0, 768, 0] ![1, 256, 1024] b3, w3⟩, ⟨Rect.unit (s := S1x1024x1024) ![0, 512, 0] ![1, 256, 1024] b2, w2⟩, ⟨Rect.unit (s := S1x1024x1024) ![0, 256, 0] ![1, 256, 1024] b1, w1⟩, ⟨Rect.unit (s := S1x1024x1024) ![0, 0, 0] ![1, 256, 1024] b0, w0⟩] := by
    simp only [View.PiecesOf]
    exact ⟨h3, h2, h1, h0, trivial⟩
  refine Tiles.canon_of_piecesOf G _ hp y ?_
  have hr : (y 1).val < 1024 := (y 1).isLt
  by_cases c3 : 768 ≤ (y 1).val
  · exact ⟨_, .head _, mem_rows 768 b3 y (by omega) (by omega)⟩
  by_cases c2 : 512 ≤ (y 1).val
  · exact ⟨_, .tail _ (.head _), mem_rows 512 b2 y (by omega) (by omega)⟩
  by_cases c1 : 256 ≤ (y 1).val
  · exact ⟨_, .tail _ (.tail _ (.head _)), mem_rows 256 b1 y (by omega) (by omega)⟩
  · exact ⟨_, .tail _ (.tail _ (.tail _ (.head _))), mem_rows 0 b0 y (by omega) (by omega)⟩

end Out

/-! The projections of a block's tiles are the token sequence's. -/

section Cols

variable {sig' : RefSig} {κ : Kind} {sp : Space}
variable (x0 : Vec Ideal S1x1024x1024 .f32) (x2 : Vec Ideal S1x1024 .f32) (x3 : Vec Ideal S1024x3584 .bf16) (P : ℕ → ℕ → EReal) (s : ℕ)

/-- The block's rows project to the sequence's tokens from `1024 s`. -/
def Projects : Prop := ∀ (n : Fin 1024) (c : Fin 3584),
  projRow (fun j => x0 (ix3 0 n j)) (fun j => x2 (ix2 0 j)) (fun j => x3 (ix2 j c)) = P (1024 * s + n.val) c.val

variable (hx : Projects x0 x2 x3 P s) (k : ℕ) (hk : k < 4) (o : ℕ) (ho : o = 256 * k)
  (hb : ∀ a, (![0, o, 0] : Fin 3 → ℕ) a + (![1, 256, 1024] : Fin 3 → ℕ) a ≤ S1x1024x1024.size a)

include hx hk ho in
/-- The projections of 256 rows of the block of inputs. -/
theorem pj_block (r : Fin 256) (c : Fin 3584) : pj (View.ld x0 (Rect.unit (s := S1x1024x1024) ![0, o, 0] ![1, 256, 1024] hb)) x2 x3 (ix2 r c)
    = P (256 * (4 * s + k) + r.val) c.val := by
  subst ho
  have e : 256 * (4 * s + k) + r.val = 1024 * s + (256 * k + r.val) := by omega
  rw [e, ← hx ⟨256 * k + r.val, by omega⟩ c]
  unfold pj
  have hr : ∀ j, View.ld x0 (Rect.unit (s := S1x1024x1024) ![0, 256 * k, 0] ![1, 256, 1024] hb) (ix3 0 r j) = x0 (ix3 0 ⟨256 * k + r.val, by omega⟩ j) := by
    intro j
    pointwise []
  exact congrArg (fun f => projRow f _ _) (funext hr)

include hx hk ho in
/-- Columns read back from a tile's fourteen stores. -/
theorem cols_read (v : View sig' κ sp S256x3584 .f32) (p0 p1 p2 p3 p4 p5 p6 p7 p8 p9 p10 p11 p12 p13 : View.Piece (Elt Ideal) S256x3584 .f32)
    (R : List (View.Piece (Elt Ideal) S256x3584 .f32))
    (hL : View.PiecesOf (pj (View.ld x0 (Rect.unit (s := S1x1024x1024) ![0, o, 0] ![1, 256, 1024] hb)) x2 x3)
      [p0, p1, p2, p3, p4, p5, p6, p7, p8, p9, p10, p11, p12, p13])
    (ht : Tiles.tiledBox [p0, p1, p2, p3, p4, p5, p6, p7, p8, p9, p10, p11, p12, p13] 0 0 256 256 1 14 = true)
    (q w : ℕ) (hw : ∀ a, (![0, q] : Fin 2 → ℕ) a + (![256, w] : Fin 2 → ℕ) a ≤ S256x3584.size a) (r : Fin 256) (d : Fin w) (c : ℕ) (hc : c = q + d.val) :
    v.readCov (p0 :: p1 :: p2 :: p3 :: p4 :: p5 :: p6 :: p7 :: p8 :: p9 :: p10 :: p11 :: p12 :: p13 :: R)
      (Rect.unit (s := S256x3584) ![0, q] ![256, w] hw).toLoadRect (ix2 r d) = P (256 * (4 * s + k) + r.val) c := by
  have hq : q + w ≤ 3584 := hw 1
  refine (congrFun (proj_read _ x2 x3 v p0 p1 p2 p3 p4 p5 p6 p7 p8 p9 p10 p11 p12 p13 R hL ht
    (Rect.unit (s := S256x3584) ![0, q] ![256, w] hw)) (ix2 r d)).trans ?_
  refine Eq.trans ?_ ((pj_block x0 x2 x3 P s hx k hk o ho hb r ⟨q + d.val, by omega⟩).trans (by rw [hc]))
  refine congrArg (pj (View.ld x0 (Rect.unit (s := S1x1024x1024) ![0, o, 0] ![1, 256, 1024] hb)) x2 x3) (funext fun a => ?_)
  match a with
  | ⟨0, _⟩ => apply Fin.ext; show 0 + 1 * r.val = r.val; omega
  | ⟨1, _⟩ => apply Fin.ext; show q + 1 * d.val = q + d.val; omega

end Cols

/-- Columns read from the projections held from the block before. -/
theorem held_read (xs0 : Vec Ideal S256x3584 .f32) (P : ℕ → ℕ → EReal) (T : ℕ)
    (h : ∀ (r : Fin 256) (c : Fin 3584), xs0 (ix2 r c) = P (256 * T + r.val) c.val)
    (q w : ℕ) (hw : ∀ a, (![0, q] : Fin 2 → ℕ) a + (![256, w] : Fin 2 → ℕ) a ≤ S256x3584.size a) (r : Fin 256) (d : Fin w) (c : ℕ) (hc : c = q + d.val) :
    View.ld xs0 (Rect.unit (s := S256x3584) ![0, q] ![256, w] hw) (ix2 r d) = P (256 * T + r.val) c := by
  have hq : q + w ≤ 3584 := hw 1
  refine Eq.trans ?_ ((h r ⟨q + d.val, by omega⟩).trans (by rw [hc]))
  refine congrArg xs0 (funext fun a => ?_)
  match a with
  | ⟨0, _⟩ => apply Fin.ext; show 0 + 1 * r.val = r.val; omega
  | ⟨1, _⟩ => apply Fin.ext; show q + 1 * d.val = q + d.val; omega

end Cert.MixTile

end
-- ==== Proof.MixStep.lean ====
/- What the recurrent kernel's step on a later block of 1024 tokens leaves in its buffers, from what the step before left. -/
module

public import proofs.«01_k».proof.Proof.MixLink

@[expose] public section

set_option maxRecDepth 16384

noncomputable section

namespace Cert.MixTile

open Idealize.ShloMosaic Idealize.ShloMosaic.TcCoe Idealize.SL.Sem Cert.KernelIdeal Cert.KernelIdeal.Gen Cert.Mix

variable (c : Dev nD) (i : grid0.Coords)
  (arg2 : Memref sig .tc .vmem S1x1024x1024 .f32) (harg2 : arg2.IsWhole) (arg3 : Memref sig .tc .vmem S1x1024x1024 .f32) (harg3 : arg3.IsWhole)
  (arg4 : Memref sig .tc .vmem S1x1024 .f32) (harg4 : arg4.IsWhole) (arg5 : Memref sig .tc .vmem S1024x3584 .bf16) (harg5 : arg5.IsWhole)
  (arg6 : Memref sig .tc .vmem S3x512 .f32) (harg6 : arg6.IsWhole) (arg7 : Memref sig .tc .vmem S1x512 .f32) (harg7 : arg7.IsWhole)
  (arg8 : Memref sig .tc .vmem S3x512 .f32) (harg8 : arg8.IsWhole) (arg9 : Memref sig .tc .vmem S1x512 .f32) (harg9 : arg9.IsWhole)
  (arg10 : Memref sig .tc .vmem S1024x1024 .bf16) (harg10 : arg10.IsWhole) (arg11 : Memref sig .tc .vmem S1x1024x1024 .f32) (harg11 : arg11.IsWhole)
  (arg12 : Memref sig .tc .vmem S256x3584 .f32) (harg12 : arg12.IsWhole) (arg13 : Memref sig .tc .vmem S256x3584 .f32) (harg13 : arg13.IsWhole)
  (arg14 : Memref sig .tc .vmem S256x1024 .bf16) (harg14 : arg14.IsWhole) (arg15 : Memref sig .tc .vmem S4x128x128 .f32) (harg15 : arg15.IsWhole)
  (arg16 : Memref sig .tc .vmem S264x512 .f32) (harg16 : arg16.IsWhole)
  (x0 : Vec Ideal S1x1024x1024 .f32) (x1 : Vec Ideal S1x1024x1024 .f32) (x2 : Vec Ideal S1x1024 .f32) (x3 : Vec Ideal S1024x3584 .bf16)
  (x4 : Vec Ideal S3x512 .f32) (x5 : Vec Ideal S1x512 .f32) (x6 : Vec Ideal S3x512 .f32) (x7 : Vec Ideal S1x512 .f32)
  (x8 : Vec Ideal S1024x1024 .bf16) (xs0 : Vec Ideal S256x3584 .f32) (xs3 : Vec Ideal S4x128x128 .f32) (xs4 : Vec Ideal S264x512 .f32)
  (P : ℕ → ℕ → EReal) (s : ℕ) (hx : Projects x0 x2 x3 P s)

section Later

variable (hc0 : ¬cond0_0 i) (hc1 : ¬cond0_1 i)
  (hpa : ∀ (r : Fin 256) (c : Fin 3584), xs0 (ix2 r c) = P (256 * (4 * s + 0) + r.val) c.val)
  (hst : ∀ (h : Fin 4) (a d : Fin 128), xs3 (ix3 h a d) = state P (lbOf x4) (8 * (4 * s + 0)) (128 * h.val + a.val) (128 * h.val + d.val))
  (hzb : ∀ (i : Fin 8) (k : Fin 512), xs4 (ix2 (front i) k) = convBack P (8 - i.val) (256 * (4 * s + 0)) k.val)

/-- What a later step leaves in the projections' buffer: the next block's first tile. -/
theorem later_pa (y : S256x3584.Idx) :
    sout0_B_0 (F := Ideal) c i arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 x8 xs0 xs3 xs4 y
      = pj (View.ld x1 (Rect.unit (s := S1x1024x1024) ![0, 0, 0] ![1, 256, 1024] (by decide))) x2 x3 y := by
  frame_open
  frame_out
  refine proj_canon _ x2 x3 _ _ _ _ _ _ _ _ _ _ _ _ _ _ _ ?_ (by sl_kernel_rfl) y
  repeat' (first
    | exact trivial
    | refine ⟨fun z => proj_piece _ x2 x3 _ (by decide) (by decide) z, ?_⟩)

include hx in
/-- The low rows a later step leaves in the convolution's buffer. -/
theorem later_zb (n : Fin 8) (k : Fin 512) :
    sout0_B_4 (F := Ideal) c i arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 x8 xs0 xs3 xs4 (ix2 (front n) k)
      = convBack P (8 - n.val) (256 * (4 * s + 3 + 1)) k.val := by
  frame_open
  frame_out
  refine (low_row _ (by decide) _ n.val n.isLt k _ rfl rfl).trans ?_
  refine (congrFun (low_same _) _).trans ?_
  refine shift_read _ _ _ P (4 * s + 3) ?_ _ (by decide) n k
  refine convIn_tile _ _ P (4 * s + 3) (fun r k => ?_) (fun r k => ?_)
  all_goals
    refine cols_read x0 x2 x3 P s hx 3 (by decide) 768 rfl (by decide) _ _ _ _ _ _ _ _ _ _ _ _ _ _ _ _ ?_ (by sl_kernel_rfl) _ 512 (by decide) r k _ rfl
    repeat' (first
      | exact trivial
      | refine ⟨fun z => proj_piece _ x2 x3 _ (by decide) (by decide) z, ?_⟩)

set_option maxHeartbeats 4000000 in
include hx hpa hst in
/-- The state a later step leaves. -/
theorem later_st (h : Fin 4) (a d : Fin 128) :
    sout0_B_3 (F := Ideal) c i arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 x8 xs0 xs3 xs4 (ix3 h a d)
      = state P (lbOf x4) (8 * (4 * s + 3 + 1)) (128 * h.val + a.val) (128 * h.val + d.val) := by
  fin_cases h
  all_goals
    frame_open
    frame_out
    repeat refine (st_miss _ a d _ _ _ _ (by decide)).trans ?_
    refine (st_hit _ a d _ _ _ _ (by rfl)).trans ?_
    iterate 3
      generalize hS : View.readCov (Val := Elt Ideal) arg15.view _ _ = st
      generalize hPf : View.readCov (Val := Elt Ideal) (s := S256x3584) (e := .f32) _ _
        (Rect.unit (s := S256x3584) ![0, 512] ![256, 512] _).toLoadRect = Pf
      generalize hV : View.readCov (Val := Elt Ideal) (s := S256x3584) (e := .f32) _ _ _ = v
      apply Eq.symm
      refine (headState_entry x4 Pf P _ _ (by decide) v st ?_ ?_ ?_ a d).symm
      iterate 2
        intro r k
        subst hPf hV
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
      subst hS
      clear hPf hV Pf v a d
      intro a d
      refine (st_read _ a d _ _ (by decide) _).trans ?_
      repeat refine (st_miss _ a d _ _ _ _ (by decide)).trans ?_
      refine (st_hit _ a d _ _ _ _ (by rfl)).trans ?_
    generalize hS : View.ld xs3 _ = st
    generalize hPf : View.ld xs0 (Rect.unit (s := S256x3584) ![0, 512] ![256, 512] _) = Pf
    generalize hV : View.ld xs0 _ = v
    apply Eq.symm
    refine (headState_entry x4 Pf P _ _ (by decide) v st ?_ ?_ ?_ a d).symm
    iterate 2
      intro r k
      subst hPf hV
      exact held_read xs0 P _ hpa _ _ _ _ _ _ (by first | rfl | exact (Nat.add_assoc _ _ _).symm)
    intro a d
    subst hS
    exact (st_ld a d xs3 _ (by decide) _).trans (hst _ a d)

set_option maxHeartbeats 40000000 in
include hx hpa hst hzb in
/-- What a later step leaves in the output block. -/
theorem later_out (y : S1x1024x1024.Idx) :
    out0_B_9 (F := Ideal) c i arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 x8 xs0 xs3 xs4 y
      = outBlk P (lbOf x4) (rowOf x5) (rowsOf x6) (rowOf x7) x0 x8 s y := by
  frame_open
  frame_out
  refine out_canon (outBlk P (lbOf x4) (rowOf x5) (rowsOf x6) (rowOf x7) x0 x8 s) _ _ _ _ _ _ _ _
    (fun x => out_piece P _ _ _ _ x0 x8 s 3 768 rfl _ _ ?_ x) (fun x => out_piece P _ _ _ _ x0 x8 s 2 512 rfl _ _ ?_ x)
    (fun x => out_piece P _ _ _ _ x0 x8 s 1 256 rfl _ _ ?_ x) (fun x => out_piece P _ _ _ _ x0 x8 s 0 0 rfl _ _ ?_ x) y
  rotate_left 3
  · clear x
    refine mix_read P _ _ _ _ _ _ _ _ _ _ _ _ _ _ _ _ _ ?_ ?_ ?_ ?_ ?_ _
    rotate_left
    iterate 4
      intro r d
      generalize hS : View.ld xs3 _ = st
      generalize hPf : View.ld xs0 (Rect.unit (s := S256x3584) ![0, 512] ![256, 512] _) = Pf
      generalize hV : View.ld xs0 _ = v
      generalize hQ : View.ld xs0 _ = q
      generalize hG : View.ld xs0 _ = g
      generalize hH : View.ld x5 _ = hgn
      apply Eq.symm
      refine (headOutT_entry x4 Pf P _ _ (by decide) _ _ _ st hgn (rowOf x5) ?_ ?_ ?_ ?_ ?_ ?_ r d).symm
      iterate 4
        intro r k
        subst hPf hV hQ hG
        exact held_read xs0 P _ hpa _ _ _ _ _ _ (by first | rfl | exact (Nat.add_assoc _ _ _).symm)
      · intro a d
        subst hS
        exact (st_ld a d xs3 _ (by decide) _).trans (hst _ a d)
      · intro d
        subst hH
        exact rowOf_cut x5 _ _ d
    intro r k
    generalize hz2 : View.ld (Val := Elt Ideal) (e' := .f32) _ (Rect.unit (s := S264x512) ![6, 0] ![256, 512] _) = z2
    generalize hz1 : View.ld (Val := Elt Ideal) (e' := .f32) _ (Rect.unit (s := S264x512) ![7, 0] ![256, 512] _) = z1
    generalize hA : View.ld xs0 (Rect.unit (s := S256x3584) ![0, 2560] ![256, 512] _) = A
    generalize hB : View.ld xs0 (Rect.unit (s := S256x3584) ![0, 3072] ![256, 512] _) = B
    generalize hG : View.ld xs0 (Rect.unit (s := S256x3584) ![0, 2048] ![256, 512] _) = G
    apply Eq.symm
    refine (conv_piece P _ (k0_pay137 A B) z2 z1 G x7 _ _ _ _ _ ?_ ?_ ?_ ?_ ?_ ?_ ?_ ?_ r k).symm
    rotate_left 3
    · intro r k
      subst hG
      exact held_read xs0 P _ hpa _ _ _ _ _ _ (by first | rfl | exact (Nat.add_assoc _ _ _).symm)
    · exact fun k => rowOf_entry x7 k
    iterate 3 exact fun k => rowsOf_cut x6 _ _ k
    · intro r k
      refine convIn_own A B P _ (fun r k => ?_) (fun r k => ?_) r k
      all_goals
        subst hA hB
        exact held_read xs0 P _ hpa _ _ _ _ _ _ (by first | rfl | exact (Nat.add_assoc _ _ _).symm)
    all_goals
      subst hz2 hz1
      intro r k
      refine back_read_old _ _ P _ (fun r k => convIn_tile _ _ P _ ?_ ?_ r k) arg16 harg16 xs4 _ _ (by decide) (by decide) _ hzb r k
      iterate 2
        intro r k
        exact held_read xs0 P _ hpa _ _ _ _ _ _ (by first | rfl | exact (Nat.add_assoc _ _ _).symm)
  all_goals
    clear x
    refine mix_read P _ _ _ _ _ _ _ _ _ _ _ _ _ _ _ _ _ ?_ ?_ ?_ ?_ ?_ _
    rotate_left
    iterate 4
      intro r d
      generalize hS : View.readCov (Val := Elt Ideal) arg15.view _ _ = st
      generalize hPf : View.readCov (Val := Elt Ideal) (s := S256x3584) (e := .f32) _ _ (Rect.unit (s := S256x3584) ![0, 512] ![256, 512] _).toLoadRect = Pf
      generalize hV : View.readCov (Val := Elt Ideal) (s := S256x3584) (e := .f32) _ _ _ = v
      generalize hQ : View.readCov (Val := Elt Ideal) (s := S256x3584) (e := .f32) _ _ _ = q
      generalize hG : View.readCov (Val := Elt Ideal) (s := S256x3584) (e := .f32) _ _ _ = g
      generalize hH : View.ld x5 _ = hgn
      apply Eq.symm
      refine (headOutT_entry x4 Pf P _ _ (by decide) _ _ _ st hgn (rowOf x5) ?_ ?_ ?_ ?_ ?_ ?_ r d).symm
      iterate 4
        intro r k
        subst hPf hV hQ hG
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
      swap
      · intro d
        subst hH
        exact rowOf_cut x5 _ _ d
      clear hPf hV hQ hG hH Pf v q g hgn r d
      subst hS
      intro a d
      refine (st_read _ a d _ _ (by decide) _).trans ?_
      repeat refine (st_miss _ a d _ _ _ _ (by decide)).trans ?_
      refine (st_hit _ a d _ _ _ _ (by rfl)).trans ?_
      repeat
        generalize hS : View.readCov (Val := Elt Ideal) arg15.view _ _ = st
        fail_if_success clear hS st
        generalize hPf : View.readCov (Val := Elt Ideal) (s := S256x3584) (e := .f32) _ _ (Rect.unit (s := S256x3584) ![0, 512] ![256, 512] _).toLoadRect = Pf
        generalize hV : View.readCov (Val := Elt Ideal) (s := S256x3584) (e := .f32) _ _ _ = v
        apply Eq.symm
        refine (headState_entry x4 Pf P _ _ (by decide) v st ?_ ?_ ?_ a d).symm
        iterate 2
          intro r k
          subst hPf hV
          refine cols_read x0 x2 x3 P s hx _ (by decide) (256 * _) rfl ?hb _ _ _ _ _ _ _ _ _ _ _ _ _ _ _ _ ?hL (by sl_kernel_rfl) _ _ (by decide) _ _ _
            (by first | rfl | exact (Nat.add_assoc _ _ _).symm)
          case hL => repeat' (first | exact trivial | refine ⟨fun z => proj_piece _ x2 x3 _ (by decide) (by decide) z, ?_⟩)
          try case hb => decide
        clear hPf hV Pf v a d
        subst hS
        intro a d
        refine (st_read _ a d _ _ (by decide) _).trans ?_
        repeat refine (st_miss _ a d _ _ _ _ (by decide)).trans ?_
        refine (st_hit _ a d _ _ _ _ (by rfl)).trans ?_
      generalize hS : View.ld xs3 _ = st
      fail_if_success clear hS st
      generalize hPf : View.ld xs0 (Rect.unit (s := S256x3584) ![0, 512] ![256, 512] _) = Pf
      generalize hV : View.ld xs0 _ = v
      apply Eq.symm
      refine (headState_entry x4 Pf P _ _ (by decide) v st ?_ ?_ ?_ a d).symm
      iterate 2
        intro r k
        subst hPf hV
        exact held_read xs0 P _ hpa _ _ _ _ _ _ (by first | rfl | exact (Nat.add_assoc _ _ _).symm)
      clear hPf hV Pf v a d
      subst hS
      intro a d
      exact (st_ld a d xs3 _ (by decide) _).trans (hst _ a d)
    intro r k
    generalize hz2 : View.readCov (Val := Elt Ideal) arg16.view _ (Rect.unit (s := S264x512) ![6, 0] ![256, 512] _).toLoadRect = z2
    generalize hz1 : View.readCov (Val := Elt Ideal) arg16.view _ (Rect.unit (s := S264x512) ![7, 0] ![256, 512] _).toLoadRect = z1
    generalize hA : View.readCov (Val := Elt Ideal) (s := S256x3584) (e := .f32) _ _ (Rect.unit (s := S256x3584) ![0, 2560] ![256, 512] _).toLoadRect = A
    generalize hB : View.readCov (Val := Elt Ideal) (s := S256x3584) (e := .f32) _ _ (Rect.unit (s := S256x3584) ![0, 3072] ![256, 512] _).toLoadRect = B
    generalize hG : View.readCov (Val := Elt Ideal) (s := S256x3584) (e := .f32) _ _ (Rect.unit (s := S256x3584) ![0, 2048] ![256, 512] _).toLoadRect = G
    apply Eq.symm
    refine (conv_piece P _ (k0_pay137 A B) z2 z1 G x7 _ _ _ _ _ ?_ ?_ ?_ ?_ ?_ ?_ ?_ ?_ r k).symm
    rotate_left 3
    · intro r k
      subst hG
      refine cols_read x0 x2 x3 P s hx _ (by decide) (256 * _) rfl ?hb _ _ _ _ _ _ _ _ _ _ _ _ _ _ _ _ ?hL (by sl_kernel_rfl) _ _ (by decide) _ _ _
        (by first | rfl | exact (Nat.add_assoc _ _ _).symm)
      case hL => repeat' (first | exact trivial | refine ⟨fun z => proj_piece _ x2 x3 _ (by decide) (by decide) z, ?_⟩)
      try case hb => decide
    · exact fun k => rowOf_entry x7 k
    iterate 3 exact fun k => rowsOf_cut x6 _ _ k
    · intro r k
      refine convIn_own A B P _ (fun r k => ?_) (fun r k => ?_) r k
      all_goals
        subst hA hB
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
    all_goals
      subst hz2 hz1
      intro r k
      refine back_read _ _ _ _ _ P _ (fun r k => convIn_tile _ _ P _ ?_ ?_ r k) _ _ _ (by decide) (by decide) _ (fun i k => ?_) r k
      iterate 2
        intro r k
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
      refine (congrFun (low_same _) _).trans ?_
      refine shift_read _ _ _ P _ (fun r k => convIn_tile _ _ P _ ?_ ?_ r k) _ _ i k
      iterate 2
        intro r k
        first
        | (with_reducible refine held_read xs0 P _ ?_ _ _ _ _ _ _ ?_
           · exact hpa
           · first | rfl | exact (Nat.add_assoc _ _ _).symm)
        | (
           refine cols_read x0 x2 x3 P s hx _ (by decide) (256 * _) rfl ?hb _ _ _ _ _ _ _ _ _ _ _ _ _ _ _ _ ?hL (by sl_kernel_rfl) _ _ (by decide) _ _ _
             (by first | rfl | exact (Nat.add_assoc _ _ _).symm)
           case hL => repeat' (first | exact trivial | refine ⟨fun z => proj_piece _ x2 x3 _ (by decide) (by decide) z, ?_⟩)
           try case hb => decide)

end Later

end Cert.MixTile

end
-- ==== Proof.MixFirst.lean ====
/- What the recurrent kernel's step on a batch's first block of 1024 tokens leaves in its buffers. -/
module

public import proofs.«01_k».proof.Proof.MixLink

@[expose] public section

set_option maxRecDepth 16384

noncomputable section

namespace Cert.MixTile

open Idealize.ShloMosaic Idealize.ShloMosaic.TcCoe Idealize.SL.Sem Cert.KernelIdeal Cert.KernelIdeal.Gen Cert.Mix

variable (c : Dev nD) (i : grid0.Coords)
  (arg2 : Memref sig .tc .vmem S1x1024x1024 .f32) (harg2 : arg2.IsWhole) (arg3 : Memref sig .tc .vmem S1x1024x1024 .f32) (harg3 : arg3.IsWhole)
  (arg4 : Memref sig .tc .vmem S1x1024 .f32) (harg4 : arg4.IsWhole) (arg5 : Memref sig .tc .vmem S1024x3584 .bf16) (harg5 : arg5.IsWhole)
  (arg6 : Memref sig .tc .vmem S3x512 .f32) (harg6 : arg6.IsWhole) (arg7 : Memref sig .tc .vmem S1x512 .f32) (harg7 : arg7.IsWhole)
  (arg8 : Memref sig .tc .vmem S3x512 .f32) (harg8 : arg8.IsWhole) (arg9 : Memref sig .tc .vmem S1x512 .f32) (harg9 : arg9.IsWhole)
  (arg10 : Memref sig .tc .vmem S1024x1024 .bf16) (harg10 : arg10.IsWhole) (arg11 : Memref sig .tc .vmem S1x1024x1024 .f32) (harg11 : arg11.IsWhole)
  (arg12 : Memref sig .tc .vmem S256x3584 .f32) (harg12 : arg12.IsWhole) (arg13 : Memref sig .tc .vmem S256x3584 .f32) (harg13 : arg13.IsWhole)
  (arg14 : Memref sig .tc .vmem S256x1024 .bf16) (harg14 : arg14.IsWhole) (arg15 : Memref sig .tc .vmem S4x128x128 .f32) (harg15 : arg15.IsWhole)
  (arg16 : Memref sig .tc .vmem S264x512 .f32) (harg16 : arg16.IsWhole)
  (x0 : Vec Ideal S1x1024x1024 .f32) (x1 : Vec Ideal S1x1024x1024 .f32) (x2 : Vec Ideal S1x1024 .f32) (x3 : Vec Ideal S1024x3584 .bf16)
  (x4 : Vec Ideal S3x512 .f32) (x5 : Vec Ideal S1x512 .f32) (x6 : Vec Ideal S3x512 .f32) (x7 : Vec Ideal S1x512 .f32)
  (x8 : Vec Ideal S1024x1024 .bf16)
  (P : ℕ → ℕ → EReal) (s : ℕ) (hx : Projects x0 x2 x3 P s)

/-- The zero fill of the state's buffer. -/
theorem st_fill (L : List (View.Piece (Elt Ideal) S4x128x128 .f32)) (a d : Fin 128) (h : Fin 4)
    (hb : ∀ a, (![0, 0, 0] : Fin 3 → ℕ) a + (![4, 128, 128] : Fin 3 → ℕ) a ≤ S4x128x128.size a) :
    View.canon (Val := Elt Ideal) (⟨Rect.unit (s := S4x128x128) ![0, 0, 0] ![4, 128, 128] hb, k0_pay20 (F := Ideal)⟩ :: L) (ix3 h a d) = 0 := by
  have e : ix3 h a d = (Rect.unit (s := S4x128x128) ![0, 0, 0] ![4, 128, 128] hb).emb (ix3 h a d) := by
    funext x
    match x with
    | ⟨0, _⟩ => apply Fin.ext; show h.val = 0 + 1 * h.val; omega
    | ⟨1, _⟩ => apply Fin.ext; show a.val = 0 + 1 * a.val; omega
    | ⟨2, _⟩ => apply Fin.ext; show d.val = 0 + 1 * d.val; omega
  rw [e]
  refine (View.canon_cons_emb _ _ _ _).trans ?_
  pointwise [k0_pay20]

/-- The state before the first chunk is zero. -/
theorem state_start (P : ℕ → ℕ → EReal) (lb : ℕ → EReal) (s : ℕ) (hs0 : s = 0) (v k : ℕ) : state P lb (8 * (4 * s + 0)) v k = 0 := by
  subst hs0
  rfl

/-- Before the first token the convolution sees zeros. -/
theorem zb_start (P : ℕ → ℕ → EReal) (s : ℕ) (hs0 : s = 0) (i : Fin 8) (k : Fin 512) :
    k0_pay21 (F := Ideal) (ix2 i k) = convBack P (8 - i.val) (256 * (4 * s + 0)) k.val := by
  subst hs0
  rw [convBack, if_neg (by omega)]
  pointwise [k0_pay21]

section First

variable (hc0 : cond0_0 i) (hc1 : cond0_1 i) (hs0 : s = 0)

/-- What the first step leaves in the projections' buffer: the next block's first tile. -/
theorem first_pa (y : S256x3584.Idx) :
    sout0_A_0 (F := Ideal) c i arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 x8 y
      = pj (View.ld x1 (Rect.unit (s := S1x1024x1024) ![0, 0, 0] ![1, 256, 1024] (by decide))) x2 x3 y := by
  frame_open
  frame_out
  refine proj_canon _ x2 x3 _ _ _ _ _ _ _ _ _ _ _ _ _ _ _ ?_ (by sl_kernel_rfl) y
  repeat' (first
    | exact trivial
    | refine ⟨fun z => proj_piece _ x2 x3 _ (by decide) (by decide) z, ?_⟩)

include hx in
/-- The low rows the first step leaves in the convolution's buffer. -/
theorem first_zb (n : Fin 8) (k : Fin 512) :
    sout0_A_4 (F := Ideal) c i arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 x8 (ix2 (front n) k)
      = convBack P (8 - n.val) (256 * (4 * s + 3 + 1)) k.val := by
  frame_open
  frame_out
  refine (low_row _ (by decide) _ n.val n.isLt k _ rfl rfl).trans ?_
  refine (congrFun (low_same _) _).trans ?_
  refine shift_read _ _ _ P (4 * s + 3) ?_ _ (by decide) n k
  refine convIn_tile _ _ P (4 * s + 3) (fun r k => ?_) (fun r k => ?_)
  all_goals
    refine cols_read x0 x2 x3 P s hx 3 (by decide) 768 rfl (by decide) _ _ _ _ _ _ _ _ _ _ _ _ _ _ _ _ ?_ (by sl_kernel_rfl) _ 512 (by decide) r k _ rfl
    repeat' (first
      | exact trivial
      | refine ⟨fun z => proj_piece _ x2 x3 _ (by decide) (by decide) z, ?_⟩)

set_option pp.maxSteps 80 in
set_option maxHeartbeats 4000000 in
include hx hs0 in
/-- The state the first step leaves. -/
theorem first_st (h : Fin 4) (a d : Fin 128) :
    sout0_A_3 (F := Ideal) c i arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 x8 (ix3 h a d)
      = state P (lbOf x4) (8 * (4 * s + 3 + 1)) (128 * h.val + a.val) (128 * h.val + d.val) := by
  fin_cases h
  all_goals
    frame_open
    frame_out
    repeat
      with_reducible refine (st_miss _ a d _ _ _ _ ?_).trans ?_
      · decide
    with_reducible refine (st_hit _ a d _ _ _ _ ?_).trans ?_
    · rfl
    iterate 3
      generalize hS : View.readCov (Val := Elt Ideal) arg15.view _ _ = st
      generalize hPf : View.readCov (Val := Elt Ideal) (s := S256x3584) (e := .f32) _ _ (Rect.unit (s := S256x3584) ![0, 512] ![256, 512] _).toLoadRect = Pf
      generalize hV : View.readCov (Val := Elt Ideal) (s := S256x3584) (e := .f32) _ _ _ = v
      apply Eq.symm
      refine (headState_entry x4 Pf P _ _ (by decide) v st ?_ ?_ ?_ a d).symm
      iterate 2
        intro r k
        subst hPf hV
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
      clear hPf hV Pf v a d
      subst hS
      intro a d
      refine (st_read _ a d _ _ (by decide) _).trans ?_
      repeat
        with_reducible refine (st_miss _ a d _ _ _ _ ?_).trans ?_
        · decide
      with_reducible refine (st_hit _ a d _ _ _ _ ?_).trans ?_
      · rfl
    generalize hS : View.readCov (Val := Elt Ideal) arg15.view _ _ = st
    generalize hPf : View.readCov (Val := Elt Ideal) (s := S256x3584) (e := .f32) _ _ (Rect.unit (s := S256x3584) ![0, 512] ![256, 512] _).toLoadRect = Pf
    generalize hV : View.readCov (Val := Elt Ideal) (s := S256x3584) (e := .f32) _ _ _ = v
    apply Eq.symm
    refine (headState_entry x4 Pf P _ _ (by decide) v st ?_ ?_ ?_ a d).symm
    iterate 2
      intro r k
      subst hPf hV
      refine cols_read x0 x2 x3 P s hx 0 (by decide) 0 rfl ?hb _ _ _ _ _ _ _ _ _ _ _ _ _ _ _ _ ?hL (by sl_kernel_rfl) _ _ (by decide) _ _ _
        (by first | rfl | exact (Nat.add_assoc _ _ _).symm)
      case hL => repeat' (first | exact trivial | refine ⟨fun z => proj_piece _ x2 x3 _ (by decide) (by decide) z, ?_⟩)
      try case hb => decide
    clear hPf hV Pf v a d
    subst hS
    intro a d
    refine (st_read _ a d _ _ (by decide) _).trans ?_
    repeat
      with_reducible refine (st_miss _ a d _ _ _ _ ?_).trans ?_
      · decide
    with_reducible refine (st_fill _ a d _ _).trans ?_
    exact (state_start P (lbOf x4) s hs0 _ _).symm

set_option pp.maxSteps 80 in
set_option maxHeartbeats 4000000 in
include hx hs0 in
/-- What the first step leaves in the output block. -/
theorem first_out (y : S1x1024x1024.Idx) :
    out0_A_9 (F := Ideal) c i arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 x8 y
      = outBlk P (lbOf x4) (rowOf x5) (rowsOf x6) (rowOf x7) x0 x8 s y := by
  frame_open
  frame_out
  refine out_canon (outBlk P (lbOf x4) (rowOf x5) (rowsOf x6) (rowOf x7) x0 x8 s) _ _ _ _ _ _ _ _
    (fun x => out_piece P _ _ _ _ x0 x8 s 3 768 rfl _ _ ?_ x) (fun x => out_piece P _ _ _ _ x0 x8 s 2 512 rfl _ _ ?_ x)
    (fun x => out_piece P _ _ _ _ x0 x8 s 1 256 rfl _ _ ?_ x) (fun x => out_piece P _ _ _ _ x0 x8 s 0 0 rfl _ _ ?_ x) y
  rotate_left 3
  · clear x
    refine mix_read P _ _ _ _ _ _ _ _ _ _ _ _ _ _ _ _ _ ?_ ?_ ?_ ?_ ?_ _
    rotate_left
    iterate 4
      intro r d
      generalize hS : View.readCov (Val := Elt Ideal) arg15.view _ _ = st
      generalize hPf : View.readCov (Val := Elt Ideal) (s := S256x3584) (e := .f32) _ _ (Rect.unit (s := S256x3584) ![0, 512] ![256, 512] _).toLoadRect = Pf
      generalize hV : View.readCov (Val := Elt Ideal) (s := S256x3584) (e := .f32) _ _ _ = v
      generalize hQ : View.readCov (Val := Elt Ideal) (s := S256x3584) (e := .f32) _ _ _ = q
      generalize hG : View.readCov (Val := Elt Ideal) (s := S256x3584) (e := .f32) _ _ _ = g
      generalize hH : View.ld x5 _ = hgn
      apply Eq.symm
      refine (headOutT_entry x4 Pf P _ _ (by decide) _ _ _ st hgn (rowOf x5) ?_ ?_ ?_ ?_ ?_ ?_ r d).symm
      iterate 4
        intro r k
        subst hPf hV hQ hG
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
      swap
      · intro d
        subst hH
        exact rowOf_cut x5 _ _ d
      clear hPf hV hQ hG hH Pf v q g hgn r d
      subst hS
      repeat
        intro a d
        refine (st_read _ a d _ _ (by decide) _).trans ?_
        repeat
          with_reducible refine (st_miss _ a d _ _ _ _ ?_).trans ?_
          · decide
        with_reducible refine (st_hit _ a d _ _ _ _ ?_).trans ?_
        · rfl
        generalize hS : View.readCov (Val := Elt Ideal) arg15.view _ _ = st
        generalize hPf : View.readCov (Val := Elt Ideal) (s := S256x3584) (e := .f32) _ _ (Rect.unit (s := S256x3584) ![0, 512] ![256, 512] _).toLoadRect = Pf
        generalize hV : View.readCov (Val := Elt Ideal) (s := S256x3584) (e := .f32) _ _ _ = v
        apply Eq.symm
        refine (headState_entry x4 Pf P _ _ (by decide) v st ?_ ?_ ?_ a d).symm
        iterate 2
          intro r k
          subst hPf hV
          refine cols_read x0 x2 x3 P s hx _ (by decide) (256 * _) rfl ?hb _ _ _ _ _ _ _ _ _ _ _ _ _ _ _ _ ?hL (by sl_kernel_rfl) _ _ (by decide) _ _ _
            (by first | rfl | exact (Nat.add_assoc _ _ _).symm)
          case hL => repeat' (first | exact trivial | refine ⟨fun z => proj_piece _ x2 x3 _ (by decide) (by decide) z, ?_⟩)
          try case hb => decide
        clear hPf hV Pf v a d
        subst hS
      try
        intro a d
        refine (st_read _ a d _ _ (by decide) _).trans ?_
        repeat
          with_reducible refine (st_miss _ a d _ _ _ _ ?_).trans ?_
          · decide
        with_reducible refine (st_hit _ a d _ _ _ _ ?_).trans ?_
        · rfl
        generalize hS : View.readCov (Val := Elt Ideal) arg15.view _ _ = st
        generalize hPf : View.readCov (Val := Elt Ideal) (s := S256x3584) (e := .f32) _ _ (Rect.unit (s := S256x3584) ![0, 512] ![256, 512] _).toLoadRect = Pf
        generalize hV : View.readCov (Val := Elt Ideal) (s := S256x3584) (e := .f32) _ _ _ = v
        apply Eq.symm
        refine (headState_entry x4 Pf P _ _ (by decide) v st ?_ ?_ ?_ a d).symm
        iterate 2
          intro r k
          subst hPf hV
          refine cols_read x0 x2 x3 P s hx 0 (by decide) 0 rfl ?hb _ _ _ _ _ _ _ _ _ _ _ _ _ _ _ _ ?hL (by sl_kernel_rfl) _ _ (by decide) _ _ _
            (by first | rfl | exact (Nat.add_assoc _ _ _).symm)
          case hL => repeat' (first | exact trivial | refine ⟨fun z => proj_piece _ x2 x3 _ (by decide) (by decide) z, ?_⟩)
          try case hb => decide
        clear hPf hV Pf v a d
        subst hS
      intro a d
      refine (st_read _ a d _ _ (by decide) _).trans ?_
      repeat
        with_reducible refine (st_miss _ a d _ _ _ _ ?_).trans ?_
        · decide
      with_reducible refine (st_fill _ a d _ _).trans ?_
      exact (state_start P (lbOf x4) s hs0 _ _).symm
    intro r k
    generalize hz2 : View.readCov (Val := Elt Ideal) arg16.view _ (Rect.unit (s := S264x512) ![6, 0] ![256, 512] _).toLoadRect = z2
    generalize hz1 : View.readCov (Val := Elt Ideal) arg16.view _ (Rect.unit (s := S264x512) ![7, 0] ![256, 512] _).toLoadRect = z1
    generalize hA : View.readCov (Val := Elt Ideal) (s := S256x3584) (e := .f32) _ _ (Rect.unit (s := S256x3584) ![0, 2560] ![256, 512] _).toLoadRect = A
    generalize hB : View.readCov (Val := Elt Ideal) (s := S256x3584) (e := .f32) _ _ (Rect.unit (s := S256x3584) ![0, 3072] ![256, 512] _).toLoadRect = B
    generalize hG : View.readCov (Val := Elt Ideal) (s := S256x3584) (e := .f32) _ _ (Rect.unit (s := S256x3584) ![0, 2048] ![256, 512] _).toLoadRect = G
    apply Eq.symm
    refine (conv_piece P _ (k0_pay137 A B) z2 z1 G x7 _ _ _ _ _ ?_ ?_ ?_ ?_ ?_ ?_ ?_ ?_ r k).symm
    rotate_left 3
    · intro r k
      subst hG
      refine cols_read x0 x2 x3 P s hx _ (by decide) (256 * _) rfl ?hb _ _ _ _ _ _ _ _ _ _ _ _ _ _ _ _ ?hL (by sl_kernel_rfl) _ _ (by decide) _ _ _
        (by first | rfl | exact (Nat.add_assoc _ _ _).symm)
      case hL => repeat' (first | exact trivial | refine ⟨fun z => proj_piece _ x2 x3 _ (by decide) (by decide) z, ?_⟩)
      try case hb => decide
    · exact fun k => rowOf_entry x7 k
    iterate 3 exact fun k => rowsOf_cut x6 _ _ k
    · intro r k
      refine convIn_own A B P _ (fun r k => ?_) (fun r k => ?_) r k
      all_goals
        subst hA hB
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
    all_goals
      subst hz2 hz1
      intro r k
      refine back_read _ _ _ _ _ P _ (fun r k => convIn_tile _ _ P _ ?_ ?_ r k) _ _ _ (by decide) (by decide) _ (fun i k => ?_) r k
      iterate 2
        intro r k
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
      exact zb_start P s hs0 i k
  all_goals
    clear x
    refine mix_read P _ _ _ _ _ _ _ _ _ _ _ _ _ _ _ _ _ ?_ ?_ ?_ ?_ ?_ _
    rotate_left
    iterate 4
      intro r d
      generalize hS : View.readCov (Val := Elt Ideal) arg15.view _ _ = st
      generalize hPf : View.readCov (Val := Elt Ideal) (s := S256x3584) (e := .f32) _ _ (Rect.unit (s := S256x3584) ![0, 512] ![256, 512] _).toLoadRect = Pf
      generalize hV : View.readCov (Val := Elt Ideal) (s := S256x3584) (e := .f32) _ _ _ = v
      generalize hQ : View.readCov (Val := Elt Ideal) (s := S256x3584) (e := .f32) _ _ _ = q
      generalize hG : View.readCov (Val := Elt Ideal) (s := S256x3584) (e := .f32) _ _ _ = g
      generalize hH : View.ld x5 _ = hgn
      apply Eq.symm
      refine (headOutT_entry x4 Pf P _ _ (by decide) _ _ _ st hgn (rowOf x5) ?_ ?_ ?_ ?_ ?_ ?_ r d).symm
      iterate 4
        intro r k
        subst hPf hV hQ hG
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
      swap
      · intro d
        subst hH
        exact rowOf_cut x5 _ _ d
      clear hPf hV hQ hG hH Pf v q g hgn r d
      subst hS
      repeat
        intro a d
        refine (st_read _ a d _ _ (by decide) _).trans ?_
        repeat
          with_reducible refine (st_miss _ a d _ _ _ _ ?_).trans ?_
          · decide
        with_reducible refine (st_hit _ a d _ _ _ _ ?_).trans ?_
        · rfl
        generalize hS : View.readCov (Val := Elt Ideal) arg15.view _ _ = st
        generalize hPf : View.readCov (Val := Elt Ideal) (s := S256x3584) (e := .f32) _ _ (Rect.unit (s := S256x3584) ![0, 512] ![256, 512] _).toLoadRect = Pf
        generalize hV : View.readCov (Val := Elt Ideal) (s := S256x3584) (e := .f32) _ _ _ = v
        apply Eq.symm
        refine (headState_entry x4 Pf P _ _ (by decide) v st ?_ ?_ ?_ a d).symm
        iterate 2
          intro r k
          subst hPf hV
          refine cols_read x0 x2 x3 P s hx _ (by decide) (256 * _) rfl ?hb _ _ _ _ _ _ _ _ _ _ _ _ _ _ _ _ ?hL (by sl_kernel_rfl) _ _ (by decide) _ _ _
            (by first | rfl | exact (Nat.add_assoc _ _ _).symm)
          case hL => repeat' (first | exact trivial | refine ⟨fun z => proj_piece _ x2 x3 _ (by decide) (by decide) z, ?_⟩)
          try case hb => decide
        clear hPf hV Pf v a d
        subst hS
      try
        intro a d
        refine (st_read _ a d _ _ (by decide) _).trans ?_
        repeat
          with_reducible refine (st_miss _ a d _ _ _ _ ?_).trans ?_
          · decide
        with_reducible refine (st_hit _ a d _ _ _ _ ?_).trans ?_
        · rfl
        generalize hS : View.readCov (Val := Elt Ideal) arg15.view _ _ = st
        generalize hPf : View.readCov (Val := Elt Ideal) (s := S256x3584) (e := .f32) _ _ (Rect.unit (s := S256x3584) ![0, 512] ![256, 512] _).toLoadRect = Pf
        generalize hV : View.readCov (Val := Elt Ideal) (s := S256x3584) (e := .f32) _ _ _ = v
        apply Eq.symm
        refine (headState_entry x4 Pf P _ _ (by decide) v st ?_ ?_ ?_ a d).symm
        iterate 2
          intro r k
          subst hPf hV
          refine cols_read x0 x2 x3 P s hx 0 (by decide) 0 rfl ?hb _ _ _ _ _ _ _ _ _ _ _ _ _ _ _ _ ?hL (by sl_kernel_rfl) _ _ (by decide) _ _ _
            (by first | rfl | exact (Nat.add_assoc _ _ _).symm)
          case hL => repeat' (first | exact trivial | refine ⟨fun z => proj_piece _ x2 x3 _ (by decide) (by decide) z, ?_⟩)
          try case hb => decide
        clear hPf hV Pf v a d
        subst hS
      intro a d
      refine (st_read _ a d _ _ (by decide) _).trans ?_
      repeat
        with_reducible refine (st_miss _ a d _ _ _ _ ?_).trans ?_
        · decide
      with_reducible refine (st_fill _ a d _ _).trans ?_
      exact (state_start P (lbOf x4) s hs0 _ _).symm
    intro r k
    generalize hz2 : View.readCov (Val := Elt Ideal) arg16.view _ (Rect.unit (s := S264x512) ![6, 0] ![256, 512] _).toLoadRect = z2
    generalize hz1 : View.readCov (Val := Elt Ideal) arg16.view _ (Rect.unit (s := S264x512) ![7, 0] ![256, 512] _).toLoadRect = z1
    generalize hA : View.readCov (Val := Elt Ideal) (s := S256x3584) (e := .f32) _ _ (Rect.unit (s := S256x3584) ![0, 2560] ![256, 512] _).toLoadRect = A
    generalize hB : View.readCov (Val := Elt Ideal) (s := S256x3584) (e := .f32) _ _ (Rect.unit (s := S256x3584) ![0, 3072] ![256, 512] _).toLoadRect = B
    generalize hG : View.readCov (Val := Elt Ideal) (s := S256x3584) (e := .f32) _ _ (Rect.unit (s := S256x3584) ![0, 2048] ![256, 512] _).toLoadRect = G
    apply Eq.symm
    refine (conv_piece P _ (k0_pay137 A B) z2 z1 G x7 _ _ _ _ _ ?_ ?_ ?_ ?_ ?_ ?_ ?_ ?_ r k).symm
    rotate_left 3
    · intro r k
      subst hG
      refine cols_read x0 x2 x3 P s hx _ (by decide) (256 * _) rfl ?hb _ _ _ _ _ _ _ _ _ _ _ _ _ _ _ _ ?hL (by sl_kernel_rfl) _ _ (by decide) _ _ _
        (by first | rfl | exact (Nat.add_assoc _ _ _).symm)
      case hL => repeat' (first | exact trivial | refine ⟨fun z => proj_piece _ x2 x3 _ (by decide) (by decide) z, ?_⟩)
      try case hb => decide
    · exact fun k => rowOf_entry x7 k
    iterate 3 exact fun k => rowsOf_cut x6 _ _ k
    · intro r k
      refine convIn_own A B P _ (fun r k => ?_) (fun r k => ?_) r k
      all_goals
        subst hA hB
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
    all_goals
      subst hz2 hz1
      intro r k
      refine back_read _ _ _ _ _ P _ (fun r k => convIn_tile _ _ P _ ?_ ?_ r k) _ _ _ (by decide) (by decide) _ (fun i k => ?_) r k
      iterate 2
        intro r k
        refine cols_read x0 x2 x3 P s hx _ (by decide) (256 * _) rfl ?hb _ _ _ _ _ _ _ _ _ _ _ _ _ _ _ _ ?hL (by sl_kernel_rfl) _ _ (by decide) _ _ _
          (by first | rfl | exact (Nat.add_assoc _ _ _).symm)
        case hL => repeat' (first | exact trivial | refine ⟨fun z => proj_piece _ x2 x3 _ (by decide) (by decide) z, ?_⟩)
        try case hb => decide
      refine (congrFun (low_same _) _).trans ?_
      refine shift_read _ _ _ P _ (fun r k => convIn_tile _ _ P _ ?_ ?_ r k) _ _ i k
      iterate 2
        intro r k
        first
        | (
           refine cols_read x0 x2 x3 P s hx _ (by decide) (256 * _) rfl ?hb _ _ _ _ _ _ _ _ _ _ _ _ _ _ _ _ ?hL (by sl_kernel_rfl) _ _ (by decide) _ _ _
             (by first | rfl | exact (Nat.add_assoc _ _ _).symm)
           case hL => repeat' (first | exact trivial | refine ⟨fun z => proj_piece _ x2 x3 _ (by decide) (by decide) z, ?_⟩)
           try case hb => decide)
        | (
           refine cols_read x0 x2 x3 P s hx 0 (by decide) 0 rfl ?hb _ _ _ _ _ _ _ _ _ _ _ _ _ _ _ _ ?hL (by sl_kernel_rfl) _ _ (by decide) _ _ _
             (by first | rfl | exact (Nat.add_assoc _ _ _).symm)
           case hL => repeat' (first | exact trivial | refine ⟨fun z => proj_piece _ x2 x3 _ (by decide) (by decide) z, ?_⟩)
           try case hb => decide)

end First

end Cert.MixTile

end
-- ==== Proof.MixValue.lean ====
/- The recurrent kernel's result array after the run, as one function of its arguments. -/
module

public import proofs.«01_k».proof.Proof.MixStep
public import proofs.«01_k».proof.Proof.MixFirst
public import proofs.«01_k».proof.Proof.Gen.KernelIdeal.Value
public import Idealize.ShloMosaic.Lib.Claim
public import Idealize.ShloMosaic.Lib.Tactic.CleanTypes

@[expose] public section

set_option maxRecDepth 16384

noncomputable section

namespace Cert.MixTile

open Idealize.ShloMosaic Idealize.ShloMosaic.TcCoe Idealize.SL.Sem Cert.KernelIdeal Cert.KernelIdeal.Gen Cert.Mix

/-- The projected columns of token `t` of batch `b`, by position. -/
def projAt (X : Vec Ideal S2x8192x1024 .f32) (g : Vec Ideal S1024 .f32) (W : Vec Ideal S1024x3584 .bf16) (b : Fin 2) (t c : ℕ) : EReal :=
  if h : t < 8192 ∧ c < 3584 then projRow (fun j => X (ix3 b ⟨t, h.1⟩ j)) (fun j => g (ix1 j)) (fun j => W (ix2 j ⟨c, h.2⟩)) else 0

/-- Four heads' gains of 128 numbers, one after the other, by position. -/
def gainAt (N : Vec Ideal S4x128 .f32) (k : ℕ) : EReal :=
  if h : k < 512 then N (ix2 ⟨k / 128, by omega⟩ ⟨k % 128, Nat.mod_lt _ (by decide)⟩) else 0

/-- 512 numbers, by position. -/
def biasAt (B : Vec Ideal S512 .f32) (k : ℕ) : EReal := if h : k < 512 then B (ix1 ⟨k, h⟩) else 0

/-- The result as a function of the eight arguments: each token's mixed columns times the output weights, added to the token. -/
def result (X : Vec Ideal S2x8192x1024 .f32) (g : Vec Ideal S1024 .f32) (W : Vec Ideal S1024x3584 .bf16) (L : Vec Ideal S3x512 .f32)
    (N : Vec Ideal S4x128 .f32) (C : Vec Ideal S3x512 .f32) (B : Vec Ideal S512 .f32) (O : Vec Ideal S1024x1024 .bf16) :
    Vec Ideal S2x8192x1024 .f32 := fun i =>
  X i + ∑ j : Fin 1024, mixed (projAt X g W (i 0)) (lbOf L) (gainAt N) (rowsOf C) (biasAt B) (i 1).val j.val * O (ix2 j (i 2))

variable (m : (ℓ : Loc nD τ sig) → Buf (Elt Ideal) ℓ)

/-- Where each window's block lies, point by point. -/
theorem index_eq : ∀ t : Fin cfg0.N, win0_0.index t = ![t.val / 8, t.val % 8, 0] ∧ win0_1.index t = ![t.val / 8, min (t.val % 8 + 1) 7, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val / 8, t.val % 8, 0] :=
  (by decide +kernel : ∀ t : Fin grid0.N, _)

section Blocks

variable (c : Dev nD) (t : Fin cfg0.N)

/-- The lower bounds' block is the whole argument. -/
theorem block4 : (iblk m c 4 t : Vec Ideal S3x512 .f32) = m ((c.tc : Thread nD τ).loc main_arg3) := by
  obtain ⟨e0, e1, e2, e3, e4, e5, e6, e7, e8, e9⟩ := index_eq t
  funext y
  blk_ext [iblk, V, e4]

/-- The convolution weights' block is the whole argument. -/
theorem block6 : (iblk m c 6 t : Vec Ideal S3x512 .f32) = m ((c.tc : Thread nD τ).loc main_arg5) := by
  obtain ⟨e0, e1, e2, e3, e4, e5, e6, e7, e8, e9⟩ := index_eq t
  funext y
  blk_ext [iblk, V, e6]

/-- The output weights' block is the whole argument. -/
theorem block8 : (iblk m c 8 t : Vec Ideal S1024x1024 .bf16) = m ((c.tc : Thread nD τ).loc main_arg7) := by
  obtain ⟨e0, e1, e2, e3, e4, e5, e6, e7, e8, e9⟩ := index_eq t
  funext y
  blk_ext [iblk, V, e8]

/-- The heads' gains' block, by position. -/
theorem block5 : rowOf (iblk m c 5 t : Vec Ideal S1x512 .f32) = gainAt (m ((c.tc : Thread nD τ).loc main_arg4)) := by
  obtain ⟨e0, e1, e2, e3, e4, e5, e6, e7, e8, e9⟩ := index_eq t
  funext k
  unfold rowOf gainAt
  by_cases h : k < 512
  · rw [dif_pos h, dif_pos h]
    blk_ext! [iblk, V, e5]
  · rw [dif_neg h, dif_neg h]

/-- The convolution bias' block, by position. -/
theorem block7 : rowOf (iblk m c 7 t : Vec Ideal S1x512 .f32) = biasAt (m ((c.tc : Thread nD τ).loc main_arg6)) := by
  obtain ⟨e0, e1, e2, e3, e4, e5, e6, e7, e8, e9⟩ := index_eq t
  funext k
  unfold rowOf biasAt
  by_cases h : k < 512
  · rw [dif_pos h, dif_pos h]
    blk_ext! [iblk, V, e7]
  · rw [dif_neg h, dif_neg h]

/-- The batch of a grid point. -/
def batch : Fin 2 := ⟨t.val / 8, by have h : t.val < 16 := t.isLt; omega⟩

/-- The projections of the batch a grid point works on. -/
abbrev PA (b : Fin 2) : ℕ → ℕ → EReal :=
  projAt (m ((c.tc : Thread nD τ).loc main_arg0)) (m ((c.tc : Thread nD τ).loc main_arg1)) (m ((c.tc : Thread nD τ).loc main_arg2)) b

/-- A point's block of rows projects to the tokens from 1024 times the point's place in its batch. -/
theorem projects0 : Projects (iblk m c 0 t) (iblk m c 2 t) (iblk m c 3 t) (PA m c (batch t)) (t.val % 8) := by
  obtain ⟨e0, e1, e2, e3, e4, e5, e6, e7, e8, e9⟩ := index_eq t
  intro n k
  have h : 1024 * (t.val % 8) + n.val < 8192 ∧ k.val < 3584 := ⟨by omega, k.isLt⟩
  unfold PA projAt
  rw [dif_pos h]
  congr 1
  · funext j
    blk_ext [iblk, V, e0, batch]
  · funext j
    blk_ext! [iblk, V, e2]
  · funext j
    blk_ext [iblk, V, e3]

/-- The block read ahead projects to the next point's tokens. -/
theorem projects1 (hs : t.val % 8 < 7) : Projects (iblk m c 1 t) (iblk m c 2 t) (iblk m c 3 t) (PA m c (batch t)) (t.val % 8 + 1) := by
  obtain ⟨e0, e1, e2, e3, e4, e5, e6, e7, e8, e9⟩ := index_eq t
  rw [show min (t.val % 8 + 1) 7 = t.val % 8 + 1 by omega] at e1
  intro n k
  have h : 1024 * (t.val % 8 + 1) + n.val < 8192 ∧ k.val < 3584 := ⟨by omega, k.isLt⟩
  unfold PA projAt
  rw [dif_pos h]
  congr 1
  · funext j
    blk_ext [iblk, V, e1, batch]
  · funext j
    blk_ext! [iblk, V, e2]
  · funext j
    blk_ext [iblk, V, e3]

end Blocks

/-- What a grid point leaves: its block of the result, the next point's first tile of projections, the state after its last
    chunk, and the convolution's last eight inputs. -/
def Left (c : Dev nD) (t : Fin cfg0.N)
    (o : Vec Ideal S1x1024x1024 .f32 × Vec Ideal S256x3584 .f32 × Vec Ideal S4x128x128 .f32 × Vec Ideal S264x512 .f32) : Prop :=
  (∀ y, o.1 y = outBlk (PA m c (batch t)) (lbOf (m ((c.tc : Thread nD τ).loc main_arg3))) (gainAt (m ((c.tc : Thread nD τ).loc main_arg4)))
      (rowsOf (m ((c.tc : Thread nD τ).loc main_arg5))) (biasAt (m ((c.tc : Thread nD τ).loc main_arg6)))
      (iblk m c 0 t) (m ((c.tc : Thread nD τ).loc main_arg7)) (t.val % 8) y)
  ∧ (t.val % 8 < 7 → ∀ (r : Fin 256) (k : Fin 3584), o.2.1 (ix2 r k) = PA m c (batch t) (256 * (4 * (t.val % 8 + 1) + 0) + r.val) k.val)
  ∧ (∀ (h : Fin 4) (a d : Fin 128), o.2.2.1 (ix3 h a d)
      = state (PA m c (batch t)) (lbOf (m ((c.tc : Thread nD τ).loc main_arg3))) (8 * (4 * (t.val % 8) + 3 + 1)) (128 * h.val + a.val) (128 * h.val + d.val))
  ∧ (∀ (i : Fin 8) (k : Fin 512), o.2.2.2 (ix2 (front i) k) = convBack (PA m c (batch t)) (8 - i.val) (256 * (4 * (t.val % 8) + 3 + 1)) k.val)

/-- A batch's first point leaves what it should. -/
theorem left_first (c : Dev nD) (t : Fin cfg0.N) (h0 : t.val % 8 = 0) : Left m c t (outsAt0 m c t.val t.isLt) := by
  rw [outsAt0_A m c t h0 h0]
  have hx := projects0 m c t
  refine ⟨fun y => ?_, fun hs r k => ?_, fun h a d => ?_, fun i k => ?_⟩
  · dsimp only
    refine (first_out c _ _ _ _ _ _ _ _ _ _ _ _ _ _ _ _ _ _ _ _ _ _ _ _ _ _ _ _ _ _ _ _ _ _ _ _ _ _ _ _ (PA m c (batch t)) (t.val % 8) hx _ _ h0 y).trans ?_
    rw [block4, block5, block6, block7, block8]
  · dsimp only
    refine (first_pa c _ _ _ _ _ _ _ _ _ _ _ _ _ _ _ _ _ _ _ _ _ _ _ _ _ _ _ _ _ _ _ _ _ _ _ _ _ _ _ _ _ _ (ix2 r k)).trans ?_
    exact pj_block _ _ _ _ _ (projects1 m c t hs) 0 (by decide) 0 rfl _ r k
  · dsimp only
    refine (first_st c _ _ _ _ _ _ _ _ _ _ _ _ _ _ _ _ _ _ _ _ _ _ _ _ _ _ _ _ _ _ _ _ _ _ _ _ _ _ _ _ (PA m c (batch t)) (t.val % 8) hx _ _ h0 h a d).trans ?_
    rw [block4]
  · dsimp only
    exact first_zb c _ _ _ _ _ _ _ _ _ _ _ _ _ _ _ _ _ _ _ _ _ _ _ _ _ _ _ _ _ _ _ _ _ _ _ _ _ _ _ _ (PA m c (batch t)) (t.val % 8) hx _ _ i k

/-- A later point leaves what it should if the point before did. -/
theorem left_later (c : Dev nD) (t u : Fin cfg0.N) (h0 : ¬t.val % 8 = 0) (hu : t.val = u.val + 1) (hl : Left m c u (outsAt0 m c u.val u.isLt)) :
    Left m c t (outsAt0 m c t.val t.isLt) := by
  have eo : ∀ h, outsAt0 m c (t.val - 1) h = outsAt0 m c u.val u.isLt := by
    have e : t.val - 1 = u.val := by omega
    rw [e]
    exact fun _ => rfl
  have eb : batch u = batch t := Fin.ext (by show u.val / 8 = t.val / 8; omega)
  have es : u.val % 8 + 1 = t.val % 8 := by omega
  have es2 : 4 * (u.val % 8) + 3 + 1 = 4 * (t.val % 8) + 0 := by omega
  rw [outsAt0_B m c t h0 h0, eo]
  obtain ⟨-, lp, ls, lz⟩ := hl
  generalize outsAt0 m c u.val u.isLt = o at lp ls lz ⊢
  have hpa := lp (by omega)
  rw [eb, es] at hpa
  rw [eb, es2] at ls lz
  have hx := projects0 m c t
  rw [← block4 m c t] at ls
  refine ⟨fun y => ?_, fun hs r k => ?_, fun h a d => ?_, fun i k => ?_⟩
  · dsimp only
    refine (later_out c _ _ _ _ _ _ _ _ _ _ _ _ _ _ _ _ _ _ _ _ _ _ _ _ _ _ _ _ _ _ _ _ _ _ _ _ _ _ _ _ _ _ _ (PA m c (batch t)) (t.val % 8) hx _ _ hpa ls lz y).trans ?_
    rw [block4, block5, block6, block7, block8]
  · dsimp only
    refine (later_pa c _ _ _ _ _ _ _ _ _ _ _ _ _ _ _ _ _ _ _ _ _ _ _ _ _ _ _ _ _ _ _ _ _ _ _ _ _ _ _ _ _ _ _ _ _ (ix2 r k)).trans ?_
    exact pj_block _ _ _ _ _ (projects1 m c t hs) 0 (by decide) 0 rfl _ r k
  · dsimp only
    refine (later_st c _ _ _ _ _ _ _ _ _ _ _ _ _ _ _ _ _ _ _ _ _ _ _ _ _ _ _ _ _ _ _ _ _ _ _ _ _ _ _ _ _ _ _ (PA m c (batch t)) (t.val % 8) hx _ _ hpa ls h a d).trans ?_
    rw [block4]
  · dsimp only
    exact later_zb c _ _ _ _ _ _ _ _ _ _ _ _ _ _ _ _ _ _ _ _ _ _ _ _ _ _ _ _ _ _ _ _ _ _ _ _ _ _ _ _ _ _ _ (PA m c (batch t)) (t.val % 8) hx _ _ i k

/-- Every point leaves what it should. -/
theorem left_all (c : Dev nD) : ∀ (n : ℕ) (hn : n < cfg0.N), Left m c ⟨n, hn⟩ (outsAt0 m c n hn)
  | 0, hn => left_first m c ⟨0, hn⟩ rfl
  | n + 1, hn => by
    by_cases h : (n + 1) % 8 = 0
    · exact left_first m c ⟨n + 1, hn⟩ h
    · exact left_later m c ⟨n + 1, hn⟩ ⟨n, Nat.lt_of_succ_lt hn⟩ h rfl (left_all c n (Nat.lt_of_succ_lt hn))

/-- A block of the result is the block a grid point leaves. -/
theorem result_block (X : Vec Ideal S2x8192x1024 .f32) (g : Vec Ideal S1024 .f32) (W : Vec Ideal S1024x3584 .bf16) (L : Vec Ideal S3x512 .f32)
    (N : Vec Ideal S4x128 .f32) (C : Vec Ideal S3x512 .f32) (B : Vec Ideal S512 .f32) (O : Vec Ideal S1024x1024 .bf16)
    (b : Fin 2) (s : ℕ) (x0 : Vec Ideal S1x1024x1024 .f32) (y : S1x1024x1024.Idx) (i : S2x8192x1024.Idx) (h0 : i 0 = b)
    (h1 : (i 1).val = 1024 * s + (y 1).val) (h2 : i 2 = y 2) (hX : x0 (ix3 0 (y 1) (y 2)) = X i) :
    outBlk (projAt X g W b) (lbOf L) (gainAt N) (rowsOf C) (biasAt B) x0 O s y = result X g W L N C B O i := by
  unfold outBlk result
  rw [hX, h0, h1, h2]

/-- The kernel's result array after the run. -/
theorem kernel_array (c : Dev nD) : (dats m 0 c).arrAt 9 cfg0.N
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (dats m 0 c).arrAt_eq_of_covers 9 _ (by decide +kernel) fun t hf y => ?_
  obtain ⟨e0, e1, e2, e3, e4, e5, e6, e7, e8, e9⟩ := index_eq t
  blk_simp
  rw [after0_9]
  refine ((left_all m c t.val t.isLt).1 y).trans (result_block _ _ _ _ _ _ _ _ _ _ _ _ _ ?_ ?_ ?_ ?_)
  · apply Fin.ext; blk_simp [e9, batch]
  · blk_simp [e9]
    exact congrArg (· + _) (Nat.mul_comm _ _)
  · apply Fin.ext; blk_simp [e9]
  · blk_ext [iblk, V, e0, e9]

end Cert.MixTile

end
-- ==== Proof.MixRefA.lean ====
/- The reference's stretches of operations before its loop, entry by entry. -/
module

public import proofs.«01_k».proof.Proof.MixLink
public import proofs.«01_k».proof.Proof.RefRun

@[expose] public section

set_option maxRecDepth 16384

noncomputable section

namespace Cert.MixRef

open Idealize.ShloMosaic Idealize.ShloMosaic.StableHlo Idealize.SL.Sem Cert.ReferenceIdeal Cert.ReferenceIdeal.Gen Cert.ReferenceIdeal.Value Cert.Mix

local notation "Vals" => Valuation τ sig (Elt Idealize.ShloMosaic.Ideal)

/-- An array's entry. -/
abbrev val (s : Shape) (x : s.Idx → EReal) (i : s.Idx) : EReal := x i

section Window

/-- Adding a list's terms one after the other to a number is adding their sum. -/
theorem foldl_sum {α : Type} (g : α → EReal) : ∀ (l : List α) (v : EReal), l.foldl (fun r n => r + g n) v = v + (l.map g).sum
  | [], v => by simp
  | a :: l, v => by rw [List.foldl_cons, foldl_sum g l, List.map_cons, List.sum_cons, add_assoc]

/-- A window's sum: the initial value, and at each of the window's positions the operand's entry, or the initial value off the operand. -/
theorem window_add {s t u : Shape} (window strides lo hi : Fin s.rank → ℕ) (x : s.Idx → EReal) (init : u.Idx → EReal)
    (h : s.ReduceWindows window strides lo hi t) (hu : 0 < u.numel) (j : t.Idx) :
    Host.reduceWindowAdd (F := Ideal) (φ := .f32) window strides lo hi x init h hu j
      = init (Shape.Idx.first hu) + ∑ w : (⟨s.rank, window⟩ : Shape).Idx,
          if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else init (Shape.Idx.first hu) := by
  rw [← Equiv.sum_comp (⟨s.rank, window⟩ : Shape).rowMajor.symm, Fin.sum_univ_def]
  refine Eq.trans ?_ (foldl_sum _ _ _)
  change Host.reduceWindow (· + ·) window strides lo hi x (fun _ : (⟨0, ![]⟩ : Shape).Idx => init (Shape.Idx.first hu)) h (by decide) j = _
  unfold Host.reduceWindow
  dsimp only
  refine congrArg (fun f => List.foldl f _ _) (funext fun r => funext fun n => congrArg (r + ·) ?_)
  split <;> rfl

/-- The positions of a window of `n` rows of one column. -/
def rows3 : Fin 3 ≃ (⟨2, ![3, 1]⟩ : Shape).Idx where
  toFun n := ix2 n 0
  invFun w := w 0
  left_inv n := rfl
  right_inv w := by
    funext a
    match a with
    | ⟨0, _⟩ => rfl
    | ⟨1, _⟩ => exact Subsingleton.elim (α := Fin 1) _ _

/-- The positions of a window of 32 along the fourth of five axes. -/
def rows32 : Fin 32 ≃ (⟨5, ![1, 1, 1, 32, 1]⟩ : Shape).Idx where
  toFun n := ix5 0 0 0 n 0
  invFun w := w 3
  left_inv n := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- A sum over 32 window positions ending at `i` is the sum over the entries up to `i`. -/
theorem sum_upto (i : Fin 32) (G : Fin 32 → EReal) (F : Fin 32 → EReal)
    (h1 : ∀ (n : Fin 32) (h : 31 ≤ i.val + n.val), G n = F ⟨i.val + n.val - 31, by omega⟩) (h0 : ∀ n : Fin 32, i.val + n.val < 31 → G n = 0) :
    ∑ n, G n = ∑ j, if j.val ≤ i.val then F j else 0 := by
  refine Fintype.sum_equiv (Equiv.addRight (i + 1)) _ _ fun n => ?_
  have e : ((Equiv.addRight (i + 1)) n).val = (n.val + (i.val + 1) % 32) % 32 := by
    rw [Equiv.coe_addRight, Fin.val_add, Fin.val_add]; rfl
  by_cases h : 31 ≤ i.val + n.val
  · rw [h1 n h, if_pos (by omega)]
    exact congrArg F (Fin.ext (by show i.val + n.val - 31 = _; omega))
  · rw [h0 n (by omega), if_neg (by omega)]

end Window

variable (V : Vals)

/-- The lower bounds' softmax: its row 0 is the kernel's own. -/
theorem soft_row (k : Fin 512) : val S3x512 (after hostOps0 V (Proc.devRef .tc main_v10)) (ix2 0 k)
    = Cert.KernelIdeal.Gen.k0_pay382 (F := Ideal) (V (Proc.devRef .tc main_arg3)) (ix2 0 k) := by
  simp only [val]
  after_results_simp
  try simp only [TRef.toBuf, TRef.ofBuf, cast_eq, id_eq]
  pointwise [Cert.KernelIdeal.Gen.k0_pay382]
  rw [max_eq_right ((Finset.le_fold_max _).2 (Or.inl le_rfl)), Fin.sum_univ_one]

/-- The running sum of rows starts with row 0. -/
theorem lb_row (k : Fin 512) : val S3x512 (after hostOps0_1 V (Proc.devRef .tc main_v11)) (ix2 0 k)
    = val S3x512 (V (Proc.devRef .tc main_v10)) (ix2 0 k) := by
  simp only [val]
  after_results_simp
  try simp only [TRef.toBuf, TRef.ofBuf, cast_eq, id_eq]
  refine (window_add _ _ _ _ _ _ _ _ _).trans ?_
  pointwise
  rw [← rows3.sum_comp, Fin.sum_univ_three, dif_neg (fun e => absurd e.1 (by decide)), dif_neg (fun e => absurd e.1 (by decide)), dif_pos ⟨by decide, by decide⟩,
    zero_add, zero_add]
  refine congrArg (V (Proc.devRef .tc main_v10) : S3x512.Idx → EReal) (funext fun a => Fin.ext ?_)
  match a with
  | ⟨0, _⟩ => rfl
  | ⟨1, _⟩ => show k.val * 1 + 0 - 0 = k.val; omega

section Project

/-- The projections. -/
theorem proj_read (b : Fin 2) (t : Fin 8192) (c : Fin 3584) :
    val S2x8192x3584 (after hostOps0_2 V (Proc.devRef .tc main_v29)) (ix3 b t c)
      = Cert.MixTile.projRow (fun j => val S2x8192x1024 (V (Proc.devRef .tc main_arg0)) (ix3 b t j))
        (fun j => val S1024 (V (Proc.devRef .tc main_arg1)) (ix1 j))
        (fun j => val S1024x3584 (V (Proc.devRef .tc main_arg2)) (ix2 j c)) := by
  simp only [val]
  after_results_simp
  try simp only [TRef.toBuf, TRef.ofBuf, cast_eq, id_eq]
  pointwise [Cert.MixTile.projRow]

/-- The output weights, converted. -/
theorem wout_read (j k : Fin 1024) : val S1024x1024 (after hostOps0_2 V (Proc.devRef .tc main_v26)) (ix2 j k)
    = val S1024x1024 (V (Proc.devRef .tc main_arg7)) (ix2 j k) := by
  simp only [val]
  after_results_simp
  try simp only [TRef.toBuf, TRef.ofBuf, cast_eq, id_eq]
  pointwise

variable (P : Fin 2 → ℕ → ℕ → EReal) (lb : ℕ → EReal)
  (hP : ∀ (b : Fin 2) (t : Fin 8192) (c : Fin 3584), val S2x8192x3584 (after hostOps0_2 V (Proc.devRef .tc main_v29)) (ix3 b t c) = P b t.val c.val)

include hP

/-- The columns the gates, the convolution's gate and the convolution's two factors take. -/
theorem cut_read (b : Fin 2) (t : Fin 8192) (k : Fin 512) :
    val S2x8192x512 (after hostOps0_2 V (Proc.devRef .tc main_v33)) (ix3 b t k) = P b t.val (1536 + k.val)
    ∧ val S2x8192x512 (after hostOps0_2 V (Proc.devRef .tc main_v34)) (ix3 b t k) = P b t.val (2048 + k.val)
    ∧ val S2x8192x512 (after hostOps0_2 V (Proc.devRef .tc main_v35)) (ix3 b t k) = P b t.val (2560 + k.val)
    ∧ val S2x8192x512 (after hostOps0_2 V (Proc.devRef .tc main_v36)) (ix3 b t k) = P b t.val (3072 + k.val) := by
  simp only [val] at *
  revert hP
  after_results_simp
  try simp only [TRef.toBuf, TRef.ofBuf, cast_eq, id_eq]
  generalize (Host.dotGeneral dot_S2x8192x1024_S1024x3584_S2x8192x3584_2_0_01_1_n_n none (_ : FVec Ideal S2x8192x1024 .f32) (_ : FVec Ideal S1024x3584 .f32) : FVec Ideal S2x8192x3584 .f32) = D
  intro hP
  refine ⟨?_, ?_, ?_, ?_⟩ <;> pointwise <;> simp only [hP, Nat.add_comm]

/-- The queries and values by head, and the forget gates. -/
theorem head_read (hl : ∀ k : Fin 512, val S3x512 (V (Proc.devRef .tc main_v11)) (ix2 0 k) = lb k.val)
    (b : Fin 2) (t : Fin 8192) (h : Fin 4) (d : Fin 128) :
    val S2x8192x4x128 (after hostOps0_2 V (Proc.devRef .tc main_v37)) (ix4 b t h d) = P b t.val (128 * h.val + d.val)
    ∧ val S2x8192x4x128 (after hostOps0_2 V (Proc.devRef .tc main_v39)) (ix4 b t h d) = P b t.val (1024 + (128 * h.val + d.val))
    ∧ val S2x8192x4x128 (after hostOps0_2 V (Proc.devRef .tc main_v54)) (ix4 b t h d) = gate (P b) lb t.val (128 * h.val + d.val) := by
  simp only [val] at *
  revert hP
  after_results_simp
  try simp only [TRef.toBuf, TRef.ofBuf, cast_eq, id_eq]
  generalize (Host.dotGeneral dot_S2x8192x1024_S1024x3584_S2x8192x3584_2_0_01_1_n_n none (_ : FVec Ideal S2x8192x1024 .f32) (_ : FVec Ideal S1024x3584 .f32) : FVec Ideal S2x8192x3584 .f32) = D
  intro hP
  refine ⟨?_, ?_, ?_⟩ <;> pointwise [gate, Ideal.logistic] <;> simp only [hP, hl, Nat.add_comm, Nat.mul_comm]

end Project

/-- A query times its logistic. -/
theorem silu_read (b : Fin 2) (t : Fin 8192) (h : Fin 4) (d : Fin 128) :
    val S2x8192x4x128 (after hostOps0_3 V (Proc.devRef .tc main_v55)) (ix4 b t h d)
      = val S2x8192x4x128 (V (Proc.devRef .tc main_v37)) (ix4 b t h d)
        * Ideal.logistic (val S2x8192x4x128 (V (Proc.devRef .tc main_v37)) (ix4 b t h d)) := by
  simp only [val]
  after_results_simp
  try simp only [TRef.toBuf, TRef.ofBuf, cast_eq, id_eq]
  pointwise [Ideal.logistic]

/-- Token `i` of chunk `c`. -/
abbrev tok (c : Fin 256) (i : Fin 32) : Fin 8192 := ⟨32 * c.val + i.val, by omega⟩

/-- Queries, keys, values and the gates' logarithms by chunk. -/
theorem chunk_read (b : Fin 2) (h : Fin 4) (c : Fin 256) (i : Fin 32) (d : Fin 128) :
    val S2x4x256x32x128 (after hostOps0_4 V (Proc.devRef .tc main_v57)) (ix5 b h c i d)
        = val S2x8192x4x128 (V (Proc.devRef .tc main_v55)) (ix4 b (tok c i) h d)
    ∧ val S2x4x256x32x128 (after hostOps0_4 V (Proc.devRef .tc main_v61)) (ix5 b h c i d)
        = 1 - val S2x8192x4x128 (V (Proc.devRef .tc main_v54)) (ix4 b (tok c i) h d)
    ∧ val S2x4x256x32x128 (after hostOps0_4 V (Proc.devRef .tc main_v63)) (ix5 b h c i d)
        = val S2x8192x4x128 (V (Proc.devRef .tc main_v39)) (ix4 b (tok c i) h d)
    ∧ val S2x4x256x32x128 (after hostOps0_4 V (Proc.devRef .tc main_v66)) (ix5 b h c i d)
        = Ideal.log (val S2x8192x4x128 (V (Proc.devRef .tc main_v54)) (ix4 b (tok c i) h d)) := by
  have e : (⟨c.val * 32 + i.val, by omega⟩ : Fin 8192) = tok c i := Fin.ext (by show c.val * 32 + i.val = 32 * c.val + i.val; omega)
  simp only [val]
  after_results_simp
  try simp only [TRef.toBuf, TRef.ofBuf, cast_eq, id_eq]
  refine ⟨?_, ?_, ?_, ?_⟩ <;> pointwise <;> rw [e]

/-- The running sums over a chunk. -/
theorem cum_read (b : Fin 2) (h : Fin 4) (c : Fin 256) (i : Fin 32) (d : Fin 128) :
    val S2x4x256x32x128 (after hostOps0_5 V (Proc.devRef .tc main_v67)) (ix5 b h c i d)
      = ∑ j : Fin 32, if j.val ≤ i.val then val S2x4x256x32x128 (V (Proc.devRef .tc main_v66)) (ix5 b h c j d) else 0 := by
  simp only [val]
  after_results_simp
  try simp only [TRef.toBuf, TRef.ofBuf, cast_eq, id_eq]
  refine (window_add _ _ _ _ _ _ _ _ _).trans ?_
  pointwise
  rw [← rows32.sum_comp]
  refine sum_upto i _ (fun j => (V (Proc.devRef .tc main_v66) : S2x4x256x32x128.Idx → EReal) (ix5 b h c j d)) (fun n hn => ?_) fun n hn => ?_
  · refine (dif_pos ?_).trans (congrArg (V (Proc.devRef .tc main_v66) : S2x4x256x32x128.Idx → EReal) (funext fun a => Fin.ext ?_))
    · have e : (rows32 n 3).val = n.val := rfl
      rw [e]; omega
    match a with
    | ⟨0, _⟩ => show b.val * 1 + 0 - 0 = b.val; omega
    | ⟨1, _⟩ => show h.val * 1 + 0 - 0 = h.val; omega
    | ⟨2, _⟩ => show c.val * 1 + 0 - 0 = c.val; omega
    | ⟨3, _⟩ => show i.val * 1 + n.val - 31 = i.val + n.val - 31; omega
    | ⟨4, _⟩ => show d.val * 1 + 0 - 0 = d.val; omega
  · refine dif_neg fun e => ?_
    have e' : (rows32 n 3).val = n.val := rfl
    rw [e'] at e; omega

/-- The sums at a chunk's end, and the decayed queries and keys. -/
theorem decay_read (b : Fin 2) (h : Fin 4) (c : Fin 256) (i : Fin 32) (d : Fin 128) :
    val S2x4x256x1x128 (after hostOps0_6 V (Proc.devRef .tc main_v68)) (ix5 b h c 0 d)
        = val S2x4x256x32x128 (V (Proc.devRef .tc main_v67)) (ix5 b h c 31 d)
    ∧ val S2x4x256x32x128 (after hostOps0_6 V (Proc.devRef .tc main_v70)) (ix5 b h c i d)
        = val S2x4x256x32x128 (V (Proc.devRef .tc main_v57)) (ix5 b h c i d)
          * Ideal.exp (val S2x4x256x32x128 (V (Proc.devRef .tc main_v67)) (ix5 b h c i d))
    ∧ val S2x4x256x32x128 (after hostOps0_6 V (Proc.devRef .tc main_v73)) (ix5 b h c i d)
        = val S2x4x256x32x128 (V (Proc.devRef .tc main_v61)) (ix5 b h c i d)
          * Ideal.exp (0 - val S2x4x256x32x128 (V (Proc.devRef .tc main_v67)) (ix5 b h c i d)) := by
  simp only [val]
  after_results_simp
  try simp only [TRef.toBuf, TRef.ofBuf, cast_eq, id_eq]
  refine ⟨?_, ?_, ?_⟩ <;> pointwise
  rw [zero_sub]

/-- Where a token may see another of its chunk. -/
theorem mask_read (i j : Fin 32) : (after hostOps0_7 (after hostOps0_6 V) (Proc.devRef .tc main_v75) : S32x32.Idx → BitVec 1) (ix2 i j)
    = if j.val ≤ i.val then 1#1 else 0#1 := by
  after_results_simp
  try simp only [TRef.toBuf, TRef.ofBuf, cast_eq, id_eq]
  pointwise
  revert i j
  decide +kernel

/-- The attention, none to later tokens. -/
theorem attn_read (b : Fin 2) (h : Fin 4) (c : Fin 256) (i j : Fin 32)
   (hm : (V (Proc.devRef .tc main_v75) : S32x32.Idx → BitVec 1) (ix2 i j) = if j.val ≤ i.val then 1#1 else 0#1) :
    val S2x4x256x32x32 (after hostOps0_9 (after hostOps0_8 V) (Proc.devRef .tc main_v77)) (ix5 b h c i j)
      = if j.val ≤ i.val then ∑ d : Fin 128, val S2x4x256x32x128 (V (Proc.devRef .tc main_v70)) (ix5 b h c i d)
          * val S2x4x256x32x128 (V (Proc.devRef .tc main_v73)) (ix5 b h c j d) else 0 := by
  simp only [val]
  after_results_simp
  try simp only [TRef.toBuf, TRef.ofBuf, cast_eq, id_eq]
  pointwise
  rw [hm]
  split <;> rfl

/-- The chunk's decay, the chunk's own part of the state, and the attended values, from the queries, keys, values and sums. -/
theorem end_read (b : Fin 2) (h : Fin 4) (c : Fin 256) (i : Fin 32) (d v : Fin 128) :
    val S2x4x256x32x128 (after hostOps0_10 V (Proc.devRef .tc main_v78)) (ix5 b h c i v)
        = ∑ j : Fin 32, val S2x4x256x32x32 (V (Proc.devRef .tc main_v77)) (ix5 b h c i j)
          * val S2x4x256x32x128 (V (Proc.devRef .tc main_v63)) (ix5 b h c j v)
    ∧ val S256x2x4x128 (after hostOps0_10 V (Proc.devRef .tc main_v90_0)) (ix4 c b h d)
        = Ideal.exp (val S2x4x256x1x128 (V (Proc.devRef .tc main_v68)) (ix5 b h c 0 d))
    ∧ val S256x2x4x128x128 (after hostOps0_10 V (Proc.devRef .tc main_v90_1)) (ix5 c b h d v)
        = ∑ j : Fin 32, val S2x4x256x32x128 (V (Proc.devRef .tc main_v61)) (ix5 b h c j d)
          * Ideal.exp (val S2x4x256x1x128 (V (Proc.devRef .tc main_v68)) (ix5 b h c 0 d)
            - val S2x4x256x32x128 (V (Proc.devRef .tc main_v67)) (ix5 b h c j d))
          * val S2x4x256x32x128 (V (Proc.devRef .tc main_v63)) (ix5 b h c j v)
    ∧ val S2x4x128x128 (after hostOps0_10 V (Proc.devRef .tc main_v90_3)) (ix4 b h d v) = 0 := by
  simp only [val]
  after_results_simp
  try simp only [TRef.toBuf, TRef.ofBuf, cast_eq, id_eq]
  refine ⟨?_, ?_, ?_, ?_⟩ <;> pointwise

end Cert.MixRef

end
-- ==== Proof.MixRefB.lean ====
/- What the reference's buffers hold when its loop starts, in terms of the recurrence. -/
module

public import proofs.«01_k».proof.Proof.MixRefA
public import proofs.«01_k».proof.Proof.MixValue

@[expose] public section

set_option maxRecDepth 16384

noncomputable section

namespace Cert.MixRef

open Idealize.ShloMosaic Idealize.ShloMosaic.StableHlo Idealize.SL.Sem Cert.ReferenceIdeal Cert.ReferenceIdeal.Gen Cert.ReferenceIdeal.Value Cert.Mix

local notation "Vals" => Valuation τ sig (Elt Idealize.ShloMosaic.Ideal)

/-- The buffers after the softmax and its running sum. -/
abbrev X2 (V : Vals) : Vals := after hostOps0_1 (after hostOps0 V)
/-- The buffers after the projections and the gates. -/
abbrev X3 (V : Vals) : Vals := after hostOps0_2 (X2 V)
/-- The buffers after the queries' activation and the cut into chunks. -/
abbrev X5 (V : Vals) : Vals := after hostOps0_4 (after hostOps0_3 (X3 V))
/-- The buffers after the running sums. -/
abbrev X6 (V : Vals) : Vals := after hostOps0_5 (X5 V)
/-- The buffers after the decayed queries and keys, and the mask. -/
abbrev X8 (V : Vals) : Vals := after hostOps0_7 (after hostOps0_6 (X6 V))
/-- The buffers after the attention. -/
abbrev X10 (V : Vals) : Vals := after hostOps0_9 (after hostOps0_8 (X8 V))

/-- The operations before the loop, the last stretch apart. -/
theorem pre_eq (V : Vals) : afterL preI V = after hostOps0_10 (X10 V) := by simp only [preI, afterL_cons, afterL_nil]

variable (V : Vals)

/-- The projections of batch `b`, from the arguments. -/
abbrev PR (b : Fin 2) : ℕ → ℕ → EReal :=
  Cert.MixTile.projAt (V (Proc.devRef .tc main_arg0)) (V (Proc.devRef .tc main_arg1)) (V (Proc.devRef .tc main_arg2)) b

/-- The lower bounds, from the argument. -/
abbrev LB : ℕ → EReal := Cert.MixTile.lbOf (V (Proc.devRef .tc main_arg3))

/-- The first two stretches leave the arguments. -/
theorem X2_keep (r : Ref sig .tc) (h : r ∈ Cert.RefRun.args) : X2 V (Proc.devRef .tc r) = V (Proc.devRef .tc r) := by
  fin_cases h <;>
    rw [X2, after_of_writes_sub _ _ hostOps0_1_writes (by decide +kernel), after_of_writes_sub _ _ hostOps0_writes (by decide +kernel)]

/-- The projected columns. -/
theorem X3_proj (b : Fin 2) (t : Fin 8192) (c : Fin 3584) : val S2x8192x3584 (X3 V (Proc.devRef .tc main_v29)) (ix3 b t c) = PR V b t.val c.val := by
  refine (proj_read (X2 V) b t c).trans ?_
  rw [X2_keep V main_arg0 (by decide), X2_keep V main_arg1 (by decide), X2_keep V main_arg2 (by decide)]
  unfold PR Cert.MixTile.projAt
  rw [dif_pos ⟨t.isLt, c.isLt⟩]

/-- The gate's lower bounds. -/
theorem X2_lb (k : Fin 512) : val S3x512 (X2 V (Proc.devRef .tc main_v11)) (ix2 0 k) = LB V k.val := by
  refine (lb_row _ k).trans ((soft_row V k).trans ?_)
  unfold LB Cert.MixTile.lbOf
  rw [dif_pos k.isLt]

/-- Queries, keys, values and the gate's logarithms, by head and chunk. -/
theorem X5_read (b : Fin 2) (h : Fin 4) (c : Fin 256) (i : Fin 32) (d : Fin 128) :
    val S2x4x256x32x128 (X5 V (Proc.devRef .tc main_v57)) (ix5 b h c i d)
        = PR V b (tok c i).val (128 * h.val + d.val) * Ideal.logistic (PR V b (tok c i).val (128 * h.val + d.val))
    ∧ val S2x4x256x32x128 (X5 V (Proc.devRef .tc main_v61)) (ix5 b h c i d) = 1 - gate (PR V b) (LB V) (tok c i).val (128 * h.val + d.val)
    ∧ val S2x4x256x32x128 (X5 V (Proc.devRef .tc main_v63)) (ix5 b h c i d) = PR V b (tok c i).val (1024 + (128 * h.val + d.val))
    ∧ val S2x4x256x32x128 (X5 V (Proc.devRef .tc main_v66)) (ix5 b h c i d)
        = Ideal.log (gate (PR V b) (LB V) (tok c i).val (128 * h.val + d.val)) := by
  obtain ⟨c57, c61, c63, c66⟩ := chunk_read (after hostOps0_3 (X3 V)) b h c i d
  obtain ⟨h37, h39, h54⟩ := head_read (X2 V) (PR V) (LB V) (X3_proj V) (X2_lb V) b (tok c i) h d
  have hs := silu_read (X3 V) b (tok c i) h d
  refine ⟨c57.trans ?_, c61.trans ?_, c63.trans ?_, c66.trans ?_⟩
  · rw [hs, h37]
  · rw [after_of_writes_sub _ _ hostOps0_3_writes (by decide +kernel), h54]
  · rw [after_of_writes_sub _ _ hostOps0_3_writes (by decide +kernel), h39]
  · rw [after_of_writes_sub _ _ hostOps0_3_writes (by decide +kernel), h54]

/-- The running sums of the gate's logarithms. -/
theorem X6_cum (b : Fin 2) (h : Fin 4) (c : Fin 256) (i : Fin 32) (d : Fin 128) :
    val S2x4x256x32x128 (X6 V (Proc.devRef .tc main_v67)) (ix5 b h c i d) = cum (PR V b) (LB V) (tok c i).val (128 * h.val + d.val) := by
  refine (cum_read (X5 V) b h c i d).trans ?_
  unfold cum
  have e1 : (tok c i).val % 32 = i.val := by show (32 * c.val + i.val) % 32 = _; omega
  have e2 : (tok c i).val / 32 = c.val := by show (32 * c.val + i.val) / 32 = _; omega
  rw [e1, e2]
  refine Finset.sum_congr rfl fun j _ => ?_
  rw [(X5_read V b h c j d).2.2.2]

/-- The values and keys by chunk stay while the decays and the attention are computed. -/
theorem X10_keep (r : Ref sig .tc) (h : r ∈ [main_v61, main_v63]) : X10 V (Proc.devRef .tc r) = X5 V (Proc.devRef .tc r) := by
  fin_cases h <;>
    rw [X10, X8, X6, after_of_writes_sub _ _ hostOps0_9_writes (by decide +kernel), after_of_writes_sub _ _ hostOps0_8_writes (by decide +kernel),
      after_of_writes_sub _ _ hostOps0_7_writes (by decide +kernel), after_of_writes_sub _ _ hostOps0_6_writes (by decide +kernel),
      after_of_writes_sub _ _ hostOps0_5_writes (by decide +kernel)]

/-- The later stretches keep the running sums. -/
theorem X10_cum : X10 V (Proc.devRef .tc main_v67) = X6 V (Proc.devRef .tc main_v67) := by
  rw [X10, X8, after_of_writes_sub _ _ hostOps0_9_writes (by decide +kernel), after_of_writes_sub _ _ hostOps0_8_writes (by decide +kernel),
    after_of_writes_sub _ _ hostOps0_7_writes (by decide +kernel), after_of_writes_sub _ _ hostOps0_6_writes (by decide +kernel)]

/-- The later stretches keep the sums at the chunks' ends and the decayed queries. -/
theorem X10_keep6 (r : Ref sig .tc) (h : r ∈ [main_v68, main_v70]) : X10 V (Proc.devRef .tc r) = after hostOps0_6 (X6 V) (Proc.devRef .tc r) := by
  fin_cases h <;>
    rw [X10, X8, after_of_writes_sub _ _ hostOps0_9_writes (by decide +kernel), after_of_writes_sub _ _ hostOps0_8_writes (by decide +kernel),
      after_of_writes_sub _ _ hostOps0_7_writes (by decide +kernel)]

/-- The running sums' stretch keeps the queries and keys. -/
theorem X6_keep (r : Ref sig .tc) (h : r ∈ [main_v57, main_v61]) : X6 V (Proc.devRef .tc r) = X5 V (Proc.devRef .tc r) := by
  fin_cases h <;> rw [X6, after_of_writes_sub _ _ hostOps0_5_writes (by decide +kernel)]

/-- The sums at the chunks' ends, the decayed queries and the keys without their decay. -/
theorem decayed (b : Fin 2) (h : Fin 4) (c : Fin 256) (i : Fin 32) (d : Fin 128) :
    val S2x4x256x1x128 (after hostOps0_6 (X6 V) (Proc.devRef .tc main_v68)) (ix5 b h c 0 d) = last (PR V b) (LB V) c.val (128 * h.val + d.val)
    ∧ val S2x4x256x32x128 (after hostOps0_6 (X6 V) (Proc.devRef .tc main_v70)) (ix5 b h c i d) = qdec (PR V b) (LB V) (tok c i).val (128 * h.val + d.val)
    ∧ val S2x4x256x32x128 (after hostOps0_6 (X6 V) (Proc.devRef .tc main_v73)) (ix5 b h c i d) = kdec (PR V b) (LB V) (tok c i).val (128 * h.val + d.val) := by
  obtain ⟨r68, r70, r73⟩ := decay_read (X6 V) b h c i d
  obtain ⟨c57, c61, -, -⟩ := X5_read V b h c i d
  refine ⟨r68.trans (X6_cum V b h c 31 d), r70.trans ?_, r73.trans ?_⟩
  · rw [X6_keep V main_v57 (by decide), c57, X6_cum]; rfl
  · rw [X6_keep V main_v61 (by decide), c61, X6_cum]; rfl

/-- The attention inside a chunk. -/
theorem attended (b : Fin 2) (h : Fin 4) (c : Fin 256) (i j : Fin 32) :
    val S2x4x256x32x32 (X10 V (Proc.devRef .tc main_v77)) (ix5 b h c i j) = attn (PR V b) (LB V) (128 * h.val) (tok c i).val j.val := by
  refine (attn_read (X8 V) b h c i j (mask_read (X6 V) i j)).trans ?_
  have e1 : (tok c i).val % 32 = i.val := by show (32 * c.val + i.val) % 32 = _; omega
  have e2 : (tok c i).val / 32 = c.val := by show (32 * c.val + i.val) / 32 = _; omega
  unfold attn
  rw [e1, e2, X8, after_of_writes_sub _ _ hostOps0_7_writes (by decide +kernel), after_of_writes_sub _ _ hostOps0_7_writes (by decide +kernel)]
  refine if_congr Iff.rfl (Finset.sum_congr rfl fun d _ => ?_) rfl
  rw [(decayed V b h c i d).2.1, (decayed V b h c j d).2.2]

/-- What the loop starts from: each chunk's decay and its own part of the state, and the state zero; and the attended values. -/
theorem entry_read (b : Fin 2) (h : Fin 4) (c : Fin 256) (i : Fin 32) (d v : Fin 128) :
    val S2x4x256x32x128 (afterL preI V (Proc.devRef .tc main_v78)) (ix5 b h c i v)
        = ∑ j : Fin 32, attn (PR V b) (LB V) (128 * h.val) (tok c i).val j.val * PR V b (tok c j).val (1024 + (128 * h.val + v.val))
    ∧ val S2x4x256x32x128 (afterL preI V (Proc.devRef .tc main_v70)) (ix5 b h c i d) = qdec (PR V b) (LB V) (tok c i).val (128 * h.val + d.val)
    ∧ val S256x2x4x128 (afterL preI V (Proc.devRef .tc main_v90_0)) (ix4 c b h d) = Ideal.exp (last (PR V b) (LB V) c.val (128 * h.val + d.val))
    ∧ val S256x2x4x128x128 (afterL preI V (Proc.devRef .tc main_v90_1)) (ix5 c b h d v)
        = ∑ j : Fin 32, kend (PR V b) (LB V) (tok c j).val (128 * h.val + d.val) * PR V b (tok c j).val (1024 + (128 * h.val + v.val))
    ∧ val S2x4x128x128 (afterL preI V (Proc.devRef .tc main_v90_3)) (ix4 b h d v) = 0 := by
  rw [pre_eq]
  obtain ⟨r78, r0, r1, r3⟩ := end_read (X10 V) b h c i d v
  refine ⟨r78.trans ?_, ?_, r0.trans ?_, r1.trans ?_, r3⟩
  · refine Finset.sum_congr rfl fun j _ => ?_
    rw [attended, X10_keep V main_v63 (by decide), (X5_read V b h c j v).2.2.1]
  · rw [after_of_writes_sub _ _ hostOps0_10_writes (by decide +kernel), X10_keep6 V main_v70 (by decide), (decayed V b h c i d).2.1]
  · rw [X10_keep6 V main_v68 (by decide), (decayed V b h c i d).1]
  · refine Finset.sum_congr rfl fun j _ => ?_
    rw [X10_keep V main_v63 (by decide), X10_keep V main_v61 (by decide), X10_keep6 V main_v68 (by decide), X10_cum, (decayed V b h c i d).1, X6_cum,
      (X5_read V b h c j v).2.2.1, (X5_read V b h c j d).2.1]
    have e2 : (tok c j).val / 32 = c.val := by show (32 * c.val + j.val) / 32 = _; omega
    unfold kend
    rw [e2]

/-- The columns kept for after the loop. -/
theorem entry_cut (b : Fin 2) (t : Fin 8192) (k : Fin 512) :
    val S2x8192x512 (afterL preI V (Proc.devRef .tc main_v33)) (ix3 b t k) = PR V b t.val (1536 + k.val)
    ∧ val S2x8192x512 (afterL preI V (Proc.devRef .tc main_v34)) (ix3 b t k) = PR V b t.val (2048 + k.val)
    ∧ val S2x8192x512 (afterL preI V (Proc.devRef .tc main_v35)) (ix3 b t k) = PR V b t.val (2560 + k.val)
    ∧ val S2x8192x512 (afterL preI V (Proc.devRef .tc main_v36)) (ix3 b t k) = PR V b t.val (3072 + k.val) := by
  have keep : ∀ r ∈ [main_v33, main_v34, main_v35, main_v36], afterL preI V (Proc.devRef .tc r) = X3 V (Proc.devRef .tc r) := by
    intro r h
    rw [pre_eq]
    fin_cases h <;>
      rw [after_of_writes_sub _ _ hostOps0_10_writes (by decide +kernel), X10, X8, X6, X5, after_of_writes_sub _ _ hostOps0_9_writes (by decide +kernel),
        after_of_writes_sub _ _ hostOps0_8_writes (by decide +kernel), after_of_writes_sub _ _ hostOps0_7_writes (by decide +kernel),
        after_of_writes_sub _ _ hostOps0_6_writes (by decide +kernel), after_of_writes_sub _ _ hostOps0_5_writes (by decide +kernel),
        after_of_writes_sub _ _ hostOps0_4_writes (by decide +kernel), after_of_writes_sub _ _ hostOps0_3_writes (by decide +kernel)]
  have r := cut_read (X2 V) (PR V) (X3_proj V) b t k
  rw [keep main_v33 (by decide), keep main_v34 (by decide), keep main_v35 (by decide), keep main_v36 (by decide)]
  exact r

/-- The output weights kept for after the loop. -/
theorem entry_wout (j k : Fin 1024) : val S1024x1024 (afterL preI V (Proc.devRef .tc main_v26)) (ix2 j k)
    = val S1024x1024 (V (Proc.devRef .tc main_arg7)) (ix2 j k) := by
  rw [pre_eq, after_of_writes_sub _ _ hostOps0_10_writes (by decide +kernel), X10, X8, X6, X5, after_of_writes_sub _ _ hostOps0_9_writes (by decide +kernel),
    after_of_writes_sub _ _ hostOps0_8_writes (by decide +kernel), after_of_writes_sub _ _ hostOps0_7_writes (by decide +kernel),
    after_of_writes_sub _ _ hostOps0_6_writes (by decide +kernel), after_of_writes_sub _ _ hostOps0_5_writes (by decide +kernel),
    after_of_writes_sub _ _ hostOps0_4_writes (by decide +kernel), after_of_writes_sub _ _ hostOps0_3_writes (by decide +kernel)]
  refine (wout_read (X2 V) j k).trans ?_
  rw [X2_keep V main_arg7 (by decide)]

end Cert.MixRef

end
-- ==== Proof.MixRefC.lean ====
/- The reference's loop, trip by trip. -/
module

public import proofs.«01_k».proof.Proof.MixRefB
public import Idealize.ShloMosaic.Lib.DynamicIndex

@[expose] public section

set_option maxRecDepth 16384

noncomputable section

namespace Cert.MixRef

open Idealize.ShloMosaic Idealize.ShloMosaic.StableHlo Idealize.SL.Sem Cert.ReferenceIdeal Cert.ReferenceIdeal.Gen Cert.ReferenceIdeal.Value Cert.Mix

local notation "Vals" => Valuation τ sig (Elt Idealize.ShloMosaic.Ideal)

section Trip

/-- One state written over row `k` of 256. -/
theorem store_state (x : S256x2x4x128x128.Idx → EReal) (u : S1x2x4x128x128.Idx → EReal) (start : Fin 5 → Int)
    (hf : S256x2x4x128x128.Slices (fun _ => 0) S1x2x4x128x128) (k : Fin 256)
    (hs : ∀ a, start a = ((![k.val, 0, 0, 0, 0] : Fin 5 → ℕ) a : Int)) (j : Fin 256) (b : Fin 2) (h : Fin 4) (d v : Fin 128) :
    Host.dynamicUpdateSlice (s := S256x2x4x128x128) x u start hf (ix5 j b h d v) = if j = k then u (ix5 0 b h d v) else x (ix5 j b h d v) := by
  have hk := k.isLt
  rw [Host.dynamicUpdateSlice_eq_updateSlice x u start hf ![k.val, 0, 0, 0, 0] (fun a => by
    rw [hs]
    match a with
    | ⟨0, _⟩ => show (min (max (k.val : Int) 0) ((256 - 1 : ℕ) : Int)).toNat = k.val; omega
    | ⟨1, _⟩ => rfl
    | ⟨2, _⟩ => rfl
    | ⟨3, _⟩ => rfl
    | ⟨4, _⟩ => rfl) ⟨rfl, fun a => by
    match a with
    | ⟨0, _⟩ => show k.val + 1 ≤ 256; omega
    | ⟨1, _⟩ => show 0 + 2 ≤ 2; omega
    | ⟨2, _⟩ => show 0 + 4 ≤ 4; omega
    | ⟨3, _⟩ => show 0 + 128 ≤ 128; omega
    | ⟨4, _⟩ => show 0 + 128 ≤ 128; omega⟩]
  unfold updateSlice
  by_cases e : j = k
  · subst e
    rw [if_pos rfl]
    refine (dif_pos fun a => ?_).trans (congrArg u (funext fun a => Fin.ext ?_))
    · match a with
      | ⟨0, _⟩ => show j.val ≤ j.val ∧ j.val < j.val + 1; omega
      | ⟨1, _⟩ => show 0 ≤ b.val ∧ b.val < 0 + 2; omega
      | ⟨2, _⟩ => show 0 ≤ h.val ∧ h.val < 0 + 4; omega
      | ⟨3, _⟩ => show 0 ≤ d.val ∧ d.val < 0 + 128; omega
      | ⟨4, _⟩ => show 0 ≤ v.val ∧ v.val < 0 + 128; omega
    · match a with
      | ⟨0, _⟩ => show j.val - j.val = 0; omega
      | ⟨1, _⟩ => rfl
      | ⟨2, _⟩ => rfl
      | ⟨3, _⟩ => rfl
      | ⟨4, _⟩ => rfl
  · rw [if_neg e]
    refine dif_neg fun hin => e (Fin.ext ?_)
    have h0 := hin (0 : Fin 5)
    change k.val ≤ j.val ∧ j.val < k.val + 1 at h0
    omega

variable (V : Vals) (k : Fin 256) (hk : V (Proc.devRef .tc main_v90_2) = fun _ => BitVec.ofNat 32 k.val)

include hk in
/-- A trip's new state: the chunk's decay times the state, and the chunk's own part. -/
theorem trip_state (b : Fin 2) (h : Fin 4) (d v : Fin 128) :
    val S2x4x128x128 (afterL bodyI V (Proc.devRef .tc main_v90_3)) (ix4 b h d v)
      = val S256x2x4x128 (V (Proc.devRef .tc main_v90_0)) (ix4 k b h d) * val S2x4x128x128 (V (Proc.devRef .tc main_v90_3)) (ix4 b h d v)
        + val S256x2x4x128x128 (V (Proc.devRef .tc main_v90_1)) (ix5 k b h d v) := by
  have kt : (BitVec.ofNat 32 k.val).toInt = k.val := toInt_ofNat_of_lt (by omega)
  simp only [val]
  rw [trip_main_v90_3]
  simp only [id_eq]
  pointwise
  have e0 : (min (max (BitVec.toInt ((V (Proc.devRef .tc main_v90_2) : S_.Idx → BitVec 32) (Shape.Idx.first h_S_))) 0) ((256 - 1 : ℕ) : Int)).toNat = k.val := by
    rw [show (V (Proc.devRef .tc main_v90_2) : S_.Idx → BitVec 32) = _ from hk, kt]
    omega
  refine congrArg₂ (· + ·) (congrArg (· * _) (congrArg (V (Proc.devRef .tc main_v90_0) : S256x2x4x128.Idx → EReal) (funext fun a => Fin.ext ?_)))
    (congrArg (V (Proc.devRef .tc main_v90_1) : S256x2x4x128x128.Idx → EReal) (funext fun a => Fin.ext ?_))
  · match a with
    | ⟨0, _⟩ => exact e0
    | ⟨1, _⟩ => exact Nat.zero_add _
    | ⟨2, _⟩ => exact Nat.zero_add _
    | ⟨3, _⟩ => exact Nat.zero_add _
  · match a with
    | ⟨0, _⟩ => exact e0
    | ⟨1, _⟩ => exact Nat.zero_add _
    | ⟨2, _⟩ => exact Nat.zero_add _
    | ⟨3, _⟩ => exact Nat.zero_add _
    | ⟨4, _⟩ => exact Nat.zero_add _

include hk in
/-- A trip stores the state it started from as the states' row `k`, and keeps the other rows. -/
theorem trip_store (j : Fin 256) (b : Fin 2) (h : Fin 4) (d v : Fin 128) :
    val S256x2x4x128x128 (afterL bodyI V (Proc.devRef .tc main_v90_4)) (ix5 j b h d v)
      = if j = k then val S2x4x128x128 (V (Proc.devRef .tc main_v90_3)) (ix4 b h d v)
        else val S256x2x4x128x128 (V (Proc.devRef .tc main_v90_4)) (ix5 j b h d v) := by
  have kt : (BitVec.ofNat 32 k.val).toInt = k.val := toInt_ofNat_of_lt (by omega)
  simp only [val]
  rw [trip_main_v90_4]
  refine (store_state _ _ _ _ k (fun a => ?_) j b h d v).trans ?_
  · match a with
    | ⟨0, _⟩ => show BitVec.toInt (V (Proc.devRef .tc main_v90_2) _) = _; rw [hk]; exact kt
    | ⟨1, _⟩ => rfl
    | ⟨2, _⟩ => rfl
    | ⟨3, _⟩ => rfl
    | ⟨4, _⟩ => rfl
  · pointwise

end Trip

variable (m : (ℓ : Loc nD τ sig) → Buf (Elt Ideal) ℓ) (c : Dev nD)

/-- The buffers before the first operation. -/
abbrev V0 : Vals := fun r => m (c, r)

/-- The loop's counter counts the trips. -/
theorem counter (k : ℕ) : after condOps (atK m k c) (Proc.devRef .tc main_v90_2) = fun _ => BitVec.ofNat 32 k := by
  rw [after_of_writes_sub _ _ condOps_writes (by decide +kernel), atK_ctr]
  funext _
  simp [Scf.iv]

/-- After `k` trips the loop holds the state before chunk `k`, and as rows the states before the chunks so far. -/
theorem loop_state : ∀ k ≤ 256,
    (∀ (b : Fin 2) (h : Fin 4) (d v : Fin 128), val S2x4x128x128 (atK m k c (Proc.devRef .tc main_v90_3)) (ix4 b h d v)
      = state (PR (V0 m c) b) (LB (V0 m c)) k (128 * h.val + v.val) (128 * h.val + d.val))
    ∧ ∀ (j : Fin 256), j.val < k → ∀ (b : Fin 2) (h : Fin 4) (d v : Fin 128), val S256x2x4x128x128 (atK m k c (Proc.devRef .tc main_v90_4)) (ix5 j b h d v)
      = state (PR (V0 m c) b) (LB (V0 m c)) j.val (128 * h.val + v.val) (128 * h.val + d.val)
  | 0, _ => ⟨fun b h d v => (entry_read (V0 m c) b h 0 0 d v).2.2.2.2, fun j hj => absurd hj (Nat.not_lt_zero _)⟩
  | k + 1, hk => by
    obtain ⟨hs, hr⟩ := loop_state k (by omega)
    have e : atK m (k + 1) c = afterL bodyI (after condOps (atK m k c)) := rfl
    have hc := counter m c k
    have k0 : after condOps (atK m k c) (Proc.devRef .tc main_v90_0) = afterL preI (V0 m c) (Proc.devRef .tc main_v90_0) := by
      rw [after_of_writes_sub _ _ condOps_writes (by decide +kernel), Cert.RefRun.atK_keep m c main_v90_0 (by decide +kernel)]
    have k1 : after condOps (atK m k c) (Proc.devRef .tc main_v90_1) = afterL preI (V0 m c) (Proc.devRef .tc main_v90_1) := by
      rw [after_of_writes_sub _ _ condOps_writes (by decide +kernel), Cert.RefRun.atK_keep m c main_v90_1 (by decide +kernel)]
    have k3 : after condOps (atK m k c) (Proc.devRef .tc main_v90_3) = atK m k c (Proc.devRef .tc main_v90_3) := by
      rw [after_of_writes_sub _ _ condOps_writes (by decide +kernel)]
    have k4 : after condOps (atK m k c) (Proc.devRef .tc main_v90_4) = atK m k c (Proc.devRef .tc main_v90_4) := by
      rw [after_of_writes_sub _ _ condOps_writes (by decide +kernel)]
    rw [e]
    refine ⟨fun b h d v => ?_, fun j hj b h d v => ?_⟩
    · refine (trip_state _ ⟨k, hk⟩ hc b h d v).trans ?_
      obtain ⟨-, -, r0, r1, -⟩ := entry_read (V0 m c) b h ⟨k, hk⟩ 0 d v
      rw [k0, k1, k3, r0, r1, hs]
      exact congrArg (_ + ·) (Finset.sum_congr rfl fun i _ => mul_comm _ _)
    · refine (trip_store _ ⟨k, hk⟩ hc j b h d v).trans ?_
      rw [k3, k4]
      by_cases ej : j = ⟨k, hk⟩
      · rw [if_pos ej, hs, ej]
      · rw [if_neg ej, hr j (by have : j.val ≠ k := fun h => ej (Fin.ext h); omega)]

end Cert.MixRef

end
-- ==== Proof.MixRefD.lean ====
/- The reference's stretches of operations after its loop, entry by entry. -/
module

public import proofs.«01_k».proof.Proof.MixRefA
public import proofs.«01_k».proof.Proof.MixValue

@[expose] public section

set_option maxRecDepth 16384

noncomputable section

namespace Cert.MixRef

open Idealize.ShloMosaic Idealize.ShloMosaic.StableHlo Idealize.SL.Sem Cert.ReferenceIdeal Cert.ReferenceIdeal.Gen Cert.ReferenceIdeal.Value Cert.Mix

local notation "Vals" => Valuation τ sig (Elt Idealize.ShloMosaic.Ideal)

variable (V : Vals)

/-- A token's chunk. -/
abbrev chunk (t : Fin 8192) : Fin 256 := ⟨t.val / 32, by omega⟩
/-- A token's place in its chunk. -/
abbrev place (t : Fin 8192) : Fin 32 := ⟨t.val % 32, by omega⟩

/-- The head outputs: the attended values and what the states give. -/
theorem out_read (b : Fin 2) (t : Fin 8192) (h : Fin 4) (v : Fin 128) :
    val S2x8192x4x128 (after hostOps0_11 V (Proc.devRef .tc main_v95)) (ix4 b t h v)
      = val S2x4x256x32x128 (V (Proc.devRef .tc main_v78)) (ix5 b h (chunk t) (place t) v)
        + ∑ d : Fin 128, val S2x4x256x32x128 (V (Proc.devRef .tc main_v70)) (ix5 b h (chunk t) (place t) d)
            * val S256x2x4x128x128 (V (Proc.devRef .tc main_v90_4)) (ix5 (chunk t) b h d v) := by
  simp only [val]
  after_results_simp
  pointwise

/-- The gates' columns, by head. -/
theorem gcol_read (b : Fin 2) (t : Fin 8192) (h : Fin 4) (d : Fin 128) :
    val S2x8192x4x128 (after hostOps0_11 V (Proc.devRef .tc main_v109)) (ix4 b t h d)
      = val S2x8192x512 (V (Proc.devRef .tc main_v33)) (ix3 b t ⟨128 * h.val + d.val, by omega⟩) := by
  have e : (⟨h.val * 128 + d.val, by omega⟩ : Fin 512) = ⟨128 * h.val + d.val, by omega⟩ := Fin.ext (by show h.val * 128 + d.val = 128 * h.val + d.val; omega)
  simp only [val]
  after_results_simp
  pointwise
  rw [e]

/-- The head outputs divided by their root mean square, scaled. -/
theorem norm_read (H : Fin 2 → Fin 8192 → Fin 4 → Fin 128 → EReal)
    (hH : ∀ b t h v, val S2x8192x4x128 (after hostOps0_11 V (Proc.devRef .tc main_v95)) (ix4 b t h v) = H b t h v)
    (b : Fin 2) (t : Fin 8192) (h : Fin 4) (d : Fin 128) :
    val S2x8192x4x128 (after hostOps0_11 V (Proc.devRef .tc main_v108)) (ix4 b t h d)
      = H b t h d * Ideal.rsqrt (Ideal.div (∑ x : Fin 128, H b t h x * H b t h x) (Ideal.ofBits .f32 0x43000000#32) + Ideal.ofBits .f32 0x358637BD#32)
        * val S4x128 (V (Proc.devRef .tc main_arg4)) (ix2 h d) := by
  simp only [val] at *
  revert hH
  after_results_simp
  generalize (shapeCast S2x8192x4x128 (transpose S2x256x32x4x128 [0, 2, 3, 1, 4] (_ : FVec Ideal S2x4x256x32x128 .f32) _) _ : FVec Ideal S2x8192x4x128 .f32) = D
  intro hH
  pointwise
  simp only [hH]

/-- The gates. -/
theorem gsilu_read (b : Fin 2) (t : Fin 8192) (h : Fin 4) (d : Fin 128) :
    val S2x8192x4x128 (after hostOps0_12 V (Proc.devRef .tc main_v110)) (ix4 b t h d)
      = val S2x8192x4x128 (V (Proc.devRef .tc main_v109)) (ix4 b t h d)
        * Ideal.logistic (val S2x8192x4x128 (V (Proc.devRef .tc main_v109)) (ix4 b t h d)) := by
  simp only [val]
  after_results_simp
  simp only [TRef.toBuf, TRef.ofBuf, cast_eq]
  pointwise [Ideal.logistic]

/-- The gated head outputs, the heads one after the other. -/
theorem y_read (b : Fin 2) (t : Fin 8192) (h : Fin 4) (d : Fin 128) :
    val S2x8192x512 (after hostOps0_13 V (Proc.devRef .tc main_v112)) (ix3 b t ⟨128 * h.val + d.val, by omega⟩)
      = val S2x8192x4x128 (V (Proc.devRef .tc main_v108)) (ix4 b t h d) * val S2x8192x4x128 (V (Proc.devRef .tc main_v110)) (ix4 b t h d) := by
  simp only [val]
  after_results_simp
  pointwise

/-- The convolution's inputs after two rows of zeros. -/
theorem z_read (b : Fin 2) (t : Fin 8194) (k : Fin 512) :
    val S2x8194x512 (after hostOps0_14 (after hostOps0_13 V) (Proc.devRef .tc main_v114)) (ix3 b t k)
      = if h : 2 ≤ t.val then val S2x8192x512 (V (Proc.devRef .tc main_v35)) (ix3 b ⟨t.val - 2, by omega⟩ k)
          * val S2x8192x512 (V (Proc.devRef .tc main_v36)) (ix3 b ⟨t.val - 2, by omega⟩ k) else 0 := by
  simp only [val]
  after_results_simp
  simp only [TRef.toBuf, TRef.ofBuf, cast_eq]
  pointwise
  have e : (FloatOps.sitofp FTy.f32 (0#32) : Ideal .f32) = 0 := by simp [FloatOps.sitofp]
  by_cases h : 2 ≤ t.val
  · rw [dif_pos (⟨h, by omega⟩ : 2 ≤ t.val ∧ t.val - 2 < 8192), dif_pos h]
  · rw [dif_neg (fun q => h q.1), dif_neg h, e]

/-- The result: the input, and the gated heads and the gated convolution times the output weights. -/
theorem result_read (b : Fin 2) (t : Fin 8192) (n : Fin 1024) :
    val S2x8192x1024 (after hostOps0_15 V (Proc.devRef .tc main_v143)) (ix3 b t n)
      = val S2x8192x1024 (V (Proc.devRef .tc main_arg0)) (ix3 b t n) + ∑ j : Fin 1024,
          (if h : j.val < 512 then val S2x8192x512 (V (Proc.devRef .tc main_v112)) (ix3 b t ⟨j.val, h⟩)
            else val S2x8192x512 (V (Proc.devRef .tc main_v34)) (ix3 b t ⟨j.val - 512, by omega⟩)
              * (val S512 (V (Proc.devRef .tc main_arg6)) (ix1 ⟨j.val - 512, by omega⟩)
                + (0 + val S3x512 (V (Proc.devRef .tc main_arg5)) (ix2 0 ⟨j.val - 512, by omega⟩)
                    * val S2x8194x512 (V (Proc.devRef .tc main_v114)) (ix3 b ⟨t.val, by omega⟩ ⟨j.val - 512, by omega⟩)
                  + val S3x512 (V (Proc.devRef .tc main_arg5)) (ix2 1 ⟨j.val - 512, by omega⟩)
                    * val S2x8194x512 (V (Proc.devRef .tc main_v114)) (ix3 b ⟨1 + t.val, by omega⟩ ⟨j.val - 512, by omega⟩)
                  + val S3x512 (V (Proc.devRef .tc main_arg5)) (ix2 2 ⟨j.val - 512, by omega⟩)
                    * val S2x8194x512 (V (Proc.devRef .tc main_v114)) (ix3 b ⟨2 + t.val, by omega⟩ ⟨j.val - 512, by omega⟩))))
          * val S1024x1024 (V (Proc.devRef .tc main_v26)) (ix2 j n) := by
  simp only [val]
  after_results_simp
  pointwise
  after_results_simp
  pointwise

end Cert.MixRef

end
-- ==== Proof.MixRefE.lean ====
/- The reference's result as a function of its arguments. -/
module

public import proofs.«01_k».proof.Proof.MixRefC
public import proofs.«01_k».proof.Proof.MixRefD

@[expose] public section

set_option maxRecDepth 16384

noncomputable section

namespace Cert.MixRef

open Idealize.ShloMosaic Idealize.ShloMosaic.StableHlo Idealize.SL.Sem Cert.ReferenceIdeal Cert.ReferenceIdeal.Gen Cert.ReferenceIdeal.Value Cert.Mix

local notation "Vals" => Valuation τ sig (Elt Idealize.ShloMosaic.Ideal)

/-- The buffers the operations after the loop read and do not write. -/
abbrev kept : List (Ref sig .tc) := [main_arg0, main_arg5, main_arg6, main_v26, main_v34, main_v35, main_v36]

section Keep

variable (V : Vals) (r : Ref sig .tc) (h : r ∈ kept)

include h

/-- The first stretch after the loop keeps them. -/
theorem keep11 : after hostOps0_11 V (Proc.devRef .tc r) = V (Proc.devRef .tc r) := by
  fin_cases h <;> after_results_simp
/-- So does the second. -/
theorem keep12 : after hostOps0_12 V (Proc.devRef .tc r) = V (Proc.devRef .tc r) := by
  fin_cases h <;> after_results_simp
/-- So does the third. -/
theorem keep13 : after hostOps0_13 V (Proc.devRef .tc r) = V (Proc.devRef .tc r) := by
  fin_cases h <;> after_results_simp
/-- So does the fourth. -/
theorem keep14 : after hostOps0_14 V (Proc.devRef .tc r) = V (Proc.devRef .tc r) := by
  fin_cases h <;> after_results_simp

end Keep

variable (m : (ℓ : Loc nD τ sig) → Buf (Elt Ideal) ℓ) (c : Dev nD)

/-- The buffers after the first stretch after the loop. -/
abbrev Y11 : Vals := after hostOps0_11 (Cert.RefRun.left m c)
/-- The buffers after the second. -/
abbrev Y12 : Vals := after hostOps0_12 (Y11 m c)
/-- The buffers after the third. -/
abbrev Y13 : Vals := after hostOps0_13 (Y12 m c)
/-- The buffers after the fourth. -/
abbrev Y14 : Vals := after hostOps0_14 (Y13 m c)

/-- The fourth stretch's buffers that only the operations before the loop wrote. -/
theorem kept14 (r : Ref sig .tc) (h : r ∈ kept) : Y14 m c (Proc.devRef .tc r) = afterL preI (V0 m c) (Proc.devRef .tc r) := by
  rw [Y14, keep14 _ r h, Y13, keep13 _ r h, Y12, keep12 _ r h, Y11, keep11 _ r h]
  refine Cert.RefRun.left_keep m c r ?_
  revert h; revert r; decide +kernel

/-- The same after the second stretch. -/
theorem kept12 (r : Ref sig .tc) (h : r ∈ kept) : Y12 m c (Proc.devRef .tc r) = afterL preI (V0 m c) (Proc.devRef .tc r) := by
  rw [Y12, keep12 _ r h, Y11, keep11 _ r h]
  refine Cert.RefRun.left_keep m c r ?_
  revert h; revert r; decide +kernel

/-- The states the loop leaves, chunk by chunk. -/
theorem left_state (j : Fin 256) (b : Fin 2) (h : Fin 4) (d v : Fin 128) :
    val S256x2x4x128x128 (Cert.RefRun.left m c (Proc.devRef .tc main_v90_4)) (ix5 j b h d v)
      = state (PR (V0 m c) b) (LB (V0 m c)) j.val (128 * h.val + v.val) (128 * h.val + d.val) := by
  rw [Cert.RefRun.left, after_of_writes_sub _ _ condOps_writes (by decide +kernel)]
  exact (loop_state m c 256 le_rfl).2 j j.isLt b h d v

/-- The head outputs. -/
theorem head_out (b : Fin 2) (t : Fin 8192) (h : Fin 4) (v : Fin 128) :
    val S2x8192x4x128 (Y11 m c (Proc.devRef .tc main_v95)) (ix4 b t h v)
      = headOut (PR (V0 m c) b) (LB (V0 m c)) (128 * h.val) t.val v.val := by
  have et : (tok (chunk t) (place t)).val = t.val := by show 32 * (t.val / 32) + t.val % 32 = t.val; omega
  refine (out_read _ b t h v).trans ?_
  unfold headOut
  refine congrArg₂ (· + ·) ?_ (Finset.sum_congr rfl fun d _ => ?_)
  · rw [Cert.RefRun.left_keep m c main_v78 (by decide +kernel)]
    refine (entry_read (V0 m c) b h (chunk t) (place t) 0 v).1.trans (Finset.sum_congr rfl fun j _ => ?_)
    rw [et]
    exact mul_comm _ _
  · rw [Cert.RefRun.left_keep m c main_v70 (by decide +kernel), left_state]
    refine (congrArg (· * _) ((entry_read (V0 m c) b h (chunk t) (place t) d 0).2.1)).trans ?_
    rw [et]
    exact mul_comm _ _

/-- The gated head outputs. -/
theorem head_y (b : Fin 2) (t : Fin 8192) (h : Fin 4) (d : Fin 128) :
    val S2x8192x512 (Y13 m c (Proc.devRef .tc main_v112)) (ix3 b t ⟨128 * h.val + d.val, by omega⟩)
      = headY (PR (V0 m c) b) (LB (V0 m c)) (Cert.MixTile.gainAt (V0 m c (Proc.devRef .tc main_arg4))) (128 * h.val) t.val d.val := by
  have k108 : Y12 m c (Proc.devRef .tc main_v108) = Y11 m c (Proc.devRef .tc main_v108) := by
    rw [Y12]; generalize Y11 m c = V; after_results_simp
  have hg : Cert.MixTile.gainAt (V0 m c (Proc.devRef .tc main_arg4)) (128 * h.val + d.val)
      = val S4x128 (V0 m c (Proc.devRef .tc main_arg4)) (ix2 h d) := by
    unfold Cert.MixTile.gainAt
    rw [dif_pos (show 128 * h.val + d.val < 512 by omega)]
    refine congrArg (V0 m c (Proc.devRef .tc main_arg4) : S4x128.Idx → EReal) (congrArg₂ ix2 (Fin.ext ?_) (Fin.ext ?_))
    · show (128 * h.val + d.val) / 128 = h.val; omega
    · show (128 * h.val + d.val) % 128 = d.val; omega
  refine (y_read _ b t h d).trans ?_
  rw [k108, gsilu_read, gcol_read, Cert.RefRun.left_keep m c main_v33 (by decide +kernel), (entry_cut (V0 m c) b t _).1,
    norm_read (Cert.RefRun.left m c) (fun b t h v => headOut (PR (V0 m c) b) (LB (V0 m c)) (128 * h.val) t.val v.val) (head_out m c) b t h d,
    Cert.RefRun.left_keep m c main_arg4 (by decide +kernel)]
  rw [show entryContents preI m c (Proc.devRef .tc main_arg4) = _ from Cert.RefRun.pre_keep (V0 m c) main_arg4 (by decide), ← hg]
  rfl

/-- The convolution's inputs after two rows of zeros: `n` rows before token `t` lies the input `n` tokens back. -/
theorem conv_back (b : Fin 2) (t : Fin 8192) (n q : ℕ) (hn : n + q = 2) (k : Fin 512) :
    val S2x8194x512 (Y14 m c (Proc.devRef .tc main_v114)) (ix3 b ⟨q + t.val, by omega⟩ k) = convBack (PR (V0 m c) b) n t.val k.val := by
  refine (z_read _ b _ k).trans ?_
  unfold convBack convIn
  by_cases h : n ≤ t.val
  · rw [dif_pos (show 2 ≤ q + t.val by omega), if_pos h, kept12 m c main_v35 (by decide), kept12 m c main_v36 (by decide),
      (entry_cut (V0 m c) b _ k).2.2.1, (entry_cut (V0 m c) b _ k).2.2.2]
    have e : q + t.val - 2 = t.val - n := by omega
    simp only [e]
  · rw [dif_neg (show ¬ 2 ≤ q + t.val by omega), if_neg h]

/-- The reference's result after the run. -/
theorem reference_array : finalContents condOps preI bodyI postI 256 m c (Proc.devRef .tc main_v143)
    = Cert.MixTile.result (V0 m c (Proc.devRef .tc main_arg0)) (V0 m c (Proc.devRef .tc main_arg1)) (V0 m c (Proc.devRef .tc main_arg2))
        (V0 m c (Proc.devRef .tc main_arg3)) (V0 m c (Proc.devRef .tc main_arg4)) (V0 m c (Proc.devRef .tc main_arg5))
        (V0 m c (Proc.devRef .tc main_arg6)) (V0 m c (Proc.devRef .tc main_arg7)) := by
  have e : finalContents condOps preI bodyI postI 256 m c = after hostOps0_15 (Y14 m c) := by
    show afterL postI (Cert.RefRun.left m c) = _
    simp only [postI, afterL_cons, afterL_nil]
  have k112 : Y14 m c (Proc.devRef .tc main_v112) = Y13 m c (Proc.devRef .tc main_v112) := by
    rw [Y14]; generalize Y13 m c = V; after_results_simp
  have ka : ∀ r ∈ Cert.RefRun.args, r ∈ kept → Y14 m c (Proc.devRef .tc r) = V0 m c (Proc.devRef .tc r) := fun r h h' =>
    (kept14 m c r h').trans (Cert.RefRun.pre_keep (V0 m c) r h)
  rw [e]
  funext i
  obtain ⟨b, t, n, rfl⟩ : ∃ (b : Fin 2) (t : Fin 8192) (n : Fin 1024), i = ix3 b t n :=
    ⟨i 0, i 1, i 2, funext fun a => by match a with | ⟨0, _⟩ => rfl | ⟨1, _⟩ => rfl | ⟨2, _⟩ => rfl⟩
  refine (result_read (Y14 m c) b t n).trans ?_
  rw [ka main_arg0 (by decide) (by decide), ka main_arg5 (by decide) (by decide), ka main_arg6 (by decide) (by decide), k112,
    kept14 m c main_v34 (by decide), kept14 m c main_v26 (by decide)]
  unfold Cert.MixTile.result
  refine congrArg (_ + ·) (Finset.sum_congr rfl fun j _ => congrArg₂ (· * ·) ?_ (entry_wout (V0 m c) j n))
  unfold Cert.MixTile.mixed
  by_cases hj : j.val < 512
  · rw [dif_pos hj, if_pos hj]
    have e1 : (⟨j.val, hj⟩ : Fin 512) = ⟨128 * (⟨j.val / 128, by omega⟩ : Fin 4).val + (⟨j.val % 128, by omega⟩ : Fin 128).val, by
        show 128 * (j.val / 128) + j.val % 128 < 512; omega⟩ := Fin.ext (by show j.val = 128 * (j.val / 128) + j.val % 128; omega)
    rw [e1]
    exact head_y m c b t _ _
  · rw [dif_neg hj, if_neg hj]
    unfold convY
    have c2 := conv_back m c b t 2 0 rfl ⟨j.val - 512, by omega⟩
    have c1 := conv_back m c b t 1 1 rfl ⟨j.val - 512, by omega⟩
    have c0 := conv_back m c b t 0 2 rfl ⟨j.val - 512, by omega⟩
    have c0' : convBack (PR (V0 m c) b) 0 t.val (j.val - 512) = convIn (PR (V0 m c) b) t.val (j.val - 512) := if_pos (Nat.zero_le _)
    have z : (⟨0 + t.val, by omega⟩ : Fin 8194) = ⟨t.val, by omega⟩ := Fin.ext (Nat.zero_add _)
    have w : ∀ p : Fin 3, Cert.MixTile.rowsOf (V0 m c (Proc.devRef .tc main_arg5)) p.val (j.val - 512)
        = val S3x512 (V0 m c (Proc.devRef .tc main_arg5)) (ix2 p ⟨j.val - 512, by omega⟩) := by
      intro p
      unfold Cert.MixTile.rowsOf
      rw [dif_pos ⟨p.isLt, (by omega : j.val - 512 < 512)⟩]
    have wb : Cert.MixTile.biasAt (V0 m c (Proc.devRef .tc main_arg6)) (j.val - 512)
        = val S512 (V0 m c (Proc.devRef .tc main_arg6)) (ix1 ⟨j.val - 512, by omega⟩) := by
      unfold Cert.MixTile.biasAt
      rw [dif_pos (by omega : j.val - 512 < 512)]
    rw [z] at c2
    rw [(entry_cut (V0 m c) b t _).2.1, c2, c1, c0.trans c0', zero_add]
    have w0 := w 0
    have w1 := w 1
    have w2 := w 2
    rw [← w0, ← w1, ← w2, ← wb]
    refine congrArg (_ * ·) ?_
    rw [← add_assoc, ← add_assoc]
    rfl

end Cert.MixRef

end
-- ==== Proof.lean ====
module

public import proofs.«01_k».proof.Proof.Gen.ReferenceFfnIdeal.Read
public import proofs.«01_k».proof.Proof.Gen.ReferenceFfnIdeal.Run
public import proofs.«01_k».proof.Proof.Gen.ReferenceIdeal.Run
public import proofs.«01_k».proof.Proof.Gen.KernelFfnIdeal.Value
public import proofs.«01_k».proof.Proof.Gen.KernelIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.KernelFfnA
public import proofs.«01_k».proof.Proof.Gen.KernelFfnA.Skeleton
public import proofs.«01_k».proof.Proof.Gen.KernelFfnA.Launch
public import proofs.«01_k».proof.Proof.Gen.KernelFfnA.Points
public import proofs.«01_k».proof.Proof.Gen.KernelFfnA.Frame
public import proofs.«01_k».proof.Proof.Gen.KernelFfnAIdeal
public import proofs.«01_k».proof.Proof.Gen.KernelFfnAIdeal.Skeleton
public import proofs.«01_k».proof.Proof.Gen.KernelFfnAIdeal.Launch
public import proofs.«01_k».proof.Proof.Gen.KernelFfnAIdeal.Points
public import proofs.«01_k».proof.Proof.Gen.KernelFfnAIdeal.Frame
public import proofs.«01_k».proof.Proof.Gen.KernelFfnAIdeal.Value
public import proofs.«01_k».proof.Proof.Gen.ReferenceFfnAIdeal
public import proofs.«01_k».proof.Proof.Gen.ReferenceFfnAIdeal.Run
public import proofs.«01_k».proof.Proof.Gen.ReferenceFfnAIdeal.Read
public import proofs.«01_k».proof.Proof.Gen.KernelFfnB
public import proofs.«01_k».proof.Proof.Gen.KernelFfnB.Skeleton
public import proofs.«01_k».proof.Proof.Gen.KernelFfnB.Launch
public import proofs.«01_k».proof.Proof.Gen.KernelFfnB.Points
public import proofs.«01_k».proof.Proof.Gen.KernelFfnB.Frame
public import proofs.«01_k».proof.Proof.Gen.KernelFfnBIdeal
public import proofs.«01_k».proof.Proof.Gen.KernelFfnBIdeal.Skeleton
public import proofs.«01_k».proof.Proof.Gen.KernelFfnBIdeal.Launch
public import proofs.«01_k».proof.Proof.Gen.KernelFfnBIdeal.Points
public import proofs.«01_k».proof.Proof.Gen.KernelFfnBIdeal.Frame
public import proofs.«01_k».proof.Proof.Gen.KernelFfnBIdeal.Value
public import proofs.«01_k».proof.Proof.Gen.ReferenceFfnBIdeal
public import proofs.«01_k».proof.Proof.Gen.ReferenceFfnBIdeal.Run
public import proofs.«01_k».proof.Proof.Gen.ReferenceFfnBIdeal.Read
public import proofs.«01_k».proof.Proof.Gen.KernelFfnC
public import proofs.«01_k».proof.Proof.Gen.KernelFfnC.Skeleton
public import proofs.«01_k».proof.Proof.Gen.KernelFfnC.Launch
public import proofs.«01_k».proof.Proof.Gen.KernelFfnC.Points
public import proofs.«01_k».proof.Proof.Gen.KernelFfnC.Frame
public import proofs.«01_k».proof.Proof.Gen.KernelFfnCIdeal
public import proofs.«01_k».proof.Proof.Gen.KernelFfnCIdeal.Skeleton
public import proofs.«01_k».proof.Proof.Gen.KernelFfnCIdeal.Launch
public import proofs.«01_k».proof.Proof.Gen.KernelFfnCIdeal.Points
public import proofs.«01_k».proof.Proof.Gen.KernelFfnCIdeal.Frame
public import proofs.«01_k».proof.Proof.Gen.KernelFfnCIdeal.Value
public import proofs.«01_k».proof.Proof.Gen.ReferenceFfnCIdeal
public import proofs.«01_k».proof.Proof.Gen.ReferenceFfnCIdeal.Run
public import proofs.«01_k».proof.Proof.Gen.ReferenceFfnCIdeal.Read
public import Idealize.ShloMosaic.Adequacy
public import Idealize.ShloMosaic.Init
public import proofs.«01_k».proof.Proof.RefRun
public import proofs.«01_k».proof.Proof.FfnValue
public import proofs.«01_k».proof.Proof.FfnHalfA
public import proofs.«01_k».proof.Proof.FfnHalfB
public import proofs.«01_k».proof.Proof.FfnHalfC
public import proofs.«01_k».proof.Proof.MixValue
public import proofs.«01_k».proof.Proof.MixRefE

@[expose] public section

noncomputable section

namespace Cert.Proof

open Idealize.ShloMosaic Idealize.SL.Sem

/-! ## The recurrent layer -/

/-- The recurrent kernel runs, leaves its arguments as they were and its semaphore counters at zero. -/
theorem frame_k : Cert.quiescent_Kernel := fun m ρ _ => Cert.Kernel.Gen.frame m ρ

/-- The same over the extended reals. -/
theorem frame_ki : Cert.quiescent_KernelIdeal := fun m ρ _ => Cert.KernelIdeal.Gen.frame m ρ

/-- The recurrent layer's reference runs and leaves its arguments as they were. -/
theorem frame_ri : Cert.quiescent_ReferenceIdeal := fun m ρ _ =>
  (θ_run Cert.ReferenceIdeal.defs _ _).mono (fun r h => ⟨fun c =>
      ⟨(h c _ rfl).trans (Cert.RefRun.final_keep m c _ (by decide)),
        (h c _ rfl).trans (Cert.RefRun.final_keep m c _ (by decide)),
        (h c _ rfl).trans (Cert.RefRun.final_keep m c _ (by decide)),
        (h c _ rfl).trans (Cert.RefRun.final_keep m c _ (by decide)),
        (h c _ rfl).trans (Cert.RefRun.final_keep m c _ (by decide)),
        (h c _ rfl).trans (Cert.RefRun.final_keep m c _ (by decide)),
        (h c _ rfl).trans (Cert.RefRun.final_keep m c _ (by decide)),
        (h c _ rfl).trans (Cert.RefRun.final_keep m c _ (by decide))⟩,
      Idealize.ShloMosaic.sem_eq_zero_of_no_sems (by decide) r.2⟩)
    (Cert.ReferenceIdeal.Value.run_fold (F := Ideal) m ρ)

/-- Over the extended reals the recurrent kernel and its reference end with equal results. -/
theorem algebraic_k : Cert.algebraic_KernelIdeal_ReferenceIdeal := by
  intro m g m' g' _ hagree
  refine ⟨fun c => (Cert.KernelIdeal.Gen.dats m 0 c).arrAt 9 Cert.KernelIdeal.cfg0.N,
    Cert.KernelIdeal.Value.run_blocks (F := Ideal) m g, ?_⟩
  refine (θ_run Cert.ReferenceIdeal.defs _ _).mono (fun _ h c => ⟨(h c _ rfl).trans ?_,
      (h c _ rfl).trans (Cert.RefRun.final_keep m' c _ (by decide)),
      (h c _ rfl).trans (Cert.RefRun.final_keep m' c _ (by decide)),
      (h c _ rfl).trans (Cert.RefRun.final_keep m' c _ (by decide)),
      (h c _ rfl).trans (Cert.RefRun.final_keep m' c _ (by decide)),
      (h c _ rfl).trans (Cert.RefRun.final_keep m' c _ (by decide)),
      (h c _ rfl).trans (Cert.RefRun.final_keep m' c _ (by decide)),
      (h c _ rfl).trans (Cert.RefRun.final_keep m' c _ (by decide)),
      (h c _ rfl).trans (Cert.RefRun.final_keep m' c _ (by decide))⟩)
    (Cert.ReferenceIdeal.Value.run_fold (F := Ideal) m' g')
  obtain ⟨h0, h1, h2, h3, h4, h5, h6, h7⟩ := hagree c
  refine (Cert.MixRef.reference_array m' c).trans (Eq.trans ?_ (Cert.MixTile.kernel_array m c).symm)
  exact (congr (congr (congr (congr (congr (congr (congr (congrArg Cert.MixTile.result h0) h1) h2) h3) h4) h5) h6) h7)

/-! ## The feed-forward layer -/

/-- The feed-forward kernel runs, leaves its arguments as they were and its semaphore counters at zero. -/
theorem frame_fk : Cert.quiescent_KernelFfn := fun m ρ _ => Cert.KernelFfn.Gen.frame m ρ

/-- The same over the extended reals. -/
theorem frame_fki : Cert.quiescent_KernelFfnIdeal := fun m ρ _ => Cert.KernelFfnIdeal.Gen.frame m ρ

/-- The feed-forward layer's reference runs and leaves its arguments as they were. -/
theorem frame_fri : Cert.quiescent_ReferenceFfnIdeal := fun m ρ _ =>
  (θ_run Cert.ReferenceFfnIdeal.defs _ _).mono (fun r h => ⟨fun c => (h c).2,
      Idealize.ShloMosaic.sem_eq_zero_of_no_sems (by decide) r.2⟩)
    (Cert.ReferenceFfnIdeal.Value.run (F := Ideal) m ρ)

/-- Over the extended reals the feed-forward kernel and its reference end with equal results. -/
theorem algebraic_f : Cert.algebraic_KernelFfnIdeal_ReferenceFfnIdeal := by
  intro m g m' g' _ hagree
  refine ⟨fun c => (Cert.KernelFfnIdeal.Gen.dats m 0 c).arrAt 6 Cert.KernelFfnIdeal.cfg0.N,
    Cert.KernelFfnIdeal.Value.run_blocks (F := Ideal) m g, ?_⟩
  refine (θ_run Cert.ReferenceFfnIdeal.defs _ _).mono (fun _ h c => ⟨(h c).1.trans ?_, (h c).2⟩)
    (Cert.ReferenceFfnIdeal.Value.run (F := Ideal) m' g')
  obtain ⟨h0, h1, h2, h3, h4⟩ := hagree c
  rw [Cert.FfnValue.reference_array, h0, h1, h2, h3, h4]
  exact (Cert.FfnValue.kernel_array m c).symm

/-! ## The first feed-forward layer -/

/-- The first feed-forward kernel runs, leaves its arguments as they were and its semaphore counters at zero. -/
theorem frame_ak : Cert.quiescent_KernelFfnA := fun m ρ _ => Cert.KernelFfnA.Gen.frame m ρ

/-- The same over the extended reals. -/
theorem frame_aki : Cert.quiescent_KernelFfnAIdeal := fun m ρ _ => Cert.KernelFfnAIdeal.Gen.frame m ρ

/-- The first feed-forward layer's reference runs and leaves its arguments as they were. -/
theorem frame_ari : Cert.quiescent_ReferenceFfnAIdeal := fun m ρ _ =>
  (θ_run Cert.ReferenceFfnAIdeal.defs _ _).mono (fun r h => ⟨fun c => (h c).2.2.2.2.2,
      Idealize.ShloMosaic.sem_eq_zero_of_no_sems (by decide) r.2⟩)
    (Cert.ReferenceFfnAIdeal.Value.run (F := Ideal) m ρ)

/-- Over the extended reals the first feed-forward kernel and its reference end with equal results. -/
theorem algebraic_a : Cert.algebraic_KernelFfnAIdeal_ReferenceFfnAIdeal := by
  intro m g m' g' _ hagree
  refine ⟨fun c => (Cert.KernelFfnAIdeal.Gen.dats m 0 c).arrAt 10 Cert.KernelFfnAIdeal.cfg0.N, fun c => (Cert.KernelFfnAIdeal.Gen.dats m 0 c).arrAt 11 Cert.KernelFfnAIdeal.cfg0.N, fun c => (Cert.KernelFfnAIdeal.Gen.dats m 0 c).arrAt 12 Cert.KernelFfnAIdeal.cfg0.N, fun c => (Cert.KernelFfnAIdeal.Gen.dats m 0 c).arrAt 13 Cert.KernelFfnAIdeal.cfg0.N, fun c => (Cert.KernelFfnAIdeal.Gen.dats m 0 c).arrAt 14 Cert.KernelFfnAIdeal.cfg0.N,
    Cert.KernelFfnAIdeal.Value.run_blocks (F := Ideal) m g, ?_⟩
  refine (θ_run Cert.ReferenceFfnAIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.ReferenceFfnAIdeal.Value.run (F := Ideal) m' g')
  all_goals obtain ⟨h0, h1, h2, h3, h4, h5, h6, h7, h8⟩ := hagree c
  · refine (Cert.ReferenceFfnAIdeal.Read.val_main_v23_eq (F := Ideal) _ _ _ _).trans ((Cert.FfnA.reference_half _ _ _ _).trans ?_)
    rw [h0, h1, h2, h3]
    exact (Cert.FfnA.kernel_half m c).symm
  · refine (Cert.ReferenceFfnAIdeal.Read.val_main_v26_eq (F := Ideal) _).trans ((Cert.FfnA.reference_a _).trans ?_)
    rw [h5]
    exact (Cert.FfnA.kernel_a m c).symm
  · refine (Cert.ReferenceFfnAIdeal.Read.val_main_v29_eq (F := Ideal) _).trans ((Cert.FfnA.reference_b _).trans ?_)
    rw [h6]
    exact (Cert.FfnA.kernel_b m c).symm
  · refine (Cert.ReferenceFfnAIdeal.Read.val_main_v31_eq (F := Ideal) _).trans ((Cert.FfnA.reference_c _).trans ?_)
    rw [h7]
    exact (Cert.FfnA.kernel_c m c).symm
  · refine (Cert.ReferenceFfnAIdeal.Read.val_main_v33_eq (F := Ideal) _).trans ((Cert.FfnA.reference_d _).trans ?_)
    rw [h8]
    exact (Cert.FfnA.kernel_d m c).symm

/-! ## The second feed-forward layer -/

/-- The second feed-forward kernel runs, leaves its arguments as they were and its semaphore counters at zero. -/
theorem frame_bk : Cert.quiescent_KernelFfnB := fun m ρ _ => Cert.KernelFfnB.Gen.frame m ρ

/-- The same over the extended reals. -/
theorem frame_bki : Cert.quiescent_KernelFfnBIdeal := fun m ρ _ => Cert.KernelFfnBIdeal.Gen.frame m ρ

/-- The second feed-forward layer's reference runs and leaves its arguments as they were. -/
theorem frame_bri : Cert.quiescent_ReferenceFfnBIdeal := fun m ρ _ =>
  (θ_run Cert.ReferenceFfnBIdeal.defs _ _).mono (fun r h => ⟨fun c => (h c).2.2.2,
      Idealize.ShloMosaic.sem_eq_zero_of_no_sems (by decide) r.2⟩)
    (Cert.ReferenceFfnBIdeal.Value.run (F := Ideal) m ρ)

/-- Over the extended reals the second feed-forward kernel and its reference end with equal results. -/
theorem algebraic_b : Cert.algebraic_KernelFfnBIdeal_ReferenceFfnBIdeal := by
  intro m g m' g' _ hagree
  refine ⟨fun c => (Cert.KernelFfnBIdeal.Gen.dats m 0 c).arrAt 8 Cert.KernelFfnBIdeal.cfg0.N, fun c => (Cert.KernelFfnBIdeal.Gen.dats m 0 c).arrAt 9 Cert.KernelFfnBIdeal.cfg0.N, fun c => (Cert.KernelFfnBIdeal.Gen.dats m 0 c).arrAt 10 Cert.KernelFfnBIdeal.cfg0.N,
    Cert.KernelFfnBIdeal.Value.run_blocks (F := Ideal) m g, ?_⟩
  refine (θ_run Cert.ReferenceFfnBIdeal.defs _ _).mono (fun _ h c => ⟨(h c).1.trans ?_, (h c).2.1.trans ?_, (h c).2.2.1.trans ?_, (h c).2.2.2⟩)
    (Cert.ReferenceFfnBIdeal.Value.run (F := Ideal) m' g')
  all_goals obtain ⟨h0, h1, h2, h3, h4, h5, h6⟩ := hagree c
  · refine (Cert.ReferenceFfnBIdeal.Read.val_main_v23_eq (F := Ideal) _ _ _ _).trans ((Cert.FfnB.reference_half _ _ _ _).trans ?_)
    rw [h0, h1, h2, h3]
    exact (Cert.FfnB.kernel_half m c).symm
  · refine (Cert.ReferenceFfnBIdeal.Read.val_main_v26_eq (F := Ideal) _).trans ((Cert.FfnB.reference_a _).trans ?_)
    rw [h5]
    exact (Cert.FfnB.kernel_a m c).symm
  · refine (Cert.ReferenceFfnBIdeal.Read.val_main_v29_eq (F := Ideal) _).trans ((Cert.FfnB.reference_b _).trans ?_)
    rw [h6]
    exact (Cert.FfnB.kernel_b m c).symm

/-! ## The third feed-forward layer -/

/-- The third feed-forward kernel runs, leaves its arguments as they were and its semaphore counters at zero. -/
theorem frame_ck : Cert.quiescent_KernelFfnC := fun m ρ _ => Cert.KernelFfnC.Gen.frame m ρ

/-- The same over the extended reals. -/
theorem frame_cki : Cert.quiescent_KernelFfnCIdeal := fun m ρ _ => Cert.KernelFfnCIdeal.Gen.frame m ρ

/-- The third feed-forward layer's reference runs and leaves its arguments as they were. -/
theorem frame_cri : Cert.quiescent_ReferenceFfnCIdeal := fun m ρ _ =>
  (θ_run Cert.ReferenceFfnCIdeal.defs _ _).mono (fun r h => ⟨fun c => (h c).2.2.2.2.2.2.2,
      Idealize.ShloMosaic.sem_eq_zero_of_no_sems (by decide) r.2⟩)
    (Cert.ReferenceFfnCIdeal.Value.run (F := Ideal) m ρ)

/-- Over the extended reals the third feed-forward kernel and its reference end with equal results. -/
theorem algebraic_c : Cert.algebraic_KernelFfnCIdeal_ReferenceFfnCIdeal := by
  intro m g m' g' _ hagree
  refine ⟨fun c => (Cert.KernelFfnCIdeal.Gen.dats m 0 c).arrAt 10 Cert.KernelFfnCIdeal.cfg0.N, fun c => (Cert.KernelFfnCIdeal.Gen.dats m 0 c).arrAt 11 Cert.KernelFfnCIdeal.cfg0.N, fun c => (Cert.KernelFfnCIdeal.Gen.dats m 0 c).arrAt 12 Cert.KernelFfnCIdeal.cfg0.N, fun c => (Cert.KernelFfnCIdeal.Gen.dats m 0 c).arrAt 13 Cert.KernelFfnCIdeal.cfg0.N, fun c => (Cert.KernelFfnCIdeal.Gen.dats m 0 c).arrAt 14 Cert.KernelFfnCIdeal.cfg0.N, fun c => (Cert.KernelFfnCIdeal.Gen.dats m 0 c).arrAt 15 Cert.KernelFfnCIdeal.cfg0.N, fun c => (Cert.KernelFfnCIdeal.Gen.dats m 0 c).arrAt 16 Cert.KernelFfnCIdeal.cfg0.N,
    Cert.KernelFfnCIdeal.Value.run_blocks (F := Ideal) m g, ?_⟩
  refine (θ_run Cert.ReferenceFfnCIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Cert.ReferenceFfnCIdeal.Value.run (F := Ideal) m' g')
  all_goals obtain ⟨h0, h1, h2, h3, h4, h5, h6, h7, h8⟩ := hagree c
  · refine (Cert.ReferenceFfnCIdeal.Read.val_main_v33_eq (F := Ideal) _ _ _ _).trans ((Cert.FfnC.reference_half _ _ _ _).trans ?_)
    rw [h0, h1, h2, h3]
    exact (Cert.FfnC.kernel_half m c).symm
  · refine (Cert.ReferenceFfnCIdeal.Read.val_main_v36_eq (F := Ideal) _).trans ((Cert.FfnC.reference_a _).trans ?_)
    rw [h5]
    exact (Cert.FfnC.kernel_a m c).symm
  · refine (Cert.ReferenceFfnCIdeal.Read.val_main_v39_eq (F := Ideal) _).trans ((Cert.FfnC.reference_b _).trans ?_)
    rw [h6]
    exact (Cert.FfnC.kernel_b m c).symm
  · refine (Cert.ReferenceFfnCIdeal.Read.val_main_v2_eq (F := Ideal) _).trans ((Cert.FfnC.reference_c _).trans ?_)
    rw [h7]
    exact (Cert.FfnC.kernel_c m c).symm
  · refine (Cert.ReferenceFfnCIdeal.Read.val_main_v4_eq (F := Ideal) _).trans ((Cert.FfnC.reference_d _).trans ?_)
    rw [h7]
    exact (Cert.FfnC.kernel_d m c).symm
  · refine (Cert.ReferenceFfnCIdeal.Read.val_main_v9_eq (F := Ideal) _).trans ((Cert.FfnC.reference_e _).trans ?_)
    rw [h7]
    exact (Cert.FfnC.kernel_e m c).symm
  · refine (Cert.ReferenceFfnCIdeal.Read.val_main_v41_eq (F := Ideal) _).trans ((Cert.FfnC.reference_f _).trans ?_)
    rw [h8]
    exact (Cert.FfnC.kernel_f m c).symm

/-- Everything that is claimed. -/
theorem claim : Cert.Claim := ⟨Cert.Kernel.Gen.facts, Cert.KernelIdeal.Gen.facts, Cert.ReferenceIdeal.Gen.facts,
  Cert.KernelFfn.Gen.facts, Cert.KernelFfnIdeal.Gen.facts, Cert.ReferenceFfnIdeal.Gen.facts,
  Cert.KernelFfnA.Gen.facts, Cert.KernelFfnAIdeal.Gen.facts, Cert.ReferenceFfnAIdeal.Gen.facts,
  Cert.KernelFfnB.Gen.facts, Cert.KernelFfnBIdeal.Gen.facts, Cert.ReferenceFfnBIdeal.Gen.facts,
  Cert.KernelFfnC.Gen.facts, Cert.KernelFfnCIdeal.Gen.facts, Cert.ReferenceFfnCIdeal.Gen.facts,
  frame_k, frame_ki, frame_ri, frame_fk, frame_fki, frame_fri, frame_ak, frame_aki, frame_ari, frame_bk, frame_bki, frame_bri,
  frame_ck, frame_cki, frame_cri, trivial, algebraic_k, trivial, algebraic_f, trivial, algebraic_a, trivial, algebraic_b,
  trivial, algebraic_c⟩

end Cert.Proof

end
